-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpReferenceIdeal (m : (ℓ : Loc Cert.UpReferenceIdeal.nD Cert.UpReferenceIdeal.τ Cert.UpReferenceIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownReferenceIdeal (m : (ℓ : Loc Cert.DownReferenceIdeal.nD Cert.DownReferenceIdeal.τ Cert.DownReferenceIdeal.sig) → Buf (Elt Ideal) ℓ) : Prop :=
  True

def Pre_Mid (m : (ℓ : Loc Cert.Mid.nD Cert.Mid.τ Cert.Mid.sig) → Buf (Elt Bits) ℓ) : Prop :=
  True

def Pre_MidIdeal (m : (ℓ : Loc Cert.MidIdeal.nD Cert.MidIdeal.τ Cert.MidIdeal.sig) → Buf (Elt Ideal) ℓ) : Prop :=
  True

def Pre_MidReferenceIdeal (m : (ℓ : Loc Cert.MidReferenceIdeal.nD Cert.MidReferenceIdeal.τ Cert.MidReferenceIdeal.sig) → Buf (Elt Ideal) ℓ) : Prop :=
  True

def Pre_Odd (m : (ℓ : Loc Cert.Odd.nD Cert.Odd.τ Cert.Odd.sig) → Buf (Elt Bits) ℓ) : Prop :=
  True

def Pre_OddIdeal (m : (ℓ : Loc Cert.OddIdeal.nD Cert.OddIdeal.τ Cert.OddIdeal.sig) → Buf (Elt Ideal) ℓ) : Prop :=
  True

def Pre_OddReferenceIdeal (m : (ℓ : Loc Cert.OddReferenceIdeal.nD Cert.OddReferenceIdeal.τ Cert.OddReferenceIdeal.sig) → Buf (Elt Ideal) ℓ) : Prop :=
  True

def Pre_InOdd (m : (ℓ : Loc Cert.InOdd.nD Cert.InOdd.τ Cert.InOdd.sig) → Buf (Elt Bits) ℓ) : Prop :=
  True

def Pre_InOddIdeal (m : (ℓ : Loc Cert.InOddIdeal.nD Cert.InOddIdeal.τ Cert.InOddIdeal.sig) → Buf (Elt Ideal) ℓ) : Prop :=
  True

def Pre_InOddReferenceIdeal (m : (ℓ : Loc Cert.InOddReferenceIdeal.nD Cert.InOddReferenceIdeal.τ Cert.InOddReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1)
      ∧ r.2.mem ((c.tc : Thread Cert.Up.nD Cert.Up.τ).loc Cert.Up.main_arg2) = m ((c.tc : Thread Cert.Up.nD Cert.Up.τ).loc Cert.Up.main_arg2))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
      ∧ r.2.mem ((c.tc : Thread Cert.UpIdeal.nD Cert.UpIdeal.τ).loc Cert.UpIdeal.main_arg2) = m ((c.tc : Thread Cert.UpIdeal.nD Cert.UpIdeal.τ).loc Cert.UpIdeal.main_arg2))
      ∧ r.2.sem = fun _ => 0)

def quiescent_UpReferenceIdeal [hUpReferenceIdeal : Cert.UpReferenceIdeal.Facts] : Prop :=
  ∀ (m : (ℓ : Loc Cert.UpReferenceIdeal.nD Cert.UpReferenceIdeal.τ Cert.UpReferenceIdeal.sig) → Buf (Elt Ideal) ℓ) (g : Dev Cert.UpReferenceIdeal.nD → PrngReg), Pre_UpReferenceIdeal m →
    θ_run (Cert.UpReferenceIdeal.defs (F := Ideal)) (onTc (τ := Cert.UpReferenceIdeal.τ) (Cert.UpReferenceIdeal.main (F := Ideal))) ⟨m, fun _ => 0, g⟩ (fun r => (∀ c : Dev Cert.UpReferenceIdeal.nD,
      r.2.mem ((c.tc : Thread Cert.UpReferenceIdeal.nD Cert.UpReferenceIdeal.τ).loc Cert.UpReferenceIdeal.main_arg0) = m ((c.tc : Thread Cert.UpReferenceIdeal.nD Cert.UpReferenceIdeal.τ).loc Cert.UpReferenceIdeal.main_arg0)
      ∧ r.2.mem ((c.tc : Thread Cert.UpReferenceIdeal.nD Cert.UpReferenceIdeal.τ).loc Cert.UpReferenceIdeal.main_arg1) = m ((c.tc : Thread Cert.UpReferenceIdeal.nD Cert.UpReferenceIdeal.τ).loc Cert.UpReferenceIdeal.main_arg1)
      ∧ r.2.mem ((c.tc : Thread Cert.UpReferenceIdeal.nD Cert.UpReferenceIdeal.τ).loc Cert.UpReferenceIdeal.main_arg2) = m ((c.tc : Thread Cert.UpReferenceIdeal.nD Cert.UpReferenceIdeal.τ).loc Cert.UpReferenceIdeal.main_arg2))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2)
      ∧ r.2.mem ((c.tc : Thread Cert.Down.nD Cert.Down.τ).loc Cert.Down.main_arg3) = m ((c.tc : Thread Cert.Down.nD Cert.Down.τ).loc Cert.Down.main_arg3)
      ∧ r.2.mem ((c.tc : Thread Cert.Down.nD Cert.Down.τ).loc Cert.Down.main_arg4) = m ((c.tc : Thread Cert.Down.nD Cert.Down.τ).loc Cert.Down.main_arg4))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
      ∧ r.2.mem ((c.tc : Thread Cert.DownIdeal.nD Cert.DownIdeal.τ).loc Cert.DownIdeal.main_arg4) = m ((c.tc : Thread Cert.DownIdeal.nD Cert.DownIdeal.τ).loc Cert.DownIdeal.main_arg4))
      ∧ r.2.sem = fun _ => 0)

def quiescent_DownReferenceIdeal [hDownReferenceIdeal : Cert.DownReferenceIdeal.Facts] : Prop :=
  ∀ (m : (ℓ : Loc Cert.DownReferenceIdeal.nD Cert.DownReferenceIdeal.τ Cert.DownReferenceIdeal.sig) → Buf (Elt Ideal) ℓ) (g : Dev Cert.DownReferenceIdeal.nD → PrngReg), Pre_DownReferenceIdeal m →
    θ_run (Cert.DownReferenceIdeal.defs (F := Ideal)) (onTc (τ := Cert.DownReferenceIdeal.τ) (Cert.DownReferenceIdeal.main (F := Ideal))) ⟨m, fun _ => 0, g⟩ (fun r => (∀ c : Dev Cert.DownReferenceIdeal.nD,
      r.2.mem ((c.tc : Thread Cert.DownReferenceIdeal.nD Cert.DownReferenceIdeal.τ).loc Cert.DownReferenceIdeal.main_arg0) = m ((c.tc : Thread Cert.DownReferenceIdeal.nD Cert.DownReferenceIdeal.τ).loc Cert.DownReferenceIdeal.main_arg0)
      ∧ r.2.mem ((c.tc : Thread Cert.DownReferenceIdeal.nD Cert.DownReferenceIdeal.τ).loc Cert.DownReferenceIdeal.main_arg1) = m ((c.tc : Thread Cert.DownReferenceIdeal.nD Cert.DownReferenceIdeal.τ).loc Cert.DownReferenceIdeal.main_arg1)
      ∧ r.2.mem ((c.tc : Thread Cert.DownReferenceIdeal.nD Cert.DownReferenceIdeal.τ).loc Cert.DownReferenceIdeal.main_arg2) = m ((c.tc : Thread Cert.DownReferenceIdeal.nD Cert.DownReferenceIdeal.τ).loc Cert.DownReferenceIdeal.main_arg2)
      ∧ r.2.mem ((c.tc : Thread Cert.DownReferenceIdeal.nD Cert.DownReferenceIdeal.τ).loc Cert.DownReferenceIdeal.main_arg3) = m ((c.tc : Thread Cert.DownReferenceIdeal.nD Cert.DownReferenceIdeal.τ).loc Cert.DownReferenceIdeal.main_arg3)
      ∧ r.2.mem ((c.tc : Thread Cert.DownReferenceIdeal.nD Cert.DownReferenceIdeal.τ).loc Cert.DownReferenceIdeal.main_arg4) = m ((c.tc : Thread Cert.DownReferenceIdeal.nD Cert.DownReferenceIdeal.τ).loc Cert.DownReferenceIdeal.main_arg4))
      ∧ r.2.sem = fun _ => 0)

def quiescent_Mid [hMid : Cert.Mid.Facts] : Prop :=
  ∀ (m : (ℓ : Loc Cert.Mid.nD Cert.Mid.τ Cert.Mid.sig) → Buf (Elt Bits) ℓ) (g : Dev Cert.Mid.nD → PrngReg), Pre_Mid m →
    θ_run (Cert.Mid.defs (F := Bits)) (onTc (τ := Cert.Mid.τ) (Cert.Mid.main (F := Bits))) ⟨m, fun _ => 0, g⟩ (fun r => (∀ c : Dev Cert.Mid.nD,
      r.2.mem ((c.tc : Thread Cert.Mid.nD Cert.Mid.τ).loc Cert.Mid.main_arg0) = m ((c.tc : Thread Cert.Mid.nD Cert.Mid.τ).loc Cert.Mid.main_arg0)
      ∧ r.2.mem ((c.tc : Thread Cert.Mid.nD Cert.Mid.τ).loc Cert.Mid.main_arg1) = m ((c.tc : Thread Cert.Mid.nD Cert.Mid.τ).loc Cert.Mid.main_arg1)
      ∧ r.2.mem ((c.tc : Thread Cert.Mid.nD Cert.Mid.τ).loc Cert.Mid.main_arg2) = m ((c.tc : Thread Cert.Mid.nD Cert.Mid.τ).loc Cert.Mid.main_arg2)
      ∧ r.2.mem ((c.tc : Thread Cert.Mid.nD Cert.Mid.τ).loc Cert.Mid.main_arg3) = m ((c.tc : Thread Cert.Mid.nD Cert.Mid.τ).loc Cert.Mid.main_arg3)
      ∧ r.2.mem ((c.tc : Thread Cert.Mid.nD Cert.Mid.τ).loc Cert.Mid.main_arg4) = m ((c.tc : Thread Cert.Mid.nD Cert.Mid.τ).loc Cert.Mid.main_arg4)
      ∧ r.2.mem ((c.tc : Thread Cert.Mid.nD Cert.Mid.τ).loc Cert.Mid.main_arg5) = m ((c.tc : Thread Cert.Mid.nD Cert.Mid.τ).loc Cert.Mid.main_arg5)
      ∧ r.2.mem ((c.tc : Thread Cert.Mid.nD Cert.Mid.τ).loc Cert.Mid.main_arg6) = m ((c.tc : Thread Cert.Mid.nD Cert.Mid.τ).loc Cert.Mid.main_arg6))
      ∧ r.2.sem = fun _ => 0)

def quiescent_MidIdeal [hMidIdeal : Cert.MidIdeal.Facts] : Prop :=
  ∀ (m : (ℓ : Loc Cert.MidIdeal.nD Cert.MidIdeal.τ Cert.MidIdeal.sig) → Buf (Elt Ideal) ℓ) (g : Dev Cert.MidIdeal.nD → PrngReg), Pre_MidIdeal m →
    θ_run (Cert.MidIdeal.defs (F := Ideal)) (onTc (τ := Cert.MidIdeal.τ) (Cert.MidIdeal.main (F := Ideal))) ⟨m, fun _ => 0, g⟩ (fun r => (∀ c : Dev Cert.MidIdeal.nD,
      r.2.mem ((c.tc : Thread Cert.MidIdeal.nD Cert.MidIdeal.τ).loc Cert.MidIdeal.main_arg0) = m ((c.tc : Thread Cert.MidIdeal.nD Cert.MidIdeal.τ).loc Cert.MidIdeal.main_arg0)
      ∧ r.2.mem ((c.tc : Thread Cert.MidIdeal.nD Cert.MidIdeal.τ).loc Cert.MidIdeal.main_arg1) = m ((c.tc : Thread Cert.MidIdeal.nD Cert.MidIdeal.τ).loc Cert.MidIdeal.main_arg1)
      ∧ r.2.mem ((c.tc : Thread Cert.MidIdeal.nD Cert.MidIdeal.τ).loc Cert.MidIdeal.main_arg2) = m ((c.tc : Thread Cert.MidIdeal.nD Cert.MidIdeal.τ).loc Cert.MidIdeal.main_arg2)
      ∧ r.2.mem ((c.tc : Thread Cert.MidIdeal.nD Cert.MidIdeal.τ).loc Cert.MidIdeal.main_arg3) = m ((c.tc : Thread Cert.MidIdeal.nD Cert.MidIdeal.τ).loc Cert.MidIdeal.main_arg3)
      ∧ r.2.mem ((c.tc : Thread Cert.MidIdeal.nD Cert.MidIdeal.τ).loc Cert.MidIdeal.main_arg4) = m ((c.tc : Thread Cert.MidIdeal.nD Cert.MidIdeal.τ).loc Cert.MidIdeal.main_arg4)
      ∧ r.2.mem ((c.tc : Thread Cert.MidIdeal.nD Cert.MidIdeal.τ).loc Cert.MidIdeal.main_arg5) = m ((c.tc : Thread Cert.MidIdeal.nD Cert.MidIdeal.τ).loc Cert.MidIdeal.main_arg5)
      ∧ r.2.mem ((c.tc : Thread Cert.MidIdeal.nD Cert.MidIdeal.τ).loc Cert.MidIdeal.main_arg6) = m ((c.tc : Thread Cert.MidIdeal.nD Cert.MidIdeal.τ).loc Cert.MidIdeal.main_arg6))
      ∧ r.2.sem = fun _ => 0)

def quiescent_MidReferenceIdeal [hMidReferenceIdeal : Cert.MidReferenceIdeal.Facts] : Prop :=
  ∀ (m : (ℓ : Loc Cert.MidReferenceIdeal.nD Cert.MidReferenceIdeal.τ Cert.MidReferenceIdeal.sig) → Buf (Elt Ideal) ℓ) (g : Dev Cert.MidReferenceIdeal.nD → PrngReg), Pre_MidReferenceIdeal m →
    θ_run (Cert.MidReferenceIdeal.defs (F := Ideal)) (onTc (τ := Cert.MidReferenceIdeal.τ) (Cert.MidReferenceIdeal.main (F := Ideal))) ⟨m, fun _ => 0, g⟩ (fun r => (∀ c : Dev Cert.MidReferenceIdeal.nD,
      r.2.mem ((c.tc : Thread Cert.MidReferenceIdeal.nD Cert.MidReferenceIdeal.τ).loc Cert.MidReferenceIdeal.main_arg0) = m ((c.tc : Thread Cert.MidReferenceIdeal.nD Cert.MidReferenceIdeal.τ).loc Cert.MidReferenceIdeal.main_arg0)
      ∧ r.2.mem ((c.tc : Thread Cert.MidReferenceIdeal.nD Cert.MidReferenceIdeal.τ).loc Cert.MidReferenceIdeal.main_arg1) = m ((c.tc : Thread Cert.MidReferenceIdeal.nD Cert.MidReferenceIdeal.τ).loc Cert.MidReferenceIdeal.main_arg1)
      ∧ r.2.mem ((c.tc : Thread Cert.MidReferenceIdeal.nD Cert.MidReferenceIdeal.τ).loc Cert.MidReferenceIdeal.main_arg2) = m ((c.tc : Thread Cert.MidReferenceIdeal.nD Cert.MidReferenceIdeal.τ).loc Cert.MidReferenceIdeal.main_arg2)
      ∧ r.2.mem ((c.tc : Thread Cert.MidReferenceIdeal.nD Cert.MidReferenceIdeal.τ).loc Cert.MidReferenceIdeal.main_arg3) = m ((c.tc : Thread Cert.MidReferenceIdeal.nD Cert.MidReferenceIdeal.τ).loc Cert.MidReferenceIdeal.main_arg3)
      ∧ r.2.mem ((c.tc : Thread Cert.MidReferenceIdeal.nD Cert.MidReferenceIdeal.τ).loc Cert.MidReferenceIdeal.main_arg4) = m ((c.tc : Thread Cert.MidReferenceIdeal.nD Cert.MidReferenceIdeal.τ).loc Cert.MidReferenceIdeal.main_arg4)
      ∧ r.2.mem ((c.tc : Thread Cert.MidReferenceIdeal.nD Cert.MidReferenceIdeal.τ).loc Cert.MidReferenceIdeal.main_arg5) = m ((c.tc : Thread Cert.MidReferenceIdeal.nD Cert.MidReferenceIdeal.τ).loc Cert.MidReferenceIdeal.main_arg5)
      ∧ r.2.mem ((c.tc : Thread Cert.MidReferenceIdeal.nD Cert.MidReferenceIdeal.τ).loc Cert.MidReferenceIdeal.main_arg6) = m ((c.tc : Thread Cert.MidReferenceIdeal.nD Cert.MidReferenceIdeal.τ).loc Cert.MidReferenceIdeal.main_arg6))
      ∧ r.2.sem = fun _ => 0)

def quiescent_Odd [hOdd : Cert.Odd.Facts] : Prop :=
  ∀ (m : (ℓ : Loc Cert.Odd.nD Cert.Odd.τ Cert.Odd.sig) → Buf (Elt Bits) ℓ) (g : Dev Cert.Odd.nD → PrngReg), Pre_Odd m →
    θ_run (Cert.Odd.defs (F := Bits)) (onTc (τ := Cert.Odd.τ) (Cert.Odd.main (F := Bits))) ⟨m, fun _ => 0, g⟩ (fun r => (∀ c : Dev Cert.Odd.nD,
      r.2.mem ((c.tc : Thread Cert.Odd.nD Cert.Odd.τ).loc Cert.Odd.main_arg0) = m ((c.tc : Thread Cert.Odd.nD Cert.Odd.τ).loc Cert.Odd.main_arg0)
      ∧ r.2.mem ((c.tc : Thread Cert.Odd.nD Cert.Odd.τ).loc Cert.Odd.main_arg1) = m ((c.tc : Thread Cert.Odd.nD Cert.Odd.τ).loc Cert.Odd.main_arg1)
      ∧ r.2.mem ((c.tc : Thread Cert.Odd.nD Cert.Odd.τ).loc Cert.Odd.main_arg2) = m ((c.tc : Thread Cert.Odd.nD Cert.Odd.τ).loc Cert.Odd.main_arg2)
      ∧ r.2.mem ((c.tc : Thread Cert.Odd.nD Cert.Odd.τ).loc Cert.Odd.main_arg3) = m ((c.tc : Thread Cert.Odd.nD Cert.Odd.τ).loc Cert.Odd.main_arg3)
      ∧ r.2.mem ((c.tc : Thread Cert.Odd.nD Cert.Odd.τ).loc Cert.Odd.main_arg4) = m ((c.tc : Thread Cert.Odd.nD Cert.Odd.τ).loc Cert.Odd.main_arg4)
      ∧ r.2.mem ((c.tc : Thread Cert.Odd.nD Cert.Odd.τ).loc Cert.Odd.main_arg5) = m ((c.tc : Thread Cert.Odd.nD Cert.Odd.τ).loc Cert.Odd.main_arg5)
      ∧ r.2.mem ((c.tc : Thread Cert.Odd.nD Cert.Odd.τ).loc Cert.Odd.main_arg6) = m ((c.tc : Thread Cert.Odd.nD Cert.Odd.τ).loc Cert.Odd.main_arg6)
      ∧ r.2.mem ((c.tc : Thread Cert.Odd.nD Cert.Odd.τ).loc Cert.Odd.main_arg7) = m ((c.tc : Thread Cert.Odd.nD Cert.Odd.τ).loc Cert.Odd.main_arg7)
      ∧ r.2.mem ((c.tc : Thread Cert.Odd.nD Cert.Odd.τ).loc Cert.Odd.main_arg8) = m ((c.tc : Thread Cert.Odd.nD Cert.Odd.τ).loc Cert.Odd.main_arg8)
      ∧ r.2.mem ((c.tc : Thread Cert.Odd.nD Cert.Odd.τ).loc Cert.Odd.main_arg9) = m ((c.tc : Thread Cert.Odd.nD Cert.Odd.τ).loc Cert.Odd.main_arg9)
      ∧ r.2.mem ((c.tc : Thread Cert.Odd.nD Cert.Odd.τ).loc Cert.Odd.main_arg10) = m ((c.tc : Thread Cert.Odd.nD Cert.Odd.τ).loc Cert.Odd.main_arg10))
      ∧ r.2.sem = fun _ => 0)

def quiescent_OddIdeal [hOddIdeal : Cert.OddIdeal.Facts] : Prop :=
  ∀ (m : (ℓ : Loc Cert.OddIdeal.nD Cert.OddIdeal.τ Cert.OddIdeal.sig) → Buf (Elt Ideal) ℓ) (g : Dev Cert.OddIdeal.nD → PrngReg), Pre_OddIdeal m →
    θ_run (Cert.OddIdeal.defs (F := Ideal)) (onTc (τ := Cert.OddIdeal.τ) (Cert.OddIdeal.main (F := Ideal))) ⟨m, fun _ => 0, g⟩ (fun r => (∀ c : Dev Cert.OddIdeal.nD,
      r.2.mem ((c.tc : Thread Cert.OddIdeal.nD Cert.OddIdeal.τ).loc Cert.OddIdeal.main_arg0) = m ((c.tc : Thread Cert.OddIdeal.nD Cert.OddIdeal.τ).loc Cert.OddIdeal.main_arg0)
      ∧ r.2.mem ((c.tc : Thread Cert.OddIdeal.nD Cert.OddIdeal.τ).loc Cert.OddIdeal.main_arg1) = m ((c.tc : Thread Cert.OddIdeal.nD Cert.OddIdeal.τ).loc Cert.OddIdeal.main_arg1)
      ∧ r.2.mem ((c.tc : Thread Cert.OddIdeal.nD Cert.OddIdeal.τ).loc Cert.OddIdeal.main_arg2) = m ((c.tc : Thread Cert.OddIdeal.nD Cert.OddIdeal.τ).loc Cert.OddIdeal.main_arg2)
      ∧ r.2.mem ((c.tc : Thread Cert.OddIdeal.nD Cert.OddIdeal.τ).loc Cert.OddIdeal.main_arg3) = m ((c.tc : Thread Cert.OddIdeal.nD Cert.OddIdeal.τ).loc Cert.OddIdeal.main_arg3)
      ∧ r.2.mem ((c.tc : Thread Cert.OddIdeal.nD Cert.OddIdeal.τ).loc Cert.OddIdeal.main_arg4) = m ((c.tc : Thread Cert.OddIdeal.nD Cert.OddIdeal.τ).loc Cert.OddIdeal.main_arg4)
      ∧ r.2.mem ((c.tc : Thread Cert.OddIdeal.nD Cert.OddIdeal.τ).loc Cert.OddIdeal.main_arg5) = m ((c.tc : Thread Cert.OddIdeal.nD Cert.OddIdeal.τ).loc Cert.OddIdeal.main_arg5)
      ∧ r.2.mem ((c.tc : Thread Cert.OddIdeal.nD Cert.OddIdeal.τ).loc Cert.OddIdeal.main_arg6) = m ((c.tc : Thread Cert.OddIdeal.nD Cert.OddIdeal.τ).loc Cert.OddIdeal.main_arg6)
      ∧ r.2.mem ((c.tc : Thread Cert.OddIdeal.nD Cert.OddIdeal.τ).loc Cert.OddIdeal.main_arg7) = m ((c.tc : Thread Cert.OddIdeal.nD Cert.OddIdeal.τ).loc Cert.OddIdeal.main_arg7)
      ∧ r.2.mem ((c.tc : Thread Cert.OddIdeal.nD Cert.OddIdeal.τ).loc Cert.OddIdeal.main_arg8) = m ((c.tc : Thread Cert.OddIdeal.nD Cert.OddIdeal.τ).loc Cert.OddIdeal.main_arg8)
      ∧ r.2.mem ((c.tc : Thread Cert.OddIdeal.nD Cert.OddIdeal.τ).loc Cert.OddIdeal.main_arg9) = m ((c.tc : Thread Cert.OddIdeal.nD Cert.OddIdeal.τ).loc Cert.OddIdeal.main_arg9)
      ∧ r.2.mem ((c.tc : Thread Cert.OddIdeal.nD Cert.OddIdeal.τ).loc Cert.OddIdeal.main_arg10) = m ((c.tc : Thread Cert.OddIdeal.nD Cert.OddIdeal.τ).loc Cert.OddIdeal.main_arg10))
      ∧ r.2.sem = fun _ => 0)

def quiescent_OddReferenceIdeal [hOddReferenceIdeal : Cert.OddReferenceIdeal.Facts] : Prop :=
  ∀ (m : (ℓ : Loc Cert.OddReferenceIdeal.nD Cert.OddReferenceIdeal.τ Cert.OddReferenceIdeal.sig) → Buf (Elt Ideal) ℓ) (g : Dev Cert.OddReferenceIdeal.nD → PrngReg), Pre_OddReferenceIdeal m →
    θ_run (Cert.OddReferenceIdeal.defs (F := Ideal)) (onTc (τ := Cert.OddReferenceIdeal.τ) (Cert.OddReferenceIdeal.main (F := Ideal))) ⟨m, fun _ => 0, g⟩ (fun r => (∀ c : Dev Cert.OddReferenceIdeal.nD,
      r.2.mem ((c.tc : Thread Cert.OddReferenceIdeal.nD Cert.OddReferenceIdeal.τ).loc Cert.OddReferenceIdeal.main_arg0) = m ((c.tc : Thread Cert.OddReferenceIdeal.nD Cert.OddReferenceIdeal.τ).loc Cert.OddReferenceIdeal.main_arg0)
      ∧ r.2.mem ((c.tc : Thread Cert.OddReferenceIdeal.nD Cert.OddReferenceIdeal.τ).loc Cert.OddReferenceIdeal.main_arg1) = m ((c.tc : Thread Cert.OddReferenceIdeal.nD Cert.OddReferenceIdeal.τ).loc Cert.OddReferenceIdeal.main_arg1)
      ∧ r.2.mem ((c.tc : Thread Cert.OddReferenceIdeal.nD Cert.OddReferenceIdeal.τ).loc Cert.OddReferenceIdeal.main_arg2) = m ((c.tc : Thread Cert.OddReferenceIdeal.nD Cert.OddReferenceIdeal.τ).loc Cert.OddReferenceIdeal.main_arg2)
      ∧ r.2.mem ((c.tc : Thread Cert.OddReferenceIdeal.nD Cert.OddReferenceIdeal.τ).loc Cert.OddReferenceIdeal.main_arg3) = m ((c.tc : Thread Cert.OddReferenceIdeal.nD Cert.OddReferenceIdeal.τ).loc Cert.OddReferenceIdeal.main_arg3)
      ∧ r.2.mem ((c.tc : Thread Cert.OddReferenceIdeal.nD Cert.OddReferenceIdeal.τ).loc Cert.OddReferenceIdeal.main_arg4) = m ((c.tc : Thread Cert.OddReferenceIdeal.nD Cert.OddReferenceIdeal.τ).loc Cert.OddReferenceIdeal.main_arg4)
      ∧ r.2.mem ((c.tc : Thread Cert.OddReferenceIdeal.nD Cert.OddReferenceIdeal.τ).loc Cert.OddReferenceIdeal.main_arg5) = m ((c.tc : Thread Cert.OddReferenceIdeal.nD Cert.OddReferenceIdeal.τ).loc Cert.OddReferenceIdeal.main_arg5)
      ∧ r.2.mem ((c.tc : Thread Cert.OddReferenceIdeal.nD Cert.OddReferenceIdeal.τ).loc Cert.OddReferenceIdeal.main_arg6) = m ((c.tc : Thread Cert.OddReferenceIdeal.nD Cert.OddReferenceIdeal.τ).loc Cert.OddReferenceIdeal.main_arg6)
      ∧ r.2.mem ((c.tc : Thread Cert.OddReferenceIdeal.nD Cert.OddReferenceIdeal.τ).loc Cert.OddReferenceIdeal.main_arg7) = m ((c.tc : Thread Cert.OddReferenceIdeal.nD Cert.OddReferenceIdeal.τ).loc Cert.OddReferenceIdeal.main_arg7)
      ∧ r.2.mem ((c.tc : Thread Cert.OddReferenceIdeal.nD Cert.OddReferenceIdeal.τ).loc Cert.OddReferenceIdeal.main_arg8) = m ((c.tc : Thread Cert.OddReferenceIdeal.nD Cert.OddReferenceIdeal.τ).loc Cert.OddReferenceIdeal.main_arg8)
      ∧ r.2.mem ((c.tc : Thread Cert.OddReferenceIdeal.nD Cert.OddReferenceIdeal.τ).loc Cert.OddReferenceIdeal.main_arg9) = m ((c.tc : Thread Cert.OddReferenceIdeal.nD Cert.OddReferenceIdeal.τ).loc Cert.OddReferenceIdeal.main_arg9)
      ∧ r.2.mem ((c.tc : Thread Cert.OddReferenceIdeal.nD Cert.OddReferenceIdeal.τ).loc Cert.OddReferenceIdeal.main_arg10) = m ((c.tc : Thread Cert.OddReferenceIdeal.nD Cert.OddReferenceIdeal.τ).loc Cert.OddReferenceIdeal.main_arg10))
      ∧ r.2.sem = fun _ => 0)

def quiescent_InOdd [hInOdd : Cert.InOdd.Facts] : Prop :=
  ∀ (m : (ℓ : Loc Cert.InOdd.nD Cert.InOdd.τ Cert.InOdd.sig) → Buf (Elt Bits) ℓ) (g : Dev Cert.InOdd.nD → PrngReg), Pre_InOdd m →
    θ_run (Cert.InOdd.defs (F := Bits)) (onTc (τ := Cert.InOdd.τ) (Cert.InOdd.main (F := Bits))) ⟨m, fun _ => 0, g⟩ (fun r => (∀ c : Dev Cert.InOdd.nD,
      r.2.mem ((c.tc : Thread Cert.InOdd.nD Cert.InOdd.τ).loc Cert.InOdd.main_arg0) = m ((c.tc : Thread Cert.InOdd.nD Cert.InOdd.τ).loc Cert.InOdd.main_arg0)
      ∧ r.2.mem ((c.tc : Thread Cert.InOdd.nD Cert.InOdd.τ).loc Cert.InOdd.main_arg1) = m ((c.tc : Thread Cert.InOdd.nD Cert.InOdd.τ).loc Cert.InOdd.main_arg1))
      ∧ r.2.sem = fun _ => 0)

def quiescent_InOddIdeal [hInOddIdeal : Cert.InOddIdeal.Facts] : Prop :=
  ∀ (m : (ℓ : Loc Cert.InOddIdeal.nD Cert.InOddIdeal.τ Cert.InOddIdeal.sig) → Buf (Elt Ideal) ℓ) (g : Dev Cert.InOddIdeal.nD → PrngReg), Pre_InOddIdeal m →
    θ_run (Cert.InOddIdeal.defs (F := Ideal)) (onTc (τ := Cert.InOddIdeal.τ) (Cert.InOddIdeal.main (F := Ideal))) ⟨m, fun _ => 0, g⟩ (fun r => (∀ c : Dev Cert.InOddIdeal.nD,
      r.2.mem ((c.tc : Thread Cert.InOddIdeal.nD Cert.InOddIdeal.τ).loc Cert.InOddIdeal.main_arg0) = m ((c.tc : Thread Cert.InOddIdeal.nD Cert.InOddIdeal.τ).loc Cert.InOddIdeal.main_arg0)
      ∧ r.2.mem ((c.tc : Thread Cert.InOddIdeal.nD Cert.InOddIdeal.τ).loc Cert.InOddIdeal.main_arg1) = m ((c.tc : Thread Cert.InOddIdeal.nD Cert.InOddIdeal.τ).loc Cert.InOddIdeal.main_arg1))
      ∧ r.2.sem = fun _ => 0)

def quiescent_InOddReferenceIdeal [hInOddReferenceIdeal : Cert.InOddReferenceIdeal.Facts] : Prop :=
  ∀ (m : (ℓ : Loc Cert.InOddReferenceIdeal.nD Cert.InOddReferenceIdeal.τ Cert.InOddReferenceIdeal.sig) → Buf (Elt Ideal) ℓ) (g : Dev Cert.InOddReferenceIdeal.nD → PrngReg), Pre_InOddReferenceIdeal m →
    θ_run (Cert.InOddReferenceIdeal.defs (F := Ideal)) (onTc (τ := Cert.InOddReferenceIdeal.τ) (Cert.InOddReferenceIdeal.main (F := Ideal))) ⟨m, fun _ => 0, g⟩ (fun r => (∀ c : Dev Cert.InOddReferenceIdeal.nD,
      r.2.mem ((c.tc : Thread Cert.InOddReferenceIdeal.nD Cert.InOddReferenceIdeal.τ).loc Cert.InOddReferenceIdeal.main_arg0) = m ((c.tc : Thread Cert.InOddReferenceIdeal.nD Cert.InOddReferenceIdeal.τ).loc Cert.InOddReferenceIdeal.main_arg0)
      ∧ r.2.mem ((c.tc : Thread Cert.InOddReferenceIdeal.nD Cert.InOddReferenceIdeal.τ).loc Cert.InOddReferenceIdeal.main_arg1) = m ((c.tc : Thread Cert.InOddReferenceIdeal.nD Cert.InOddReferenceIdeal.τ).loc Cert.InOddReferenceIdeal.main_arg1))
      ∧ r.2.sem = fun _ => 0)

def preserves_Kernel_KernelIdeal : Prop :=
  IdealRules.named_const.Statement Cert.KernelIdeal.κ "qk_scale_log2" .f32 0x3E0293EE#32 (((Real.sqrt 128)⁻¹ * (Real.log 2)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Up_UpIdeal : Prop :=
  True

def algebraic_UpIdeal_UpReferenceIdeal [hUpIdeal : Cert.UpIdeal.Facts] [hUpReferenceIdeal : Cert.UpReferenceIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpReferenceIdeal.nD Cert.UpReferenceIdeal.τ Cert.UpReferenceIdeal.sig) → Buf (Elt Ideal) ℓ) (g' : Dev Cert.UpReferenceIdeal.nD → PrngReg), Pre_UpIdeal m →
    (∀ c : Dev Cert.UpIdeal.nD,
      m' ((c.tc : Thread Cert.UpReferenceIdeal.nD Cert.UpReferenceIdeal.τ).loc Cert.UpReferenceIdeal.main_arg0) = m ((c.tc : Thread Cert.UpIdeal.nD Cert.UpIdeal.τ).loc Cert.UpIdeal.main_arg0)
      ∧ m' ((c.tc : Thread Cert.UpReferenceIdeal.nD Cert.UpReferenceIdeal.τ).loc Cert.UpReferenceIdeal.main_arg1) = m ((c.tc : Thread Cert.UpIdeal.nD Cert.UpIdeal.τ).loc Cert.UpIdeal.main_arg1)
      ∧ m' ((c.tc : Thread Cert.UpReferenceIdeal.nD Cert.UpReferenceIdeal.τ).loc Cert.UpReferenceIdeal.main_arg2) = m ((c.tc : Thread Cert.UpIdeal.nD Cert.UpIdeal.τ).loc Cert.UpIdeal.main_arg2)) →
    ∃ (v0 : (c : Dev Cert.UpIdeal.nD) → Buf (Elt Ideal) ((c.tc : Thread Cert.UpIdeal.nD Cert.UpIdeal.τ).loc Cert.UpIdeal.main_v2)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v2) = v0 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
          ∧ r.2.mem ((c.tc : Thread Cert.UpIdeal.nD Cert.UpIdeal.τ).loc Cert.UpIdeal.main_arg2) = m ((c.tc : Thread Cert.UpIdeal.nD Cert.UpIdeal.τ).loc Cert.UpIdeal.main_arg2))
      ∧ θ_run (Cert.UpReferenceIdeal.defs (F := Ideal)) (onTc (τ := Cert.UpReferenceIdeal.τ) (Cert.UpReferenceIdeal.main (F := Ideal))) ⟨m', fun _ => 0, g'⟩ (fun r => ∀ c : Dev Cert.UpReferenceIdeal.nD,
          r.2.mem ((c.tc : Thread Cert.UpReferenceIdeal.nD Cert.UpReferenceIdeal.τ).loc Cert.UpReferenceIdeal.main_v9) = v0 c
          ∧ r.2.mem ((c.tc : Thread Cert.UpReferenceIdeal.nD Cert.UpReferenceIdeal.τ).loc Cert.UpReferenceIdeal.main_arg0) = m' ((c.tc : Thread Cert.UpReferenceIdeal.nD Cert.UpReferenceIdeal.τ).loc Cert.UpReferenceIdeal.main_arg0)
          ∧ r.2.mem ((c.tc : Thread Cert.UpReferenceIdeal.nD Cert.UpReferenceIdeal.τ).loc Cert.UpReferenceIdeal.main_arg1) = m' ((c.tc : Thread Cert.UpReferenceIdeal.nD Cert.UpReferenceIdeal.τ).loc Cert.UpReferenceIdeal.main_arg1)
          ∧ r.2.mem ((c.tc : Thread Cert.UpReferenceIdeal.nD Cert.UpReferenceIdeal.τ).loc Cert.UpReferenceIdeal.main_arg2) = m' ((c.tc : Thread Cert.UpReferenceIdeal.nD Cert.UpReferenceIdeal.τ).loc Cert.UpReferenceIdeal.main_arg2))

def preserves_Down_DownIdeal : Prop :=
  True

def algebraic_DownIdeal_DownReferenceIdeal [hDownIdeal : Cert.DownIdeal.Facts] [hDownReferenceIdeal : Cert.DownReferenceIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownReferenceIdeal.nD Cert.DownReferenceIdeal.τ Cert.DownReferenceIdeal.sig) → Buf (Elt Ideal) ℓ) (g' : Dev Cert.DownReferenceIdeal.nD → PrngReg), Pre_DownIdeal m →
    (∀ c : Dev Cert.DownIdeal.nD,
      m' ((c.tc : Thread Cert.DownReferenceIdeal.nD Cert.DownReferenceIdeal.τ).loc Cert.DownReferenceIdeal.main_arg0) = m ((c.tc : Thread Cert.DownIdeal.nD Cert.DownIdeal.τ).loc Cert.DownIdeal.main_arg0)
      ∧ m' ((c.tc : Thread Cert.DownReferenceIdeal.nD Cert.DownReferenceIdeal.τ).loc Cert.DownReferenceIdeal.main_arg1) = m ((c.tc : Thread Cert.DownIdeal.nD Cert.DownIdeal.τ).loc Cert.DownIdeal.main_arg1)
      ∧ m' ((c.tc : Thread Cert.DownReferenceIdeal.nD Cert.DownReferenceIdeal.τ).loc Cert.DownReferenceIdeal.main_arg2) = m ((c.tc : Thread Cert.DownIdeal.nD Cert.DownIdeal.τ).loc Cert.DownIdeal.main_arg2)
      ∧ m' ((c.tc : Thread Cert.DownReferenceIdeal.nD Cert.DownReferenceIdeal.τ).loc Cert.DownReferenceIdeal.main_arg3) = m ((c.tc : Thread Cert.DownIdeal.nD Cert.DownIdeal.τ).loc Cert.DownIdeal.main_arg3)
      ∧ m' ((c.tc : Thread Cert.DownReferenceIdeal.nD Cert.DownReferenceIdeal.τ).loc Cert.DownReferenceIdeal.main_arg4) = m ((c.tc : Thread Cert.DownIdeal.nD Cert.DownIdeal.τ).loc Cert.DownIdeal.main_arg4)) →
    ∃ (v0 : (c : Dev Cert.DownIdeal.nD) → Buf (Elt Ideal) ((c.tc : Thread Cert.DownIdeal.nD Cert.DownIdeal.τ).loc Cert.DownIdeal.main_v6)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v6) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
          ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
          ∧ r.2.mem ((c.tc : Thread Cert.DownIdeal.nD Cert.DownIdeal.τ).loc Cert.DownIdeal.main_arg4) = m ((c.tc : Thread Cert.DownIdeal.nD Cert.DownIdeal.τ).loc Cert.DownIdeal.main_arg4))
      ∧ θ_run (Cert.DownReferenceIdeal.defs (F := Ideal)) (onTc (τ := Cert.DownReferenceIdeal.τ) (Cert.DownReferenceIdeal.main (F := Ideal))) ⟨m', fun _ => 0, g'⟩ (fun r => ∀ c : Dev Cert.DownReferenceIdeal.nD,
          r.2.mem ((c.tc : Thread Cert.DownReferenceIdeal.nD Cert.DownReferenceIdeal.τ).loc Cert.DownReferenceIdeal.main_v18) = v0 c
          ∧ r.2.mem ((c.tc : Thread Cert.DownReferenceIdeal.nD Cert.DownReferenceIdeal.τ).loc Cert.DownReferenceIdeal.main_arg0) = m' ((c.tc : Thread Cert.DownReferenceIdeal.nD Cert.DownReferenceIdeal.τ).loc Cert.DownReferenceIdeal.main_arg0)
          ∧ r.2.mem ((c.tc : Thread Cert.DownReferenceIdeal.nD Cert.DownReferenceIdeal.τ).loc Cert.DownReferenceIdeal.main_arg1) = m' ((c.tc : Thread Cert.DownReferenceIdeal.nD Cert.DownReferenceIdeal.τ).loc Cert.DownReferenceIdeal.main_arg1)
          ∧ r.2.mem ((c.tc : Thread Cert.DownReferenceIdeal.nD Cert.DownReferenceIdeal.τ).loc Cert.DownReferenceIdeal.main_arg2) = m' ((c.tc : Thread Cert.DownReferenceIdeal.nD Cert.DownReferenceIdeal.τ).loc Cert.DownReferenceIdeal.main_arg2)
          ∧ r.2.mem ((c.tc : Thread Cert.DownReferenceIdeal.nD Cert.DownReferenceIdeal.τ).loc Cert.DownReferenceIdeal.main_arg3) = m' ((c.tc : Thread Cert.DownReferenceIdeal.nD Cert.DownReferenceIdeal.τ).loc Cert.DownReferenceIdeal.main_arg3)
          ∧ r.2.mem ((c.tc : Thread Cert.DownReferenceIdeal.nD Cert.DownReferenceIdeal.τ).loc Cert.DownReferenceIdeal.main_arg4) = m' ((c.tc : Thread Cert.DownReferenceIdeal.nD Cert.DownReferenceIdeal.τ).loc Cert.DownReferenceIdeal.main_arg4))

def preserves_Mid_MidIdeal : Prop :=
  True

def algebraic_MidIdeal_MidReferenceIdeal [hMidIdeal : Cert.MidIdeal.Facts] [hMidReferenceIdeal : Cert.MidReferenceIdeal.Facts] : Prop :=
  ∀ (m : (ℓ : Loc Cert.MidIdeal.nD Cert.MidIdeal.τ Cert.MidIdeal.sig) → Buf (Elt Ideal) ℓ) (g : Dev Cert.MidIdeal.nD → PrngReg)
    (m' : (ℓ : Loc Cert.MidReferenceIdeal.nD Cert.MidReferenceIdeal.τ Cert.MidReferenceIdeal.sig) → Buf (Elt Ideal) ℓ) (g' : Dev Cert.MidReferenceIdeal.nD → PrngReg), Pre_MidIdeal m →
    (∀ c : Dev Cert.MidIdeal.nD,
      m' ((c.tc : Thread Cert.MidReferenceIdeal.nD Cert.MidReferenceIdeal.τ).loc Cert.MidReferenceIdeal.main_arg0) = m ((c.tc : Thread Cert.MidIdeal.nD Cert.MidIdeal.τ).loc Cert.MidIdeal.main_arg0)
      ∧ m' ((c.tc : Thread Cert.MidReferenceIdeal.nD Cert.MidReferenceIdeal.τ).loc Cert.MidReferenceIdeal.main_arg1) = m ((c.tc : Thread Cert.MidIdeal.nD Cert.MidIdeal.τ).loc Cert.MidIdeal.main_arg1)
      ∧ m' ((c.tc : Thread Cert.MidReferenceIdeal.nD Cert.MidReferenceIdeal.τ).loc Cert.MidReferenceIdeal.main_arg2) = m ((c.tc : Thread Cert.MidIdeal.nD Cert.MidIdeal.τ).loc Cert.MidIdeal.main_arg2)
      ∧ m' ((c.tc : Thread Cert.MidReferenceIdeal.nD Cert.MidReferenceIdeal.τ).loc Cert.MidReferenceIdeal.main_arg3) = m ((c.tc : Thread Cert.MidIdeal.nD Cert.MidIdeal.τ).loc Cert.MidIdeal.main_arg3)
      ∧ m' ((c.tc : Thread Cert.MidReferenceIdeal.nD Cert.MidReferenceIdeal.τ).loc Cert.MidReferenceIdeal.main_arg4) = m ((c.tc : Thread Cert.MidIdeal.nD Cert.MidIdeal.τ).loc Cert.MidIdeal.main_arg4)
      ∧ m' ((c.tc : Thread Cert.MidReferenceIdeal.nD Cert.MidReferenceIdeal.τ).loc Cert.MidReferenceIdeal.main_arg5) = m ((c.tc : Thread Cert.MidIdeal.nD Cert.MidIdeal.τ).loc Cert.MidIdeal.main_arg5)
      ∧ m' ((c.tc : Thread Cert.MidReferenceIdeal.nD Cert.MidReferenceIdeal.τ).loc Cert.MidReferenceIdeal.main_arg6) = m ((c.tc : Thread Cert.MidIdeal.nD Cert.MidIdeal.τ).loc Cert.MidIdeal.main_arg6)) →
    ∃ (v0 : (c : Dev Cert.MidIdeal.nD) → Buf (Elt Ideal) ((c.tc : Thread Cert.MidIdeal.nD Cert.MidIdeal.τ).loc Cert.MidIdeal.main_v7_0)) (v1 : (c : Dev Cert.MidIdeal.nD) → Buf (Elt Ideal) ((c.tc : Thread Cert.MidIdeal.nD Cert.MidIdeal.τ).loc Cert.MidIdeal.main_v7_1)),
      θ_run (Cert.MidIdeal.defs (F := Ideal)) (onTc (τ := Cert.MidIdeal.τ) (Cert.MidIdeal.main (F := Ideal))) ⟨m, fun _ => 0, g⟩ (fun r => ∀ c : Dev Cert.MidIdeal.nD,
          r.2.mem ((c.tc : Thread Cert.MidIdeal.nD Cert.MidIdeal.τ).loc Cert.MidIdeal.main_v7_0) = v0 c
          ∧ r.2.mem ((c.tc : Thread Cert.MidIdeal.nD Cert.MidIdeal.τ).loc Cert.MidIdeal.main_v7_1) = v1 c
          ∧ r.2.mem ((c.tc : Thread Cert.MidIdeal.nD Cert.MidIdeal.τ).loc Cert.MidIdeal.main_arg0) = m ((c.tc : Thread Cert.MidIdeal.nD Cert.MidIdeal.τ).loc Cert.MidIdeal.main_arg0)
          ∧ r.2.mem ((c.tc : Thread Cert.MidIdeal.nD Cert.MidIdeal.τ).loc Cert.MidIdeal.main_arg1) = m ((c.tc : Thread Cert.MidIdeal.nD Cert.MidIdeal.τ).loc Cert.MidIdeal.main_arg1)
          ∧ r.2.mem ((c.tc : Thread Cert.MidIdeal.nD Cert.MidIdeal.τ).loc Cert.MidIdeal.main_arg2) = m ((c.tc : Thread Cert.MidIdeal.nD Cert.MidIdeal.τ).loc Cert.MidIdeal.main_arg2)
          ∧ r.2.mem ((c.tc : Thread Cert.MidIdeal.nD Cert.MidIdeal.τ).loc Cert.MidIdeal.main_arg3) = m ((c.tc : Thread Cert.MidIdeal.nD Cert.MidIdeal.τ).loc Cert.MidIdeal.main_arg3)
          ∧ r.2.mem ((c.tc : Thread Cert.MidIdeal.nD Cert.MidIdeal.τ).loc Cert.MidIdeal.main_arg4) = m ((c.tc : Thread Cert.MidIdeal.nD Cert.MidIdeal.τ).loc Cert.MidIdeal.main_arg4)
          ∧ r.2.mem ((c.tc : Thread Cert.MidIdeal.nD Cert.MidIdeal.τ).loc Cert.MidIdeal.main_arg5) = m ((c.tc : Thread Cert.MidIdeal.nD Cert.MidIdeal.τ).loc Cert.MidIdeal.main_arg5)
          ∧ r.2.mem ((c.tc : Thread Cert.MidIdeal.nD Cert.MidIdeal.τ).loc Cert.MidIdeal.main_arg6) = m ((c.tc : Thread Cert.MidIdeal.nD Cert.MidIdeal.τ).loc Cert.MidIdeal.main_arg6))
      ∧ θ_run (Cert.MidReferenceIdeal.defs (F := Ideal)) (onTc (τ := Cert.MidReferenceIdeal.τ) (Cert.MidReferenceIdeal.main (F := Ideal))) ⟨m', fun _ => 0, g'⟩ (fun r => ∀ c : Dev Cert.MidReferenceIdeal.nD,
          r.2.mem ((c.tc : Thread Cert.MidReferenceIdeal.nD Cert.MidReferenceIdeal.τ).loc Cert.MidReferenceIdeal.main_v5) = v0 c
          ∧ r.2.mem ((c.tc : Thread Cert.MidReferenceIdeal.nD Cert.MidReferenceIdeal.τ).loc Cert.MidReferenceIdeal.main_v27) = v1 c
          ∧ r.2.mem ((c.tc : Thread Cert.MidReferenceIdeal.nD Cert.MidReferenceIdeal.τ).loc Cert.MidReferenceIdeal.main_arg0) = m' ((c.tc : Thread Cert.MidReferenceIdeal.nD Cert.MidReferenceIdeal.τ).loc Cert.MidReferenceIdeal.main_arg0)
          ∧ r.2.mem ((c.tc : Thread Cert.MidReferenceIdeal.nD Cert.MidReferenceIdeal.τ).loc Cert.MidReferenceIdeal.main_arg1) = m' ((c.tc : Thread Cert.MidReferenceIdeal.nD Cert.MidReferenceIdeal.τ).loc Cert.MidReferenceIdeal.main_arg1)
          ∧ r.2.mem ((c.tc : Thread Cert.MidReferenceIdeal.nD Cert.MidReferenceIdeal.τ).loc Cert.MidReferenceIdeal.main_arg2) = m' ((c.tc : Thread Cert.MidReferenceIdeal.nD Cert.MidReferenceIdeal.τ).loc Cert.MidReferenceIdeal.main_arg2)
          ∧ r.2.mem ((c.tc : Thread Cert.MidReferenceIdeal.nD Cert.MidReferenceIdeal.τ).loc Cert.MidReferenceIdeal.main_arg3) = m' ((c.tc : Thread Cert.MidReferenceIdeal.nD Cert.MidReferenceIdeal.τ).loc Cert.MidReferenceIdeal.main_arg3)
          ∧ r.2.mem ((c.tc : Thread Cert.MidReferenceIdeal.nD Cert.MidReferenceIdeal.τ).loc Cert.MidReferenceIdeal.main_arg4) = m' ((c.tc : Thread Cert.MidReferenceIdeal.nD Cert.MidReferenceIdeal.τ).loc Cert.MidReferenceIdeal.main_arg4)
          ∧ r.2.mem ((c.tc : Thread Cert.MidReferenceIdeal.nD Cert.MidReferenceIdeal.τ).loc Cert.MidReferenceIdeal.main_arg5) = m' ((c.tc : Thread Cert.MidReferenceIdeal.nD Cert.MidReferenceIdeal.τ).loc Cert.MidReferenceIdeal.main_arg5)
          ∧ r.2.mem ((c.tc : Thread Cert.MidReferenceIdeal.nD Cert.MidReferenceIdeal.τ).loc Cert.MidReferenceIdeal.main_arg6) = m' ((c.tc : Thread Cert.MidReferenceIdeal.nD Cert.MidReferenceIdeal.τ).loc Cert.MidReferenceIdeal.main_arg6))

def preserves_Odd_OddIdeal : Prop :=
  True

def algebraic_OddIdeal_OddReferenceIdeal [hOddIdeal : Cert.OddIdeal.Facts] [hOddReferenceIdeal : Cert.OddReferenceIdeal.Facts] : Prop :=
  ∀ (m : (ℓ : Loc Cert.OddIdeal.nD Cert.OddIdeal.τ Cert.OddIdeal.sig) → Buf (Elt Ideal) ℓ) (g : Dev Cert.OddIdeal.nD → PrngReg)
    (m' : (ℓ : Loc Cert.OddReferenceIdeal.nD Cert.OddReferenceIdeal.τ Cert.OddReferenceIdeal.sig) → Buf (Elt Ideal) ℓ) (g' : Dev Cert.OddReferenceIdeal.nD → PrngReg), Pre_OddIdeal m →
    (∀ c : Dev Cert.OddIdeal.nD,
      m' ((c.tc : Thread Cert.OddReferenceIdeal.nD Cert.OddReferenceIdeal.τ).loc Cert.OddReferenceIdeal.main_arg0) = m ((c.tc : Thread Cert.OddIdeal.nD Cert.OddIdeal.τ).loc Cert.OddIdeal.main_arg0)
      ∧ m' ((c.tc : Thread Cert.OddReferenceIdeal.nD Cert.OddReferenceIdeal.τ).loc Cert.OddReferenceIdeal.main_arg1) = m ((c.tc : Thread Cert.OddIdeal.nD Cert.OddIdeal.τ).loc Cert.OddIdeal.main_arg1)
      ∧ m' ((c.tc : Thread Cert.OddReferenceIdeal.nD Cert.OddReferenceIdeal.τ).loc Cert.OddReferenceIdeal.main_arg2) = m ((c.tc : Thread Cert.OddIdeal.nD Cert.OddIdeal.τ).loc Cert.OddIdeal.main_arg2)
      ∧ m' ((c.tc : Thread Cert.OddReferenceIdeal.nD Cert.OddReferenceIdeal.τ).loc Cert.OddReferenceIdeal.main_arg3) = m ((c.tc : Thread Cert.OddIdeal.nD Cert.OddIdeal.τ).loc Cert.OddIdeal.main_arg3)
      ∧ m' ((c.tc : Thread Cert.OddReferenceIdeal.nD Cert.OddReferenceIdeal.τ).loc Cert.OddReferenceIdeal.main_arg4) = m ((c.tc : Thread Cert.OddIdeal.nD Cert.OddIdeal.τ).loc Cert.OddIdeal.main_arg4)
      ∧ m' ((c.tc : Thread Cert.OddReferenceIdeal.nD Cert.OddReferenceIdeal.τ).loc Cert.OddReferenceIdeal.main_arg5) = m ((c.tc : Thread Cert.OddIdeal.nD Cert.OddIdeal.τ).loc Cert.OddIdeal.main_arg5)
      ∧ m' ((c.tc : Thread Cert.OddReferenceIdeal.nD Cert.OddReferenceIdeal.τ).loc Cert.OddReferenceIdeal.main_arg6) = m ((c.tc : Thread Cert.OddIdeal.nD Cert.OddIdeal.τ).loc Cert.OddIdeal.main_arg6)
      ∧ m' ((c.tc : Thread Cert.OddReferenceIdeal.nD Cert.OddReferenceIdeal.τ).loc Cert.OddReferenceIdeal.main_arg7) = m ((c.tc : Thread Cert.OddIdeal.nD Cert.OddIdeal.τ).loc Cert.OddIdeal.main_arg7)
      ∧ m' ((c.tc : Thread Cert.OddReferenceIdeal.nD Cert.OddReferenceIdeal.τ).loc Cert.OddReferenceIdeal.main_arg8) = m ((c.tc : Thread Cert.OddIdeal.nD Cert.OddIdeal.τ).loc Cert.OddIdeal.main_arg8)
      ∧ m' ((c.tc : Thread Cert.OddReferenceIdeal.nD Cert.OddReferenceIdeal.τ).loc Cert.OddReferenceIdeal.main_arg9) = m ((c.tc : Thread Cert.OddIdeal.nD Cert.OddIdeal.τ).loc Cert.OddIdeal.main_arg9)
      ∧ m' ((c.tc : Thread Cert.OddReferenceIdeal.nD Cert.OddReferenceIdeal.τ).loc Cert.OddReferenceIdeal.main_arg10) = m ((c.tc : Thread Cert.OddIdeal.nD Cert.OddIdeal.τ).loc Cert.OddIdeal.main_arg10)) →
    ∃ (v0 : (c : Dev Cert.OddIdeal.nD) → Buf (Elt Ideal) ((c.tc : Thread Cert.OddIdeal.nD Cert.OddIdeal.τ).loc Cert.OddIdeal.main_v8_0)) (v1 : (c : Dev Cert.OddIdeal.nD) → Buf (Elt Ideal) ((c.tc : Thread Cert.OddIdeal.nD Cert.OddIdeal.τ).loc Cert.OddIdeal.main_v8_1)),
      θ_run (Cert.OddIdeal.defs (F := Ideal)) (onTc (τ := Cert.OddIdeal.τ) (Cert.OddIdeal.main (F := Ideal))) ⟨m, fun _ => 0, g⟩ (fun r => ∀ c : Dev Cert.OddIdeal.nD,
          r.2.mem ((c.tc : Thread Cert.OddIdeal.nD Cert.OddIdeal.τ).loc Cert.OddIdeal.main_v8_0) = v0 c
          ∧ r.2.mem ((c.tc : Thread Cert.OddIdeal.nD Cert.OddIdeal.τ).loc Cert.OddIdeal.main_v8_1) = v1 c
          ∧ r.2.mem ((c.tc : Thread Cert.OddIdeal.nD Cert.OddIdeal.τ).loc Cert.OddIdeal.main_arg0) = m ((c.tc : Thread Cert.OddIdeal.nD Cert.OddIdeal.τ).loc Cert.OddIdeal.main_arg0)
          ∧ r.2.mem ((c.tc : Thread Cert.OddIdeal.nD Cert.OddIdeal.τ).loc Cert.OddIdeal.main_arg1) = m ((c.tc : Thread Cert.OddIdeal.nD Cert.OddIdeal.τ).loc Cert.OddIdeal.main_arg1)
          ∧ r.2.mem ((c.tc : Thread Cert.OddIdeal.nD Cert.OddIdeal.τ).loc Cert.OddIdeal.main_arg2) = m ((c.tc : Thread Cert.OddIdeal.nD Cert.OddIdeal.τ).loc Cert.OddIdeal.main_arg2)
          ∧ r.2.mem ((c.tc : Thread Cert.OddIdeal.nD Cert.OddIdeal.τ).loc Cert.OddIdeal.main_arg3) = m ((c.tc : Thread Cert.OddIdeal.nD Cert.OddIdeal.τ).loc Cert.OddIdeal.main_arg3)
          ∧ r.2.mem ((c.tc : Thread Cert.OddIdeal.nD Cert.OddIdeal.τ).loc Cert.OddIdeal.main_arg4) = m ((c.tc : Thread Cert.OddIdeal.nD Cert.OddIdeal.τ).loc Cert.OddIdeal.main_arg4)
          ∧ r.2.mem ((c.tc : Thread Cert.OddIdeal.nD Cert.OddIdeal.τ).loc Cert.OddIdeal.main_arg5) = m ((c.tc : Thread Cert.OddIdeal.nD Cert.OddIdeal.τ).loc Cert.OddIdeal.main_arg5)
          ∧ r.2.mem ((c.tc : Thread Cert.OddIdeal.nD Cert.OddIdeal.τ).loc Cert.OddIdeal.main_arg6) = m ((c.tc : Thread Cert.OddIdeal.nD Cert.OddIdeal.τ).loc Cert.OddIdeal.main_arg6)
          ∧ r.2.mem ((c.tc : Thread Cert.OddIdeal.nD Cert.OddIdeal.τ).loc Cert.OddIdeal.main_arg7) = m ((c.tc : Thread Cert.OddIdeal.nD Cert.OddIdeal.τ).loc Cert.OddIdeal.main_arg7)
          ∧ r.2.mem ((c.tc : Thread Cert.OddIdeal.nD Cert.OddIdeal.τ).loc Cert.OddIdeal.main_arg8) = m ((c.tc : Thread Cert.OddIdeal.nD Cert.OddIdeal.τ).loc Cert.OddIdeal.main_arg8)
          ∧ r.2.mem ((c.tc : Thread Cert.OddIdeal.nD Cert.OddIdeal.τ).loc Cert.OddIdeal.main_arg9) = m ((c.tc : Thread Cert.OddIdeal.nD Cert.OddIdeal.τ).loc Cert.OddIdeal.main_arg9)
          ∧ r.2.mem ((c.tc : Thread Cert.OddIdeal.nD Cert.OddIdeal.τ).loc Cert.OddIdeal.main_arg10) = m ((c.tc : Thread Cert.OddIdeal.nD Cert.OddIdeal.τ).loc Cert.OddIdeal.main_arg10))
      ∧ θ_run (Cert.OddReferenceIdeal.defs (F := Ideal)) (onTc (τ := Cert.OddReferenceIdeal.τ) (Cert.OddReferenceIdeal.main (F := Ideal))) ⟨m', fun _ => 0, g'⟩ (fun r => ∀ c : Dev Cert.OddReferenceIdeal.nD,
          r.2.mem ((c.tc : Thread Cert.OddReferenceIdeal.nD Cert.OddReferenceIdeal.τ).loc Cert.OddReferenceIdeal.main_v30) = v0 c
          ∧ r.2.mem ((c.tc : Thread Cert.OddReferenceIdeal.nD Cert.OddReferenceIdeal.τ).loc Cert.OddReferenceIdeal.main_v52) = v1 c
          ∧ r.2.mem ((c.tc : Thread Cert.OddReferenceIdeal.nD Cert.OddReferenceIdeal.τ).loc Cert.OddReferenceIdeal.main_arg0) = m' ((c.tc : Thread Cert.OddReferenceIdeal.nD Cert.OddReferenceIdeal.τ).loc Cert.OddReferenceIdeal.main_arg0)
          ∧ r.2.mem ((c.tc : Thread Cert.OddReferenceIdeal.nD Cert.OddReferenceIdeal.τ).loc Cert.OddReferenceIdeal.main_arg1) = m' ((c.tc : Thread Cert.OddReferenceIdeal.nD Cert.OddReferenceIdeal.τ).loc Cert.OddReferenceIdeal.main_arg1)
          ∧ r.2.mem ((c.tc : Thread Cert.OddReferenceIdeal.nD Cert.OddReferenceIdeal.τ).loc Cert.OddReferenceIdeal.main_arg2) = m' ((c.tc : Thread Cert.OddReferenceIdeal.nD Cert.OddReferenceIdeal.τ).loc Cert.OddReferenceIdeal.main_arg2)
          ∧ r.2.mem ((c.tc : Thread Cert.OddReferenceIdeal.nD Cert.OddReferenceIdeal.τ).loc Cert.OddReferenceIdeal.main_arg3) = m' ((c.tc : Thread Cert.OddReferenceIdeal.nD Cert.OddReferenceIdeal.τ).loc Cert.OddReferenceIdeal.main_arg3)
          ∧ r.2.mem ((c.tc : Thread Cert.OddReferenceIdeal.nD Cert.OddReferenceIdeal.τ).loc Cert.OddReferenceIdeal.main_arg4) = m' ((c.tc : Thread Cert.OddReferenceIdeal.nD Cert.OddReferenceIdeal.τ).loc Cert.OddReferenceIdeal.main_arg4)
          ∧ r.2.mem ((c.tc : Thread Cert.OddReferenceIdeal.nD Cert.OddReferenceIdeal.τ).loc Cert.OddReferenceIdeal.main_arg5) = m' ((c.tc : Thread Cert.OddReferenceIdeal.nD Cert.OddReferenceIdeal.τ).loc Cert.OddReferenceIdeal.main_arg5)
          ∧ r.2.mem ((c.tc : Thread Cert.OddReferenceIdeal.nD Cert.OddReferenceIdeal.τ).loc Cert.OddReferenceIdeal.main_arg6) = m' ((c.tc : Thread Cert.OddReferenceIdeal.nD Cert.OddReferenceIdeal.τ).loc Cert.OddReferenceIdeal.main_arg6)
          ∧ r.2.mem ((c.tc : Thread Cert.OddReferenceIdeal.nD Cert.OddReferenceIdeal.τ).loc Cert.OddReferenceIdeal.main_arg7) = m' ((c.tc : Thread Cert.OddReferenceIdeal.nD Cert.OddReferenceIdeal.τ).loc Cert.OddReferenceIdeal.main_arg7)
          ∧ r.2.mem ((c.tc : Thread Cert.OddReferenceIdeal.nD Cert.OddReferenceIdeal.τ).loc Cert.OddReferenceIdeal.main_arg8) = m' ((c.tc : Thread Cert.OddReferenceIdeal.nD Cert.OddReferenceIdeal.τ).loc Cert.OddReferenceIdeal.main_arg8)
          ∧ r.2.mem ((c.tc : Thread Cert.OddReferenceIdeal.nD Cert.OddReferenceIdeal.τ).loc Cert.OddReferenceIdeal.main_arg9) = m' ((c.tc : Thread Cert.OddReferenceIdeal.nD Cert.OddReferenceIdeal.τ).loc Cert.OddReferenceIdeal.main_arg9)
          ∧ r.2.mem ((c.tc : Thread Cert.OddReferenceIdeal.nD Cert.OddReferenceIdeal.τ).loc Cert.OddReferenceIdeal.main_arg10) = m' ((c.tc : Thread Cert.OddReferenceIdeal.nD Cert.OddReferenceIdeal.τ).loc Cert.OddReferenceIdeal.main_arg10))

def preserves_InOdd_InOddIdeal : Prop :=
  True

def algebraic_InOddIdeal_InOddReferenceIdeal [hInOddIdeal : Cert.InOddIdeal.Facts] [hInOddReferenceIdeal : Cert.InOddReferenceIdeal.Facts] : Prop :=
  ∀ (m : (ℓ : Loc Cert.InOddIdeal.nD Cert.InOddIdeal.τ Cert.InOddIdeal.sig) → Buf (Elt Ideal) ℓ) (g : Dev Cert.InOddIdeal.nD → PrngReg)
    (m' : (ℓ : Loc Cert.InOddReferenceIdeal.nD Cert.InOddReferenceIdeal.τ Cert.InOddReferenceIdeal.sig) → Buf (Elt Ideal) ℓ) (g' : Dev Cert.InOddReferenceIdeal.nD → PrngReg), Pre_InOddIdeal m →
    (∀ c : Dev Cert.InOddIdeal.nD,
      m' ((c.tc : Thread Cert.InOddReferenceIdeal.nD Cert.InOddReferenceIdeal.τ).loc Cert.InOddReferenceIdeal.main_arg0) = m ((c.tc : Thread Cert.InOddIdeal.nD Cert.InOddIdeal.τ).loc Cert.InOddIdeal.main_arg0)
      ∧ m' ((c.tc : Thread Cert.InOddReferenceIdeal.nD Cert.InOddReferenceIdeal.τ).loc Cert.InOddReferenceIdeal.main_arg1) = m ((c.tc : Thread Cert.InOddIdeal.nD Cert.InOddIdeal.τ).loc Cert.InOddIdeal.main_arg1)) →
    ∃ (v0 : (c : Dev Cert.InOddIdeal.nD) → Buf (Elt Ideal) ((c.tc : Thread Cert.InOddIdeal.nD Cert.InOddIdeal.τ).loc Cert.InOddIdeal.main_v18_0)) (v1 : (c : Dev Cert.InOddIdeal.nD) → Buf (Elt Ideal) ((c.tc : Thread Cert.InOddIdeal.nD Cert.InOddIdeal.τ).loc Cert.InOddIdeal.main_v18_1)) (v2 : (c : Dev Cert.InOddIdeal.nD) → Buf (Elt Ideal) ((c.tc : Thread Cert.InOddIdeal.nD Cert.InOddIdeal.τ).loc Cert.InOddIdeal.main_v18_2)) (v3 : (c : Dev Cert.InOddIdeal.nD) → Buf (Elt Ideal) ((c.tc : Thread Cert.InOddIdeal.nD Cert.InOddIdeal.τ).loc Cert.InOddIdeal.main_v18_3)),
      θ_run (Cert.InOddIdeal.defs (F := Ideal)) (onTc (τ := Cert.InOddIdeal.τ) (Cert.InOddIdeal.main (F := Ideal))) ⟨m, fun _ => 0, g⟩ (fun r => ∀ c : Dev Cert.InOddIdeal.nD,
          r.2.mem ((c.tc : Thread Cert.InOddIdeal.nD Cert.InOddIdeal.τ).loc Cert.InOddIdeal.main_v18_0) = v0 c
          ∧ r.2.mem ((c.tc : Thread Cert.InOddIdeal.nD Cert.InOddIdeal.τ).loc Cert.InOddIdeal.main_v18_1) = v1 c
          ∧ r.2.mem ((c.tc : Thread Cert.InOddIdeal.nD Cert.InOddIdeal.τ).loc Cert.InOddIdeal.main_v18_2) = v2 c
          ∧ r.2.mem ((c.tc : Thread Cert.InOddIdeal.nD Cert.InOddIdeal.τ).loc Cert.InOddIdeal.main_v18_3) = v3 c
          ∧ r.2.mem ((c.tc : Thread Cert.InOddIdeal.nD Cert.InOddIdeal.τ).loc Cert.InOddIdeal.main_arg0) = m ((c.tc : Thread Cert.InOddIdeal.nD Cert.InOddIdeal.τ).loc Cert.InOddIdeal.main_arg0)
          ∧ r.2.mem ((c.tc : Thread Cert.InOddIdeal.nD Cert.InOddIdeal.τ).loc Cert.InOddIdeal.main_arg1) = m ((c.tc : Thread Cert.InOddIdeal.nD Cert.InOddIdeal.τ).loc Cert.InOddIdeal.main_arg1))
      ∧ θ_run (Cert.InOddReferenceIdeal.defs (F := Ideal)) (onTc (τ := Cert.InOddReferenceIdeal.τ) (Cert.InOddReferenceIdeal.main (F := Ideal))) ⟨m', fun _ => 0, g'⟩ (fun r => ∀ c : Dev Cert.InOddReferenceIdeal.nD,
          r.2.mem ((c.tc : Thread Cert.InOddReferenceIdeal.nD Cert.InOddReferenceIdeal.τ).loc Cert.InOddReferenceIdeal.main_v24) = v0 c
          ∧ r.2.mem ((c.tc : Thread Cert.InOddReferenceIdeal.nD Cert.InOddReferenceIdeal.τ).loc Cert.InOddReferenceIdeal.main_v25) = v1 c
          ∧ r.2.mem ((c.tc : Thread Cert.InOddReferenceIdeal.nD Cert.InOddReferenceIdeal.τ).loc Cert.InOddReferenceIdeal.main_v26) = v2 c
          ∧ r.2.mem ((c.tc : Thread Cert.InOddReferenceIdeal.nD Cert.InOddReferenceIdeal.τ).loc Cert.InOddReferenceIdeal.main_v3) = v3 c
          ∧ r.2.mem ((c.tc : Thread Cert.InOddReferenceIdeal.nD Cert.InOddReferenceIdeal.τ).loc Cert.InOddReferenceIdeal.main_arg0) = m' ((c.tc : Thread Cert.InOddReferenceIdeal.nD Cert.InOddReferenceIdeal.τ).loc Cert.InOddReferenceIdeal.main_arg0)
          ∧ r.2.mem ((c.tc : Thread Cert.InOddReferenceIdeal.nD Cert.InOddReferenceIdeal.τ).loc Cert.InOddReferenceIdeal.main_arg1) = m' ((c.tc : Thread Cert.InOddReferenceIdeal.nD Cert.InOddReferenceIdeal.τ).loc Cert.InOddReferenceIdeal.main_arg1))

def Claim : Prop :=
  ∃ (hKernel : Cert.Kernel.Facts) (hKernelIdeal : Cert.KernelIdeal.Facts) (hReferenceIdeal : Cert.ReferenceIdeal.Facts) (hUp : Cert.Up.Facts) (hUpIdeal : Cert.UpIdeal.Facts) (hUpReferenceIdeal : Cert.UpReferenceIdeal.Facts) (hDown : Cert.Down.Facts) (hDownIdeal : Cert.DownIdeal.Facts) (hDownReferenceIdeal : Cert.DownReferenceIdeal.Facts) (hMid : Cert.Mid.Facts) (hMidIdeal : Cert.MidIdeal.Facts) (hMidReferenceIdeal : Cert.MidReferenceIdeal.Facts) (hOdd : Cert.Odd.Facts) (hOddIdeal : Cert.OddIdeal.Facts) (hOddReferenceIdeal : Cert.OddReferenceIdeal.Facts) (hInOdd : Cert.InOdd.Facts) (hInOddIdeal : Cert.InOddIdeal.Facts) (hInOddReferenceIdeal : Cert.InOddReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Up (hUp := hUp)
    ∧ quiescent_UpIdeal (hUpIdeal := hUpIdeal)
    ∧ quiescent_UpReferenceIdeal (hUpReferenceIdeal := hUpReferenceIdeal)
    ∧ quiescent_Down (hDown := hDown)
    ∧ quiescent_DownIdeal (hDownIdeal := hDownIdeal)
    ∧ quiescent_DownReferenceIdeal (hDownReferenceIdeal := hDownReferenceIdeal)
    ∧ quiescent_Mid (hMid := hMid)
    ∧ quiescent_MidIdeal (hMidIdeal := hMidIdeal)
    ∧ quiescent_MidReferenceIdeal (hMidReferenceIdeal := hMidReferenceIdeal)
    ∧ quiescent_Odd (hOdd := hOdd)
    ∧ quiescent_OddIdeal (hOddIdeal := hOddIdeal)
    ∧ quiescent_OddReferenceIdeal (hOddReferenceIdeal := hOddReferenceIdeal)
    ∧ quiescent_InOdd (hInOdd := hInOdd)
    ∧ quiescent_InOddIdeal (hInOddIdeal := hInOddIdeal)
    ∧ quiescent_InOddReferenceIdeal (hInOddReferenceIdeal := hInOddReferenceIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Up_UpIdeal
    ∧ algebraic_UpIdeal_UpReferenceIdeal (hUpIdeal := hUpIdeal) (hUpReferenceIdeal := hUpReferenceIdeal)
    ∧ preserves_Down_DownIdeal
    ∧ algebraic_DownIdeal_DownReferenceIdeal (hDownIdeal := hDownIdeal) (hDownReferenceIdeal := hDownReferenceIdeal)
    ∧ preserves_Mid_MidIdeal
    ∧ algebraic_MidIdeal_MidReferenceIdeal (hMidIdeal := hMidIdeal) (hMidReferenceIdeal := hMidReferenceIdeal)
    ∧ preserves_Odd_OddIdeal
    ∧ algebraic_OddIdeal_OddReferenceIdeal (hOddIdeal := hOddIdeal) (hOddReferenceIdeal := hOddReferenceIdeal)
    ∧ preserves_InOdd_InOddIdeal
    ∧ algebraic_InOddIdeal_InOddReferenceIdeal (hInOddIdeal := hInOddIdeal) (hInOddReferenceIdeal := hInOddReferenceIdeal)
-- ==== Pre_finite.lean ====
abbrev S2x16384x12x128 : Shape := ⟨4, ![2, 16384, 12, 128]⟩
abbrev S2x16384x4x128 : Shape := ⟨4, ![2, 16384, 4, 128]⟩
abbrev S2x256x4x128 : Shape := ⟨4, ![2, 256, 4, 128]⟩
abbrev S_ : Shape := ⟨0, ![]⟩

class Facts : Prop where
  bcast_S_S2x16384x12x128 : S_.BroadcastsInDim S2x16384x12x128 (![] : Fin 0 → Fin S2x16384x12x128.rank)
  reducesTo_S2x16384x12x128_S_d0_1_2_3 : S2x16384x12x128.ReducesTo [0, 1, 2, 3] S_
  h_S_ : 0 < S_.numel
  bcast_S_S2x16384x4x128 : S_.BroadcastsInDim S2x16384x4x128 (![] : Fin 0 → Fin S2x16384x4x128.rank)
  reducesTo_S2x16384x4x128_S_d0_1_2_3 : S2x16384x4x128.ReducesTo [0, 1, 2, 3] S_
  bcast_S_S2x256x4x128 : S_.BroadcastsInDim S2x256x4x128 (![] : Fin 0 → Fin S2x256x4x128.rank)
  reducesTo_S2x256x4x128_S_d0_1_2_3 : S2x256x4x128.ReducesTo [0, 1, 2, 3] S_

variable [Facts]

def fn {F : FTy → Type} [FloatOps F] (main_arg0 : FVec F S2x16384x12x128 .f32) (main_arg1 : FVec F S2x16384x4x128 .f32) (main_arg2 : FVec F S2x16384x4x128 .f32) (main_arg3 : FVec F S2x256x4x128 .f32) (main_arg4 : FVec F S2x256x4x128 .f32) : IVec S_ 1 :=
  let main_v0 : FVec F S2x16384x12x128 .f32 := Host.absf main_arg0
  let main_cst : FVec F S_ .f32 := constant S_ .f32 0x7F800000#32
  let main_v1 : FVec F S2x16384x12x128 .f32 := broadcastInDim S2x16384x12x128 ![] bcast_S_S2x16384x12x128 main_cst
  let main_v2 : IVec S2x16384x12x128 1 := cmpf .olt main_v0 main_v1
  let main_c : IVec S_ 1 := constantI S_ 1 1#1
  let main_v3 : IVec S_ 1 := (fun x v => Host.reduce IntOp.andi x v reducesTo_S2x16384x12x128_S_d0_1_2_3 h_S_) main_v2 main_c
  let main_v4 : FVec F S2x16384x4x128 .f32 := Host.absf main_arg1
  let main_cst_0 : FVec F S_ .f32 := constant S_ .f32 0x7F800000#32
  let main_v5 : FVec F S2x16384x4x128 .f32 := broadcastInDim S2x16384x4x128 ![] bcast_S_S2x16384x4x128 main_cst_0
  let main_v6 : IVec S2x16384x4x128 1 := cmpf .olt main_v4 main_v5
  let main_c_1 : IVec S_ 1 := constantI S_ 1 1#1
  let main_v7 : IVec S_ 1 := (fun x v => Host.reduce IntOp.andi x v reducesTo_S2x16384x4x128_S_d0_1_2_3 h_S_) main_v6 main_c_1
  let main_v8 : IVec S_ 1 := andi main_v3 main_v7
  let main_v9 : FVec F S2x256x4x128 .f32 := Host.absf main_arg3
  let main_cst_2 : FVec F S_ .f32 := constant S_ .f32 0x7F800000#32
  let main_v10 : FVec F S2x256x4x128 .f32 := broadcastInDim S2x256x4x128 ![] bcast_S_S2x256x4x128 main_cst_2
  let main_v11 : IVec S2x256x4x128 1 := cmpf .olt main_v9 main_v10
  let main_c_3 : IVec S_ 1 := constantI S_ 1 1#1
  let main_v12 : IVec S_ 1 := (fun x v => Host.reduce IntOp.andi x v reducesTo_S2x256x4x128_S_d0_1_2_3 h_S_) main_v11 main_c_3
  let main_v13 : IVec S_ 1 := andi main_v8 main_v12
  main_v13
-- ==== Kernel.lean ====
abbrev S2x16384x12x128 : Shape := ⟨4, ![2, 16384, 12, 128]⟩
abbrev S2x16384x4x128 : Shape := ⟨4, ![2, 16384, 4, 128]⟩
abbrev S2x256x4x128 : Shape := ⟨4, ![2, 256, 4, 128]⟩
abbrev S2x16384x1536 : Shape := ⟨3, ![2, 16384, 1536]⟩
abbrev S2x16384x512 : Shape := ⟨3, ![2, 16384, 512]⟩
abbrev S2x512x16384 : Shape := ⟨3, ![2, 512, 16384]⟩
abbrev S2x256x512 : Shape := ⟨3, ![2, 256, 512]⟩
abbrev S2x512x256 : Shape := ⟨3, ![2, 512, 256]⟩
abbrev S1x1024x384 : Shape := ⟨3, ![1, 1024, 384]⟩
abbrev S1x16384x128 : Shape := ⟨3, ![1, 16384, 128]⟩
abbrev S1x128x16384 : Shape := ⟨3, ![1, 128, 16384]⟩
abbrev S1x256x128 : Shape := ⟨3, ![1, 256, 128]⟩
abbrev S1x128x256 : Shape := ⟨3, ![1, 128, 256]⟩
abbrev S128x3072 : Shape := ⟨2, ![128, 3072]⟩
abbrev S1x3072 : Shape := ⟨2, ![1, 3072]⟩
abbrev S1024x3072 : Shape := ⟨2, ![1024, 3072]⟩
abbrev S1024x384 : Shape := ⟨2, ![1024, 384]⟩
abbrev S1024x128 : Shape := ⟨2, ![1024, 128]⟩
abbrev S3072x128 : Shape := ⟨2, ![3072, 128]⟩
abbrev S256x128 : Shape := ⟨2, ![256, 128]⟩
abbrev S256x3072 : Shape := ⟨2, ![256, 3072]⟩
abbrev S3072 : Shape := ⟨1, ![3072]⟩
abbrev S128x256 : Shape := ⟨2, ![128, 256]⟩
abbrev S1x1024x128 : Shape := ⟨3, ![1, 1024, 128]⟩
abbrev S1x128x1024 : Shape := ⟨3, ![1, 128, 1024]⟩
abbrev S128x1024 : Shape := ⟨2, ![128, 1024]⟩

abbrev nBuf : Space → Nat
  | .hbm => 17
  | .vmem => 16
  | .smem => 0
  | _ => 0

abbrev bufTy : (tb : Table) → Fin (tcTables nBuf tb) → BufTy
  | .hbm, ⟨0, _⟩ => ⟨S2x16384x12x128, .f32⟩
  | .hbm, ⟨1, _⟩ => ⟨S2x16384x4x128, .f32⟩
  | .hbm, ⟨2, _⟩ => ⟨S2x16384x4x128, .f32⟩
  | .hbm, ⟨3, _⟩ => ⟨S2x256x4x128, .f32⟩
  | .hbm, ⟨4, _⟩ => ⟨S2x256x4x128, .f32⟩
  | .hbm, ⟨5, _⟩ => ⟨S2x16384x1536, .f32⟩
  | .hbm, ⟨6, _⟩ => ⟨S2x16384x512, .f32⟩
  | .hbm, ⟨7, _⟩ => ⟨S2x16384x512, .bf16⟩
  | .hbm, ⟨8, _⟩ => ⟨S2x16384x512, .f32⟩
  | .hbm, ⟨9, _⟩ => ⟨S2x16384x512, .bf16⟩
  | .hbm, ⟨10, _⟩ => ⟨S2x512x16384, .bf16⟩
  | .hbm, ⟨11, _⟩ => ⟨S2x256x512, .f32⟩
  | .hbm, ⟨12, _⟩ => ⟨S2x256x512, .bf16⟩
  | .hbm, ⟨13, _⟩ => ⟨S2x256x512, .f32⟩
  | .hbm, ⟨14, _⟩ => ⟨S2x256x512, .bf16⟩
  | .hbm, ⟨15, _⟩ => ⟨S2x512x256, .bf16⟩
  | .hbm, ⟨16, _⟩ => ⟨S2x16384x1536, .bf16⟩
  | .local _ .vmem, ⟨0, _⟩ => ⟨S1x1024x384, .f32⟩
  | .local _ .vmem, ⟨1, _⟩ => ⟨S1x1024x384, .f32⟩
  | .local _ .vmem, ⟨2, _⟩ => ⟨S1x16384x128, .bf16⟩
  | .local _ .vmem, ⟨3, _⟩ => ⟨S1x16384x128, .bf16⟩
  | .local _ .vmem, ⟨4, _⟩ => ⟨S1x128x16384, .bf16⟩
  | .local _ .vmem, ⟨5, _⟩ => ⟨S1x128x16384, .bf16⟩
  | .local _ .vmem, ⟨6, _⟩ => ⟨S1x256x128, .bf16⟩
  | .local _ .vmem, ⟨7, _⟩ => ⟨S1x256x128, .bf16⟩
  | .local _ .vmem, ⟨8, _⟩ => ⟨S1x128x256, .bf16⟩
  | .local _ .vmem, ⟨9, _⟩ => ⟨S1x128x256, .bf16⟩
  | .local _ .vmem, ⟨10, _⟩ => ⟨S1x1024x384, .bf16⟩
  | .local _ .vmem, ⟨11, _⟩ => ⟨S1x1024x384, .bf16⟩
  | .local _ .vmem, ⟨12, _⟩ => ⟨S128x3072, .f32⟩
  | .local _ .vmem, ⟨13, _⟩ => ⟨S1x3072, .f32⟩
  | .local _ .vmem, ⟨14, _⟩ => ⟨S1024x3072, .bf16⟩
  | .local _ .vmem, ⟨15, _⟩ => ⟨S1024x3072, .bf16⟩
  | _, _ => ⟨S2x16384x12x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![2, 4, 16], ![false, false, false]⟩

@[reducible] def k0_t1_loop : Scf.Loop 32 :=
  let c0_i32 : BitVec 32 := 0#32
  let c7_i32 : BitVec 32 := 7#32
  let v40 : BitVec 32 := Scalar.addi c0_i32 c7_i32
  let c1_i32 : BitVec 32 := 1#32
  ⟨c0_i32, v40, c1_i32⟩
def k0_mult1 (k0_t1 : Fin k0_t1_loop.trips) : BitVec 32 :=
  let c2_i32 : BitVec 32 := 2#32
  let c0_i32 : BitVec 32 := 0#32
  let c1_i32 : BitVec 32 := 1#32
  let arg13 : BitVec 32 := Scf.iv c0_i32 c1_i32 k0_t1
  let v96 : BitVec 32 := Scalar.muli c2_i32 arg13
  let c1_i32_67 : BitVec 32 := 1#32
  let v97 : BitVec 32 := Scalar.addi v96 c1_i32_67
  let c1024_i32 : BitVec 32 := 1024#32
  let v98 : BitVec 32 := Scalar.muli v97 c1024_i32
  v98
def k0_off1 (k0_t1 : Fin k0_t1_loop.trips) (c1_i32_67 : BitVec 32) : Fin 3 → Nat :=
  let c0_68 : Index := 0#32
  let c2_i32 : BitVec 32 := 2#32
  let c0_i32 : BitVec 32 := 0#32
  let c1_i32 : BitVec 32 := 1#32
  let arg13 : BitVec 32 := Scf.iv c0_i32 c1_i32 k0_t1
  let v96 : BitVec 32 := Scalar.muli c2_i32 arg13
  let v97 : BitVec 32 := Scalar.addi v96 c1_i32_67
  let c1024_i32 : BitVec 32 := 1024#32
  let v98 : BitVec 32 := Scalar.muli v97 c1024_i32
  let v99 : BitVec 32 := v98
  let v100 : Index := Scalar.indexCast v99
  let c0_69 : Index := 0#32
  ![0, v100.toNat, 0]
def k0_mult2 (k0_t1 : Fin k0_t1_loop.trips) : BitVec 32 :=
  let c2_i32_78 : BitVec 32 := 2#32
  let c0_i32 : BitVec 32 := 0#32
  let c1_i32 : BitVec 32 := 1#32
  let arg13 : BitVec 32 := Scf.iv c0_i32 c1_i32 k0_t1
  let v116 : BitVec 32 := Scalar.muli c2_i32_78 arg13
  let c1024_i32_81 : BitVec 32 := 1024#32
  let v118 : BitVec 32 := Scalar.muli v116 c1024_i32_81
  v118
def k0_off2 (k0_t1 : Fin k0_t1_loop.trips) : Fin 3 → Nat :=
  let c0_82 : Index := 0#32
  let c0_83 : Index := 0#32
  let c2_i32_78 : BitVec 32 := 2#32
  let c0_i32 : BitVec 32 := 0#32
  let c1_i32 : BitVec 32 := 1#32
  let arg13 : BitVec 32 := Scf.iv c0_i32 c1_i32 k0_t1
  let v116 : BitVec 32 := Scalar.muli c2_i32_78 arg13
  let c1024_i32_81 : BitVec 32 := 1024#32
  let v118 : BitVec 32 := Scalar.muli v116 c1024_i32_81
  let v119 : BitVec 32 := v118
  let v120 : Index := Scalar.indexCast v119
  ![0, 0, v120.toNat]
def k0_mult3 (k0_t1 : Fin k0_t1_loop.trips) : BitVec 32 :=
  let c2_i32_89 : BitVec 32 := 2#32
  let c0_i32 : BitVec 32 := 0#32
  let c1_i32 : BitVec 32 := 1#32
  let arg13 : BitVec 32 := Scf.iv c0_i32 c1_i32 k0_t1
  let v129 : BitVec 32 := Scalar.muli c2_i32_89 arg13
  let c2_i32_90 : BitVec 32 := 2#32
  let v130 : BitVec 32 := Scalar.addi v129 c2_i32_90
  let c1024_i32_91 : BitVec 32 := 1024#32
  let v131 : BitVec 32 := Scalar.muli v130 c1024_i32_91
  v131
def k0_mult4 (k0_t1 : Fin k0_t1_loop.trips) : BitVec 32 :=
  let c2_i32_102 : BitVec 32 := 2#32
  let c0_i32 : BitVec 32 := 0#32
  let c1_i32 : BitVec 32 := 1#32
  let arg13 : BitVec 32 := Scf.iv c0_i32 c1_i32 k0_t1
  let v149 : BitVec 32 := Scalar.muli c2_i32_102 arg13
  let c1_i32_103 : BitVec 32 := 1#32
  let v150 : BitVec 32 := Scalar.addi v149 c1_i32_103
  let c1024_i32_106 : BitVec 32 := 1024#32
  let v152 : BitVec 32 := Scalar.muli v150 c1024_i32_106
  v152
def k0_off3 (k0_t1 : Fin k0_t1_loop.trips) : Fin 3 → Nat :=
  let c0_107 : Index := 0#32
  let c0_108 : Index := 0#32
  let c2_i32_102 : BitVec 32 := 2#32
  let c0_i32 : BitVec 32 := 0#32
  let c1_i32 : BitVec 32 := 1#32
  let arg13 : BitVec 32 := Scf.iv c0_i32 c1_i32 k0_t1
  let v149 : BitVec 32 := Scalar.muli c2_i32_102 arg13
  let c1_i32_103 : BitVec 32 := 1#32
  let v150 : BitVec 32 := Scalar.addi v149 c1_i32_103
  let c1024_i32_106 : BitVec 32 := 1024#32
  let v152 : BitVec 32 := Scalar.muli v150 c1024_i32_106
  let v153 : BitVec 32 := v152
  let v154 : Index := Scalar.indexCast v153
  ![0, 0, v154.toNat]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x1024x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x16384x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x128x16384 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x128x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x1024x384 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== KernelIdeal.lean ====
variable {F : FTy → Type} [FloatOps F] [Named F]
def κ : String → Option EReal := fun
  | "qk_scale_log2" => some (((Real.sqrt 128)⁻¹ * (Real.log 2)⁻¹ : ℝ) : EReal)
  | _ => none
-- ==== ReferenceIdeal.lean ====
abbrev S2x16384x12x128 : Shape := ⟨4, ![2, 16384, 12, 128]⟩
abbrev S2x16384x4x128 : Shape := ⟨4, ![2, 16384, 4, 128]⟩
abbrev S2x256x4x128 : Shape := ⟨4, ![2, 256, 4, 128]⟩
abbrev S2x16640x4x128 : Shape := ⟨4, ![2, 16640, 4, 128]⟩
abbrev S2x16384x4x3x128 : Shape := ⟨5, ![2, 16384, 4, 3, 128]⟩
abbrev S2x4x16640x16384x3 : Shape := ⟨5, ![2, 4, 16640, 16384, 3]⟩
abbrev S2x4x3x16384x16640 : Shape := ⟨5, ![2, 4, 3, 16384, 16640]⟩
abbrev S_ : Shape := ⟨0, ![]⟩
abbrev S2x4x3x16384 : Shape := ⟨4, ![2, 4, 3, 16384]⟩
abbrev S2x4x3x16384x1 : Shape := ⟨5, ![2, 4, 3, 16384, 1]⟩
abbrev S2x4x128x3x16384 : Shape := ⟨5, ![2, 4, 128, 3, 16384]⟩
abbrev S2x16384x1536 : Shape := ⟨3, ![2, 16384, 1536]⟩

abbrev nBuf : Space → Nat
  | .hbm => 32
  | .vmem => 0
  | .smem => 0
  | _ => 0

abbrev bufTy : (tb : Table) → Fin (tcTables nBuf tb) → BufTy
  | .hbm, ⟨0, _⟩ => ⟨S2x16384x12x128, .f32⟩
  | .hbm, ⟨1, _⟩ => ⟨S2x16384x4x128, .f32⟩
  | .hbm, ⟨2, _⟩ => ⟨S2x16384x4x128, .f32⟩
  | .hbm, ⟨3, _⟩ => ⟨S2x256x4x128, .f32⟩
  | .hbm, ⟨4, _⟩ => ⟨S2x256x4x128, .f32⟩
  | .hbm, ⟨5, _⟩ => ⟨S2x16640x4x128, .f32⟩
  | .hbm, ⟨6, _⟩ => ⟨S2x16640x4x128, .f32⟩
  | .hbm, ⟨7, _⟩ => ⟨S2x16384x4x3x128, .f32⟩
  | .hbm, ⟨8, _⟩ => ⟨S2x4x16640x16384x3, .f32⟩
  | .hbm, ⟨9, _⟩ => ⟨S2x4x3x16384x16640, .f32⟩
  | .hbm, ⟨10, _⟩ => ⟨S_, .f32⟩
  | .hbm, ⟨11, _⟩ => ⟨S_, .f32⟩
  | .hbm, ⟨12, _⟩ => ⟨S2x4x3x16384x16640, .f32⟩
  | .hbm, ⟨13, _⟩ => ⟨S2x4x3x16384x16640, .f32⟩
  | .hbm, ⟨14, _⟩ => ⟨S_, .f32⟩
  | .hbm, ⟨15, _⟩ => ⟨S2x4x3x16384, .f32⟩
  | .hbm, ⟨16, _⟩ => ⟨S_, .f32⟩
  | .hbm, ⟨17, _⟩ => ⟨S2x4x3x16384, .f32⟩
  | .hbm, ⟨18, _⟩ => ⟨S2x4x3x16384, .f32⟩
  | .hbm, ⟨19, _⟩ => ⟨S2x4x3x16384x1, .f32⟩
  | .hbm, ⟨20, _⟩ => ⟨S2x4x3x16384x16640, .f32⟩
  | .hbm, ⟨21, _⟩ => ⟨S2x4x3x16384x16640, .f32⟩
  | .hbm, ⟨22, _⟩ => ⟨S2x4x3x16384x16640, .f32⟩
  | .hbm, ⟨23, _⟩ => ⟨S_, .f32⟩
  | .hbm, ⟨24, _⟩ => ⟨S2x4x3x16384, .f32⟩
  | .hbm, ⟨25, _⟩ => ⟨S2x4x3x16384x1, .f32⟩
  | .hbm, ⟨26, _⟩ => ⟨S2x4x3x16384x16640, .f32⟩
  | .hbm, ⟨27, _⟩ => ⟨S2x4x3x16384x16640, .f32⟩
  | .hbm, ⟨28, _⟩ => ⟨S2x4x128x3x16384, .f32⟩
  | .hbm, ⟨29, _⟩ => ⟨S2x16384x4x3x128, .f32⟩
  | .hbm, ⟨30, _⟩ => ⟨S2x16384x1536, .f32⟩
  | .hbm, ⟨31, _⟩ => ⟨S2x16384x1536, .bf16⟩
  | _, _ => ⟨S2x16384x12x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩

abbrev nD : Nat := 1
abbrev τ : Topo := Topo.v7x

variable {F : FTy → Type} [FloatOps F]
-- ==== Up.lean ====
abbrev S2x16384x2048 : Shape := ⟨3, ![2, 16384, 2048]⟩
abbrev S2x2048x5632 : Shape := ⟨3, ![2, 2048, 5632]⟩
abbrev S32768x2048 : Shape := ⟨2, ![32768, 2048]⟩
abbrev S32768x5632 : Shape := ⟨2, ![32768, 5632]⟩
abbrev S1024x2048 : Shape := ⟨2, ![1024, 2048]⟩
abbrev S1x2048x512 : Shape := ⟨3, ![1, 2048, 512]⟩
abbrev S1024x512 : Shape := ⟨2, ![1024, 512]⟩
abbrev S2048x512 : Shape := ⟨2, ![2048, 512]⟩

abbrev nBuf : Space → Nat
  | .hbm => 6
  | .vmem => 10
  | .smem => 0
  | _ => 0

abbrev bufTy : (tb : Table) → Fin (tcTables nBuf tb) → BufTy
  | .hbm, ⟨0, _⟩ => ⟨S2x16384x2048, .f32⟩
  | .hbm, ⟨1, _⟩ => ⟨S2x2048x5632, .f32⟩
  | .hbm, ⟨2, _⟩ => ⟨S2x2048x5632, .f32⟩
  | .hbm, ⟨3, _⟩ => ⟨S2x16384x2048, .bf16⟩
  | .hbm, ⟨4, _⟩ => ⟨S32768x2048, .bf16⟩
  | .hbm, ⟨5, _⟩ => ⟨S32768x5632, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x512, .f32⟩
  | .local _ .vmem, ⟨3, _⟩ => ⟨S1x2048x512, .f32⟩
  | .local _ .vmem, ⟨4, _⟩ => ⟨S1x2048x512, .f32⟩
  | .local _ .vmem, ⟨5, _⟩ => ⟨S1x2048x512, .f32⟩
  | .local _ .vmem, ⟨6, _⟩ => ⟨S1024x512, .bf16⟩
  | .local _ .vmem, ⟨7, _⟩ => ⟨S1024x512, .bf16⟩
  | .local _ .vmem, ⟨8, _⟩ => ⟨S2048x512, .bf16⟩
  | .local _ .vmem, ⟨9, _⟩ => ⟨S2048x512, .bf16⟩
  | _, _ => ⟨S2x16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![11, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== UpReferenceIdeal.lean ====
abbrev S2x16384x2048 : Shape := ⟨3, ![2, 16384, 2048]⟩
abbrev S2x2048x5632 : Shape := ⟨3, ![2, 2048, 5632]⟩
abbrev S1x2048x5632 : Shape := ⟨3, ![1, 2048, 5632]⟩
abbrev S2048x5632 : Shape := ⟨2, ![2048, 5632]⟩
abbrev S2x16384x5632 : Shape := ⟨3, ![2, 16384, 5632]⟩
abbrev S_ : Shape := ⟨0, ![]⟩
abbrev S32768x5632 : Shape := ⟨2, ![32768, 5632]⟩

abbrev nBuf : Space → Nat
  | .hbm => 21
  | .vmem => 0
  | .smem => 0
  | _ => 0

abbrev bufTy : (tb : Table) → Fin (tcTables nBuf tb) → BufTy
  | .hbm, ⟨0, _⟩ => ⟨S2x16384x2048, .f32⟩
  | .hbm, ⟨1, _⟩ => ⟨S2x2048x5632, .f32⟩
  | .hbm, ⟨2, _⟩ => ⟨S2x2048x5632, .f32⟩
  | .hbm, ⟨3, _⟩ => ⟨S1x2048x5632, .f32⟩
  | .hbm, ⟨4, _⟩ => ⟨S2048x5632, .f32⟩
  | .hbm, ⟨5, _⟩ => ⟨S2x16384x5632, .f32⟩
  | .hbm, ⟨6, _⟩ => ⟨S2x16384x5632, .f32⟩
  | .hbm, ⟨7, _⟩ => ⟨S2x16384x5632, .f32⟩
  | .hbm, ⟨8, _⟩ => ⟨S_, .f32⟩
  | .hbm, ⟨9, _⟩ => ⟨S2x16384x5632, .f32⟩
  | .hbm, ⟨10, _⟩ => ⟨S2x16384x5632, .f32⟩
  | .hbm, ⟨11, _⟩ => ⟨S_, .f32⟩
  | .hbm, ⟨12, _⟩ => ⟨S2x16384x5632, .f32⟩
  | .hbm, ⟨13, _⟩ => ⟨S2x16384x5632, .f32⟩
  | .hbm, ⟨14, _⟩ => ⟨S2x16384x5632, .f32⟩
  | .hbm, ⟨15, _⟩ => ⟨S1x2048x5632, .f32⟩
  | .hbm, ⟨16, _⟩ => ⟨S2048x5632, .f32⟩
  | .hbm, ⟨17, _⟩ => ⟨S2x16384x5632, .f32⟩
  | .hbm, ⟨18, _⟩ => ⟨S2x16384x5632, .f32⟩
  | .hbm, ⟨19, _⟩ => ⟨S32768x5632, .f32⟩
  | .hbm, ⟨20, _⟩ => ⟨S32768x5632, .bf16⟩
  | _, _ => ⟨S2x16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩

abbrev nD : Nat := 1
abbrev τ : Topo := Topo.v7x

variable {F : FTy → Type} [FloatOps F]
-- ==== Down.lean ====
abbrev S2x16384x5632 : Shape := ⟨3, ![2, 16384, 5632]⟩
abbrev S2x5632x2048 : Shape := ⟨3, ![2, 5632, 2048]⟩
abbrev S2x16384x2048 : Shape := ⟨3, ![2, 16384, 2048]⟩
abbrev S2x1x2048 : Shape := ⟨3, ![2, 1, 2048]⟩
abbrev S2048 : Shape := ⟨1, ![2048]⟩
abbrev S_ : Shape := ⟨0, ![]⟩
abbrev S1x5632x2048 : Shape := ⟨3, ![1, 5632, 2048]⟩
abbrev S5632x2048 : Shape := ⟨2, ![5632, 2048]⟩
abbrev S1x2048 : Shape := ⟨2, ![1, 2048]⟩
abbrev S1x512x5632 : Shape := ⟨3, ![1, 512, 5632]⟩
abbrev S1x512x2048 : Shape := ⟨3, ![1, 512, 2048]⟩
abbrev S1x1x2048 : Shape := ⟨3, ![1, 1, 2048]⟩
abbrev S1x256x2048 : Shape := ⟨3, ![1, 256, 2048]⟩
abbrev S256x2048 : Shape := ⟨2, ![256, 2048]⟩
abbrev S1x256x5632 : Shape := ⟨3, ![1, 256, 5632]⟩
abbrev S256x5632 : Shape := ⟨2, ![256, 5632]⟩
abbrev S256 : Shape := ⟨1, ![256]⟩
abbrev S256x1 : Shape := ⟨2, ![256, 1]⟩

abbrev nBuf : Space → Nat
  | .hbm => 13
  | .vmem => 14
  | .smem => 0
  | _ => 0

abbrev bufTy : (tb : Table) → Fin (tcTables nBuf tb) → BufTy
  | .hbm, ⟨0, _⟩ => ⟨S2x16384x5632, .f32⟩
  | .hbm, ⟨1, _⟩ => ⟨S2x5632x2048, .f32⟩
  | .hbm, ⟨2, _⟩ => ⟨S2x16384x2048, .f32⟩
  | .hbm, ⟨3, _⟩ => ⟨S2x1x2048, .f32⟩
  | .hbm, ⟨4, _⟩ => ⟨S2048, .f32⟩
  | .hbm, ⟨5, _⟩ => ⟨S_, .f32⟩
  | .hbm, ⟨6, _⟩ => ⟨S2x1x2048, .f32⟩
  | .hbm, ⟨7, _⟩ => ⟨S2x16384x5632, .bf16⟩
  | .hbm, ⟨8, _⟩ => ⟨S1x5632x2048, .f32⟩
  | .hbm, ⟨9, _⟩ => ⟨S5632x2048, .f32⟩
  | .hbm, ⟨10, _⟩ => ⟨S5632x2048, .bf16⟩
  | .hbm, ⟨11, _⟩ => ⟨S1x2048, .f32⟩
  | .hbm, ⟨12, _⟩ => ⟨S2x16384x2048, .f32⟩
  | .local _ .vmem, ⟨0, _⟩ => ⟨S1x512x5632, .bf16⟩
  | .local _ .vmem, ⟨1, _⟩ => ⟨S1x512x5632, .bf16⟩
  | .local _ .vmem, ⟨2, _⟩ => ⟨S5632x2048, .bf16⟩
  | .local _ .vmem, ⟨3, _⟩ => ⟨S1x512x2048, .f32⟩
  | .local _ .vmem, ⟨4, _⟩ => ⟨S1x512x2048, .f32⟩
  | .local _ .vmem, ⟨5, _⟩ => ⟨S1x1x2048, .f32⟩
  | .local _ .vmem, ⟨6, _⟩ => ⟨S1x1x2048, .f32⟩
  | .local _ .vmem, ⟨7, _⟩ => ⟨S1x2048, .f32⟩
  | .local _ .vmem, ⟨8, _⟩ => ⟨S1x1x2048, .f32⟩
  | .local _ .vmem, ⟨9, _⟩ => ⟨S1x1x2048, .f32⟩
  | .local _ .vmem, ⟨10, _⟩ => ⟨S1x1x2048, .f32⟩
  | .local _ .vmem, ⟨11, _⟩ => ⟨S1x1x2048, .f32⟩
  | .local _ .vmem, ⟨12, _⟩ => ⟨S1x512x2048, .f32⟩
  | .local _ .vmem, ⟨13, _⟩ => ⟨S1x512x2048, .f32⟩
  | _, _ => ⟨S2x16384x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![2, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S5632x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x1x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== DownReferenceIdeal.lean ====
abbrev S2x16384x5632 : Shape := ⟨3, ![2, 16384, 5632]⟩
abbrev S2x5632x2048 : Shape := ⟨3, ![2, 5632, 2048]⟩
abbrev S2x16384x2048 : Shape := ⟨3, ![2, 16384, 2048]⟩
abbrev S2x1x2048 : Shape := ⟨3, ![2, 1, 2048]⟩
abbrev S2048 : Shape := ⟨1, ![2048]⟩
abbrev S1x5632x2048 : Shape := ⟨3, ![1, 5632, 2048]⟩
abbrev S5632x2048 : Shape := ⟨2, ![5632, 2048]⟩
abbrev S_ : Shape := ⟨0, ![]⟩
abbrev S2x16384 : Shape := ⟨2, ![2, 16384]⟩
abbrev S2x16384x1 : Shape := ⟨3, ![2, 16384, 1]⟩
abbrev S1x1x2048 : Shape := ⟨3, ![1, 1, 2048]⟩

abbrev nBuf : Space → Nat
  | .hbm => 27
  | .vmem => 0
  | .smem => 0
  | _ => 0

abbrev bufTy : (tb : Table) → Fin (tcTables nBuf tb) → BufTy
  | .hbm, ⟨0, _⟩ => ⟨S2x16384x5632, .f32⟩
  | .hbm, ⟨1, _⟩ => ⟨S2x5632x2048, .f32⟩
  | .hbm, ⟨2, _⟩ => ⟨S2x16384x2048, .f32⟩
  | .hbm, ⟨3, _⟩ => ⟨S2x1x2048, .f32⟩
  | .hbm, ⟨4, _⟩ => ⟨S2048, .f32⟩
  | .hbm, ⟨5, _⟩ => ⟨S1x5632x2048, .f32⟩
  | .hbm, ⟨6, _⟩ => ⟨S5632x2048, .f32⟩
  | .hbm, ⟨7, _⟩ => ⟨S2x16384x2048, .f32⟩
  | .hbm, ⟨8, _⟩ => ⟨S2x16384x2048, .f32⟩
  | .hbm, ⟨9, _⟩ => ⟨S2x16384x2048, .f32⟩
  | .hbm, ⟨10, _⟩ => ⟨S2x16384x2048, .f32⟩
  | .hbm, ⟨11, _⟩ => ⟨S2x16384x2048, .f32⟩
  | .hbm, ⟨12, _⟩ => ⟨S_, .f32⟩
  | .hbm, ⟨13, _⟩ => ⟨S2x16384, .f32⟩
  | .hbm, ⟨14, _⟩ => ⟨S2x16384x1, .f32⟩
  | .hbm, ⟨15, _⟩ => ⟨S_, .f32⟩
  | .hbm, ⟨16, _⟩ => ⟨S2x16384x1, .f32⟩
  | .hbm, ⟨17, _⟩ => ⟨S2x16384x1, .f32⟩
  | .hbm, ⟨18, _⟩ => ⟨S_, .f32⟩
  | .hbm, ⟨19, _⟩ => ⟨S2x16384x1, .f32⟩
  | .hbm, ⟨20, _⟩ => ⟨S2x16384x1, .f32⟩
  | .hbm, ⟨21, _⟩ => ⟨S2x16384x1, .f32⟩
  | .hbm, ⟨22, _⟩ => ⟨S2x16384x2048, .f32⟩
  | .hbm, ⟨23, _⟩ => ⟨S2x16384x2048, .f32⟩
  | .hbm, ⟨24, _⟩ => ⟨S1x1x2048, .f32⟩
  | .hbm, ⟨25, _⟩ => ⟨S2x16384x2048, .f32⟩
  | .hbm, ⟨26, _⟩ => ⟨S2x16384x2048, .f32⟩
  | _, _ => ⟨S2x16384x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩

abbrev nD : Nat := 1
abbrev τ : Topo := Topo.v7x

variable {F : FTy → Type} [FloatOps F]
-- ==== Mid.lean ====
abbrev S2x16384x5632 : Shape := ⟨3, ![2, 16384, 5632]⟩
abbrev S2x5632x2048 : Shape := ⟨3, ![2, 5632, 2048]⟩
abbrev S2x16384x2048 : Shape := ⟨3, ![2, 16384, 2048]⟩
abbrev S2x1x2048 : Shape := ⟨3, ![2, 1, 2048]⟩
abbrev S2x2x2048 : Shape := ⟨3, ![2, 2, 2048]⟩
abbrev S1x5632x2048 : Shape := ⟨3, ![1, 5632, 2048]⟩
abbrev S5632x2048 : Shape := ⟨2, ![5632, 2048]⟩
abbrev S1x1x2048 : Shape := ⟨3, ![1, 1, 2048]⟩
abbrev S2048 : Shape := ⟨1, ![2048]⟩
abbrev S1x2048 : Shape := ⟨2, ![1, 2048]⟩
abbrev S1x512x5632 : Shape := ⟨3, ![1, 512, 5632]⟩
abbrev S1x512x2048 : Shape := ⟨3, ![1, 512, 2048]⟩
abbrev S1x256x2048 : Shape := ⟨3, ![1, 256, 2048]⟩
abbrev S256x2048 : Shape := ⟨2, ![256, 2048]⟩
abbrev S1x256x5632 : Shape := ⟨3, ![1, 256, 5632]⟩
abbrev S256x5632 : Shape := ⟨2, ![256, 5632]⟩
abbrev S256 : Shape := ⟨1, ![256]⟩
abbrev S256x1 : Shape := ⟨2, ![256, 1]⟩

abbrev nBuf : Space → Nat
  | .hbm => 16
  | .vmem => 16
  | .smem => 0
  | _ => 0

abbrev bufTy : (tb : Table) → Fin (tcTables nBuf tb) → BufTy
  | .hbm, ⟨0, _⟩ => ⟨S2x16384x5632, .f32⟩
  | .hbm, ⟨1, _⟩ => ⟨S2x5632x2048, .f32⟩
  | .hbm, ⟨2, _⟩ => ⟨S2x16384x2048, .f32⟩
  | .hbm, ⟨3, _⟩ => ⟨S2x1x2048, .f32⟩
  | .hbm, ⟨4, _⟩ => ⟨S2x2x2048, .f32⟩
  | .hbm, ⟨5, _⟩ => ⟨S2x1x2048, .f32⟩
  | .hbm, ⟨6, _⟩ => ⟨S2x1x2048, .f32⟩
  | .hbm, ⟨7, _⟩ => ⟨S2x16384x5632, .bf16⟩
  | .hbm, ⟨8, _⟩ => ⟨S1x5632x2048, .f32⟩
  | .hbm, ⟨9, _⟩ => ⟨S5632x2048, .f32⟩
  | .hbm, ⟨10, _⟩ => ⟨S5632x2048, .bf16⟩
  | .hbm, ⟨11, _⟩ => ⟨S1x1x2048, .f32⟩
  | .hbm, ⟨12, _⟩ => ⟨S2048, .f32⟩
  | .hbm, ⟨13, _⟩ => ⟨S1x2048, .f32⟩
  | .hbm, ⟨14, _⟩ => ⟨S2x16384x2048, .f32⟩
  | .hbm, ⟨15, _⟩ => ⟨S2x16384x2048, .bf16⟩
  | .local _ .vmem, ⟨0, _⟩ => ⟨S1x512x5632, .bf16⟩
  | .local _ .vmem, ⟨1, _⟩ => ⟨S1x512x5632, .bf16⟩
  | .local _ .vmem, ⟨2, _⟩ => ⟨S5632x2048, .bf16⟩
  | .local _ .vmem, ⟨3, _⟩ => ⟨S1x512x2048, .f32⟩
  | .local _ .vmem, ⟨4, _⟩ => ⟨S1x512x2048, .f32⟩
  | .local _ .vmem, ⟨5, _⟩ => ⟨S1x1x2048, .f32⟩
  | .local _ .vmem, ⟨6, _⟩ => ⟨S1x1x2048, .f32⟩
  | .local _ .vmem, ⟨7, _⟩ => ⟨S1x2048, .f32⟩
  | .local _ .vmem, ⟨8, _⟩ => ⟨S1x1x2048, .f32⟩
  | .local _ .vmem, ⟨9, _⟩ => ⟨S1x1x2048, .f32⟩
  | .local _ .vmem, ⟨10, _⟩ => ⟨S1x1x2048, .f32⟩
  | .local _ .vmem, ⟨11, _⟩ => ⟨S1x1x2048, .f32⟩
  | .local _ .vmem, ⟨12, _⟩ => ⟨S1x512x2048, .f32⟩
  | .local _ .vmem, ⟨13, _⟩ => ⟨S1x512x2048, .f32⟩
  | .local _ .vmem, ⟨14, _⟩ => ⟨S1x512x2048, .bf16⟩
  | .local _ .vmem, ⟨15, _⟩ => ⟨S1x512x2048, .bf16⟩
  | _, _ => ⟨S2x16384x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7_0 : Ref sig .tc := ⟨.hbm, 14, rfl⟩
abbrev main_v7_1 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![2, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S5632x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x1x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== MidReferenceIdeal.lean ====
abbrev S2x16384x5632 : Shape := ⟨3, ![2, 16384, 5632]⟩
abbrev S2x5632x2048 : Shape := ⟨3, ![2, 5632, 2048]⟩
abbrev S2x16384x2048 : Shape := ⟨3, ![2, 16384, 2048]⟩
abbrev S2x1x2048 : Shape := ⟨3, ![2, 1, 2048]⟩
abbrev S2x2x2048 : Shape := ⟨3, ![2, 2, 2048]⟩
abbrev S1x5632x2048 : Shape := ⟨3, ![1, 5632, 2048]⟩
abbrev S5632x2048 : Shape := ⟨2, ![5632, 2048]⟩
abbrev S_ : Shape := ⟨0, ![]⟩
abbrev S2x16384 : Shape := ⟨2, ![2, 16384]⟩
abbrev S2x16384x1 : Shape := ⟨3, ![2, 16384, 1]⟩
abbrev S1x1x2048 : Shape := ⟨3, ![1, 1, 2048]⟩
abbrev S2048 : Shape := ⟨1, ![2048]⟩

abbrev nBuf : Space → Nat
  | .hbm => 39
  | .vmem => 0
  | .smem => 0
  | _ => 0

abbrev bufTy : (tb : Table) → Fin (tcTables nBuf tb) → BufTy
  | .hbm, ⟨0, _⟩ => ⟨S2x16384x5632, .f32⟩
  | .hbm, ⟨1, _⟩ => ⟨S2x5632x2048, .f32⟩
  | .hbm, ⟨2, _⟩ => ⟨S2x16384x2048, .f32⟩
  | .hbm, ⟨3, _⟩ => ⟨S2x1x2048, .f32⟩
  | .hbm, ⟨4, _⟩ => ⟨S2x2x2048, .f32⟩
  | .hbm, ⟨5, _⟩ => ⟨S2x1x2048, .f32⟩
  | .hbm, ⟨6, _⟩ => ⟨S2x1x2048, .f32⟩
  | .hbm, ⟨7, _⟩ => ⟨S1x5632x2048, .f32⟩
  | .hbm, ⟨8, _⟩ => ⟨S5632x2048, .f32⟩
  | .hbm, ⟨9, _⟩ => ⟨S2x16384x2048, .f32⟩
  | .hbm, ⟨10, _⟩ => ⟨S2x16384x2048, .f32⟩
  | .hbm, ⟨11, _⟩ => ⟨S2x16384x2048, .f32⟩
  | .hbm, ⟨12, _⟩ => ⟨S2x16384x2048, .f32⟩
  | .hbm, ⟨13, _⟩ => ⟨S2x16384x2048, .f32⟩
  | .hbm, ⟨14, _⟩ => ⟨S_, .f32⟩
  | .hbm, ⟨15, _⟩ => ⟨S2x16384, .f32⟩
  | .hbm, ⟨16, _⟩ => ⟨S2x16384x1, .f32⟩
  | .hbm, ⟨17, _⟩ => ⟨S_, .f32⟩
  | .hbm, ⟨18, _⟩ => ⟨S2x16384x1, .f32⟩
  | .hbm, ⟨19, _⟩ => ⟨S2x16384x1, .f32⟩
  | .hbm, ⟨20, _⟩ => ⟨S_, .f32⟩
  | .hbm, ⟨21, _⟩ => ⟨S2x16384x1, .f32⟩
  | .hbm, ⟨22, _⟩ => ⟨S2x16384x1, .f32⟩
  | .hbm, ⟨23, _⟩ => ⟨S2x16384x1, .f32⟩
  | .hbm, ⟨24, _⟩ => ⟨S2x16384x2048, .f32⟩
  | .hbm, ⟨25, _⟩ => ⟨S2x16384x2048, .f32⟩
  | .hbm, ⟨26, _⟩ => ⟨S1x1x2048, .f32⟩
  | .hbm, ⟨27, _⟩ => ⟨S2048, .f32⟩
  | .hbm, ⟨28, _⟩ => ⟨S1x1x2048, .f32⟩
  | .hbm, ⟨29, _⟩ => ⟨S2x16384x2048, .f32⟩
  | .hbm, ⟨30, _⟩ => ⟨S2x16384x2048, .f32⟩
  | .hbm, ⟨31, _⟩ => ⟨S_, .f32⟩
  | .hbm, ⟨32, _⟩ => ⟨S2x1x2048, .f32⟩
  | .hbm, ⟨33, _⟩ => ⟨S2x1x2048, .f32⟩
  | .hbm, ⟨34, _⟩ => ⟨S2x16384x2048, .f32⟩
  | .hbm, ⟨35, _⟩ => ⟨S2x16384x2048, .f32⟩
  | .hbm, ⟨36, _⟩ => ⟨S2x16384x2048, .f32⟩
  | .hbm, ⟨37, _⟩ => ⟨S2x16384x2048, .f32⟩
  | .hbm, ⟨38, _⟩ => ⟨S2x16384x2048, .bf16⟩
  | _, _ => ⟨S2x16384x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_2 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩

abbrev nD : Nat := 1
abbrev τ : Topo := Topo.v7x

variable {F : FTy → Type} [FloatOps F]
-- ==== Odd.lean ====
abbrev S2x16384x1024 : Shape := ⟨3, ![2, 16384, 1024]⟩
abbrev S1x3x1024 : Shape := ⟨3, ![1, 3, 1024]⟩
abbrev S1x2048x2048 : Shape := ⟨3, ![1, 2048, 2048]⟩
abbrev S2x16384x2048 : Shape := ⟨3, ![2, 16384, 2048]⟩
abbrev S2x1x2048 : Shape := ⟨3, ![2, 1, 2048]⟩
abbrev S2x2x2048 : Shape := ⟨3, ![2, 2, 2048]⟩
abbrev S3x1024 : Shape := ⟨2, ![3, 1024]⟩
abbrev S2048x2048 : Shape := ⟨2, ![2048, 2048]⟩
abbrev S1x1x2048 : Shape := ⟨3, ![1, 1, 2048]⟩
abbrev S2048 : Shape := ⟨1, ![2048]⟩
abbrev S1x2048 : Shape := ⟨2, ![1, 2048]⟩
abbrev S1x512x1024 : Shape := ⟨3, ![1, 512, 1024]⟩
abbrev S1x8x1024 : Shape := ⟨3, ![1, 8, 1024]⟩
abbrev S1x512x2048 : Shape := ⟨3, ![1, 512, 2048]⟩
abbrev S528x1024 : Shape := ⟨2, ![528, 1024]⟩
abbrev S512x2048 : Shape := ⟨2, ![512, 2048]⟩
abbrev S8x1024 : Shape := ⟨2, ![8, 1024]⟩
abbrev S512x1024 : Shape := ⟨2, ![512, 1024]⟩
abbrev S256x1024 : Shape := ⟨2, ![256, 1024]⟩
abbrev S1x1024 : Shape := ⟨2, ![1, 1024]⟩
abbrev S1x256x1024 : Shape := ⟨3, ![1, 256, 1024]⟩
abbrev S256x2048 : Shape := ⟨2, ![256, 2048]⟩
abbrev S1x256x2048 : Shape := ⟨3, ![1, 256, 2048]⟩
abbrev S256 : Shape := ⟨1, ![256]⟩
abbrev S256x1 : Shape := ⟨2, ![256, 1]⟩

abbrev nBuf : Space → Nat
  | .hbm => 21
  | .vmem => 27
  | .smem => 0
  | _ => 0

abbrev bufTy : (tb : Table) → Fin (tcTables nBuf tb) → BufTy
  | .hbm, ⟨0, _⟩ => ⟨S2x16384x1024, .f32⟩
  | .hbm, ⟨1, _⟩ => ⟨S2x16384x1024, .f32⟩
  | .hbm, ⟨2, _⟩ => ⟨S2x16384x1024, .f32⟩
  | .hbm, ⟨3, _⟩ => ⟨S2x16384x1024, .f32⟩
  | .hbm, ⟨4, _⟩ => ⟨S1x3x1024, .f32⟩
  | .hbm, ⟨5, _⟩ => ⟨S1x2048x2048, .f32⟩
  | .hbm, ⟨6, _⟩ => ⟨S2x16384x2048, .f32⟩
  | .hbm, ⟨7, _⟩ => ⟨S2x1x2048, .f32⟩
  | .hbm, ⟨8, _⟩ => ⟨S2x2x2048, .f32⟩
  | .hbm, ⟨9, _⟩ => ⟨S2x1x2048, .f32⟩
  | .hbm, ⟨10, _⟩ => ⟨S2x1x2048, .f32⟩
  | .hbm, ⟨11, _⟩ => ⟨S2x16384x1024, .bf16⟩
  | .hbm, ⟨12, _⟩ => ⟨S2x16384x1024, .f32⟩
  | .hbm, ⟨13, _⟩ => ⟨S3x1024, .f32⟩
  | .hbm, ⟨14, _⟩ => ⟨S2048x2048, .f32⟩
  | .hbm, ⟨15, _⟩ => ⟨S2048x2048, .bf16⟩
  | .hbm, ⟨16, _⟩ => ⟨S1x1x2048, .f32⟩
  | .hbm, ⟨17, _⟩ => ⟨S2048, .f32⟩
  | .hbm, ⟨18, _⟩ => ⟨S1x2048, .f32⟩
  | .hbm, ⟨19, _⟩ => ⟨S2x16384x2048, .f32⟩
  | .hbm, ⟨20, _⟩ => ⟨S2x16384x2048, .bf16⟩
  | .local _ .vmem, ⟨0, _⟩ => ⟨S1x512x1024, .bf16⟩
  | .local _ .vmem, ⟨1, _⟩ => ⟨S1x512x1024, .bf16⟩
  | .local _ .vmem, ⟨2, _⟩ => ⟨S1x8x1024, .f32⟩
  | .local _ .vmem, ⟨3, _⟩ => ⟨S1x8x1024, .f32⟩
  | .local _ .vmem, ⟨4, _⟩ => ⟨S1x512x1024, .f32⟩
  | .local _ .vmem, ⟨5, _⟩ => ⟨S1x512x1024, .f32⟩
  | .local _ .vmem, ⟨6, _⟩ => ⟨S1x8x1024, .f32⟩
  | .local _ .vmem, ⟨7, _⟩ => ⟨S1x8x1024, .f32⟩
  | .local _ .vmem, ⟨8, _⟩ => ⟨S1x512x1024, .f32⟩
  | .local _ .vmem, ⟨9, _⟩ => ⟨S1x512x1024, .f32⟩
  | .local _ .vmem, ⟨10, _⟩ => ⟨S3x1024, .f32⟩
  | .local _ .vmem, ⟨11, _⟩ => ⟨S2048x2048, .bf16⟩
  | .local _ .vmem, ⟨12, _⟩ => ⟨S1x512x2048, .f32⟩
  | .local _ .vmem, ⟨13, _⟩ => ⟨S1x512x2048, .f32⟩
  | .local _ .vmem, ⟨14, _⟩ => ⟨S1x1x2048, .f32⟩
  | .local _ .vmem, ⟨15, _⟩ => ⟨S1x1x2048, .f32⟩
  | .local _ .vmem, ⟨16, _⟩ => ⟨S1x2048, .f32⟩
  | .local _ .vmem, ⟨17, _⟩ => ⟨S1x1x2048, .f32⟩
  | .local _ .vmem, ⟨18, _⟩ => ⟨S1x1x2048, .f32⟩
  | .local _ .vmem, ⟨19, _⟩ => ⟨S1x1x2048, .f32⟩
  | .local _ .vmem, ⟨20, _⟩ => ⟨S1x1x2048, .f32⟩
  | .local _ .vmem, ⟨21, _⟩ => ⟨S1x512x2048, .f32⟩
  | .local _ .vmem, ⟨22, _⟩ => ⟨S1x512x2048, .f32⟩
  | .local _ .vmem, ⟨23, _⟩ => ⟨S1x512x2048, .bf16⟩
  | .local _ .vmem, ⟨24, _⟩ => ⟨S1x512x2048, .bf16⟩
  | .local _ .vmem, ⟨25, _⟩ => ⟨S528x1024, .f32⟩
  | .local _ .vmem, ⟨26, _⟩ => ⟨S512x2048, .bf16⟩
  | _, _ => ⟨S2x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8_0 : Ref sig .tc := ⟨.hbm, 19, rfl⟩
abbrev main_v8_1 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_scratch0 : Ref sig .tc := ⟨.vmem, 25, rfl⟩
abbrev cc0_scratch1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem13_1 : DmaSem sig := 24

abbrev nD : Nat := 1
abbrev τ : Topo := Topo.v7x

variable {F : FTy → Type} [FloatOps F]

abbrev grid0 : Pipeline.Grid := ⟨2, ![2, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c64_i32 : BitVec 32 := 64#32
  let v0 : BitVec 32 := Scalar.muli arg1 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c64_i32 : BitVec 32 := 64#32
  let v1 : BitVec 32 := Scalar.muli v0 c64_i32
  let c2047_i32 : BitVec 32 := 2047#32
  let v2 : BitVec 32 := Scalar.minsi v1 c2047_i32
  let c0_i32 : BitVec 32 := 0#32
  let c0_i32_0 : BitVec 32 := 0#32
  ![arg0.toNat, v2.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S3x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S2048x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x1x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x1x2048 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S1x512x2048 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x512x2048 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== OddReferenceIdeal.lean ====
abbrev S2x16384x1024 : Shape := ⟨3, ![2, 16384, 1024]⟩
abbrev S1x3x1024 : Shape := ⟨3, ![1, 3, 1024]⟩
abbrev S1x2048x2048 : Shape := ⟨3, ![1, 2048, 2048]⟩
abbrev S2x16384x2048 : Shape := ⟨3, ![2, 16384, 2048]⟩
abbrev S2x1x2048 : Shape := ⟨3, ![2, 1, 2048]⟩
abbrev S2x2x2048 : Shape := ⟨3, ![2, 2, 2048]⟩
abbrev S_ : Shape := ⟨0, ![]⟩
abbrev S2x16386x1024 : Shape := ⟨3, ![2, 16386, 1024]⟩
abbrev S1x1x1024 : Shape := ⟨3, ![1, 1, 1024]⟩
abbrev S1024 : Shape := ⟨1, ![1024]⟩
abbrev S2048x2048 : Shape := ⟨2, ![2048, 2048]⟩
abbrev S2x16384 : Shape := ⟨2, ![2, 16384]⟩
abbrev S2x16384x1 : Shape := ⟨3, ![2, 16384, 1]⟩
abbrev S1x1x2048 : Shape := ⟨3, ![1, 1, 2048]⟩
abbrev S2048 : Shape := ⟨1, ![2048]⟩

abbrev nBuf : Space → Nat
  | .hbm => 71
  | .vmem => 0
  | .smem => 0
  | _ => 0

abbrev bufTy : (tb : Table) → Fin (tcTables nBuf tb) → BufTy
  | .hbm, ⟨0, _⟩ => ⟨S2x16384x1024, .f32⟩
  | .hbm, ⟨1, _⟩ => ⟨S2x16384x1024, .f32⟩
  | .hbm, ⟨2, _⟩ => ⟨S2x16384x1024, .f32⟩
  | .hbm, ⟨3, _⟩ => ⟨S2x16384x1024, .f32⟩
  | .hbm, ⟨4, _⟩ => ⟨S1x3x1024, .f32⟩
  | .hbm, ⟨5, _⟩ => ⟨S1x2048x2048, .f32⟩
  | .hbm, ⟨6, _⟩ => ⟨S2x16384x2048, .f32⟩
  | .hbm, ⟨7, _⟩ => ⟨S2x1x2048, .f32⟩
  | .hbm, ⟨8, _⟩ => ⟨S2x2x2048, .f32⟩
  | .hbm, ⟨9, _⟩ => ⟨S2x1x2048, .f32⟩
  | .hbm, ⟨10, _⟩ => ⟨S2x1x2048, .f32⟩
  | .hbm, ⟨11, _⟩ => ⟨S2x16384x1024, .f32⟩
  | .hbm, ⟨12, _⟩ => ⟨S_, .i32⟩
  | .hbm, ⟨13, _⟩ => ⟨S_, .f32⟩
  | .hbm, ⟨14, _⟩ => ⟨S2x16386x1024, .f32⟩
  | .hbm, ⟨15, _⟩ => ⟨S2x16384x1024, .f32⟩
  | .hbm, ⟨16, _⟩ => ⟨S1x1x1024, .f32⟩
  | .hbm, ⟨17, _⟩ => ⟨S1024, .f32⟩
  | .hbm, ⟨18, _⟩ => ⟨S1x1x1024, .f32⟩
  | .hbm, ⟨19, _⟩ => ⟨S2x16384x1024, .f32⟩
  | .hbm, ⟨20, _⟩ => ⟨S2x16384x1024, .f32⟩
  | .hbm, ⟨21, _⟩ => ⟨S_, .f32⟩
  | .hbm, ⟨22, _⟩ => ⟨S2x16384x1024, .f32⟩
  | .hbm, ⟨23, _⟩ => ⟨S2x16384x1024, .f32⟩
  | .hbm, ⟨24, _⟩ => ⟨S2x16384x1024, .f32⟩
  | .hbm, ⟨25, _⟩ => ⟨S1x1x1024, .f32⟩
  | .hbm, ⟨26, _⟩ => ⟨S1024, .f32⟩
  | .hbm, ⟨27, _⟩ => ⟨S1x1x1024, .f32⟩
  | .hbm, ⟨28, _⟩ => ⟨S2x16384x1024, .f32⟩
  | .hbm, ⟨29, _⟩ => ⟨S2x16384x1024, .f32⟩
  | .hbm, ⟨30, _⟩ => ⟨S2x16384x1024, .f32⟩
  | .hbm, ⟨31, _⟩ => ⟨S2x16384x1024, .f32⟩
  | .hbm, ⟨32, _⟩ => ⟨S1x1x1024, .f32⟩
  | .hbm, ⟨33, _⟩ => ⟨S1024, .f32⟩
  | .hbm, ⟨34, _⟩ => ⟨S1x1x1024, .f32⟩
  | .hbm, ⟨35, _⟩ => ⟨S2x16384x1024, .f32⟩
  | .hbm, ⟨36, _⟩ => ⟨S2x16384x1024, .f32⟩
  | .hbm, ⟨37, _⟩ => ⟨S2x16384x1024, .f32⟩
  | .hbm, ⟨38, _⟩ => ⟨S2x16384x1024, .f32⟩
  | .hbm, ⟨39, _⟩ => ⟨S2x16384x2048, .f32⟩
  | .hbm, ⟨40, _⟩ => ⟨S2048x2048, .f32⟩
  | .hbm, ⟨41, _⟩ => ⟨S2x16384x2048, .f32⟩
  | .hbm, ⟨42, _⟩ => ⟨S2x16384x2048, .f32⟩
  | .hbm, ⟨43, _⟩ => ⟨S2x16384x2048, .f32⟩
  | .hbm, ⟨44, _⟩ => ⟨S2x16384x2048, .f32⟩
  | .hbm, ⟨45, _⟩ => ⟨S2x16384x2048, .f32⟩
  | .hbm, ⟨46, _⟩ => ⟨S_, .f32⟩
  | .hbm, ⟨47, _⟩ => ⟨S2x16384, .f32⟩
  | .hbm, ⟨48, _⟩ => ⟨S2x16384x1, .f32⟩
  | .hbm, ⟨49, _⟩ => ⟨S_, .f32⟩
  | .hbm, ⟨50, _⟩ => ⟨S2x16384x1, .f32⟩
  | .hbm, ⟨51, _⟩ => ⟨S2x16384x1, .f32⟩
  | .hbm, ⟨52, _⟩ => ⟨S_, .f32⟩
  | .hbm, ⟨53, _⟩ => ⟨S2x16384x1, .f32⟩
  | .hbm, ⟨54, _⟩ => ⟨S2x16384x1, .f32⟩
  | .hbm, ⟨55, _⟩ => ⟨S2x16384x1, .f32⟩
  | .hbm, ⟨56, _⟩ => ⟨S2x16384x2048, .f32⟩
  | .hbm, ⟨57, _⟩ => ⟨S2x16384x2048, .f32⟩
  | .hbm, ⟨58, _⟩ => ⟨S1x1x2048, .f32⟩
  | .hbm, ⟨59, _⟩ => ⟨S2048, .f32⟩
  | .hbm, ⟨60, _⟩ => ⟨S1x1x2048, .f32⟩
  | .hbm, ⟨61, _⟩ => ⟨S2x16384x2048, .f32⟩
  | .hbm, ⟨62, _⟩ => ⟨S2x16384x2048, .f32⟩
  | .hbm, ⟨63, _⟩ => ⟨S_, .f32⟩
  | .hbm, ⟨64, _⟩ => ⟨S2x1x2048, .f32⟩
  | .hbm, ⟨65, _⟩ => ⟨S2x1x2048, .f32⟩
  | .hbm, ⟨66, _⟩ => ⟨S2x16384x2048, .f32⟩
  | .hbm, ⟨67, _⟩ => ⟨S2x16384x2048, .f32⟩
  | .hbm, ⟨68, _⟩ => ⟨S2x16384x2048, .f32⟩
  | .hbm, ⟨69, _⟩ => ⟨S2x16384x2048, .f32⟩
  | .hbm, ⟨70, _⟩ => ⟨S2x16384x2048, .bf16⟩
  | _, _ => ⟨S2x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_c : Ref sig .tc := ⟨.hbm, 12, rfl⟩
abbrev main_call0_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_0 : Ref sig .tc := ⟨.hbm, 46, rfl⟩
abbrev main_v32 : Ref sig .tc := ⟨.hbm, 47, rfl⟩
abbrev main_v33 : Ref sig .tc := ⟨.hbm, 48, rfl⟩
abbrev main_cst_1 : Ref sig .tc := ⟨.hbm, 49, rfl⟩
abbrev main_v34 : Ref sig .tc := ⟨.hbm, 50, rfl⟩
abbrev main_v35 : Ref sig .tc := ⟨.hbm, 51, rfl⟩
abbrev main_cst_2 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_cst_3 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩

abbrev nD : Nat := 1
abbrev τ : Topo := Topo.v7x

variable {F : FTy → Type} [FloatOps F]
-- ==== InOdd.lean ====
abbrev S2x16384x2048 : Shape := ⟨3, ![2, 16384, 2048]⟩
abbrev S1x2048x4096 : Shape := ⟨3, ![1, 2048, 4096]⟩
abbrev S2048x4096 : Shape := ⟨2, ![2048, 4096]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S_ : Shape := ⟨0, ![]⟩
abbrev S256x512 : Shape := ⟨2, ![256, 512]⟩
abbrev S2x16384x1024 : Shape := ⟨3, ![2, 16384, 1024]⟩
abbrev S1x512x2048 : Shape := ⟨3, ![1, 512, 2048]⟩
abbrev S1x512x1024 : Shape := ⟨3, ![1, 512, 1024]⟩
abbrev S512x2048 : Shape := ⟨2, ![512, 2048]⟩
abbrev S2048x512 : Shape := ⟨2, ![2048, 512]⟩
abbrev S512x512 : Shape := ⟨2, ![512, 512]⟩
abbrev S512x256 : Shape := ⟨2, ![512, 256]⟩
abbrev S1x512x256 : Shape := ⟨3, ![1, 512, 256]⟩
abbrev S1x512x512 : Shape := ⟨3, ![1, 512, 512]⟩

abbrev nBuf : Space → Nat
  | .hbm => 46
  | .vmem => 12
  | .smem => 0
  | _ => 0

abbrev bufTy : (tb : Table) → Fin (tcTables nBuf tb) → BufTy
  | .hbm, ⟨0, _⟩ => ⟨S2x16384x2048, .f32⟩
  | .hbm, ⟨1, _⟩ => ⟨S1x2048x4096, .f32⟩
  | .hbm, ⟨2, _⟩ => ⟨S2x16384x2048, .bf16⟩
  | .hbm, ⟨3, _⟩ => ⟨S2048x4096, .f32⟩
  | .hbm, ⟨4, _⟩ => ⟨S2048x4096, .bf16⟩
  | .hbm, ⟨5, _⟩ => ⟨S256, .i32⟩
  | .hbm, ⟨6, _⟩ => ⟨S256x1, .i32⟩
  | .hbm, ⟨7, _⟩ => ⟨S1x256, .i32⟩
  | .hbm, ⟨8, _⟩ => ⟨S256x256, .i32⟩
  | .hbm, ⟨9, _⟩ => ⟨S256x256, .i32⟩
  | .hbm, ⟨10, _⟩ => ⟨S256x256, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S_, .i1⟩
  | .hbm, ⟨15, _⟩ => ⟨S_, .i32⟩
  | .hbm, ⟨16, _⟩ => ⟨S_, .i32⟩
  | .hbm, ⟨17, _⟩ => ⟨S256x256, .i32⟩
  | .hbm, ⟨18, _⟩ => ⟨S256x256, .i32⟩
  | .hbm, ⟨19, _⟩ => ⟨S_, .i32⟩
  | .hbm, ⟨20, _⟩ => ⟨S256x256, .i32⟩
  | .hbm, ⟨21, _⟩ => ⟨S256x256, .i1⟩
  | .hbm, ⟨22, _⟩ => ⟨S_, .i32⟩
  | .hbm, ⟨23, _⟩ => ⟨S256x256, .i32⟩
  | .hbm, ⟨24, _⟩ => ⟨S256x256, .i1⟩
  | .hbm, ⟨25, _⟩ => ⟨S_, .i32⟩
  | .hbm, ⟨26, _⟩ => ⟨S_, .i1⟩
  | .hbm, ⟨27, _⟩ => ⟨S256x256, .i1⟩
  | .hbm, ⟨28, _⟩ => ⟨S256x256, .i1⟩
  | .hbm, ⟨29, _⟩ => ⟨S256x256, .i1⟩
  | .hbm, ⟨30, _⟩ => ⟨S256x256, .i32⟩
  | .hbm, ⟨31, _⟩ => ⟨S256x256, .i32⟩
  | .hbm, ⟨32, _⟩ => ⟨S256x256, .i32⟩
  | .hbm, ⟨33, _⟩ => ⟨S256x256, .f32⟩
  | .hbm, ⟨34, _⟩ => ⟨S_, .f32⟩
  | .hbm, ⟨35, _⟩ => ⟨S256x256, .f32⟩
  | .hbm, ⟨36, _⟩ => ⟨S256x256, .f32⟩
  | .hbm, ⟨37, _⟩ => ⟨S256x256, .f32⟩
  | .hbm, ⟨38, _⟩ => ⟨S256x256, .f32⟩
  | .hbm, ⟨39, _⟩ => ⟨S256x256, .f32⟩
  | .hbm, ⟨40, _⟩ => ⟨S256x512, .f32⟩
  | .hbm, ⟨41, _⟩ => ⟨S256x512, .bf16⟩
  | .hbm, ⟨42, _⟩ => ⟨S2x16384x1024, .bf16⟩
  | .hbm, ⟨43, _⟩ => ⟨S2x16384x1024, .bf16⟩
  | .hbm, ⟨44, _⟩ => ⟨S2x16384x1024, .f32⟩
  | .hbm, ⟨45, _⟩ => ⟨S2x16384x1024, .f32⟩
  | .local _ .vmem, ⟨0, _⟩ => ⟨S1x512x2048, .bf16⟩
  | .local _ .vmem, ⟨1, _⟩ => ⟨S1x512x2048, .bf16⟩
  | .local _ .vmem, ⟨2, _⟩ => ⟨S2048x4096, .bf16⟩
  | .local _ .vmem, ⟨3, _⟩ => ⟨S256x512, .bf16⟩
  | .local _ .vmem, ⟨4, _⟩ => ⟨S1x512x1024, .bf16⟩
  | .local _ .vmem, ⟨5, _⟩ => ⟨S1x512x1024, .bf16⟩
  | .local _ .vmem, ⟨6, _⟩ => ⟨S1x512x1024, .bf16⟩
  | .local _ .vmem, ⟨7, _⟩ => ⟨S1x512x1024, .bf16⟩
  | .local _ .vmem, ⟨8, _⟩ => ⟨S1x512x1024, .f32⟩
  | .local _ .vmem, ⟨9, _⟩ => ⟨S1x512x1024, .f32⟩
  | .local _ .vmem, ⟨10, _⟩ => ⟨S1x512x1024, .f32⟩
  | .local _ .vmem, ⟨11, _⟩ => ⟨S1x512x1024, .f32⟩
  | _, _ => ⟨S2x16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_c : Ref sig .tc := ⟨.hbm, 11, rfl⟩
abbrev main_call0_v0 : Ref sig .tc := ⟨.hbm, 12, rfl⟩
abbrev main_call0_c : Ref sig .tc := ⟨.hbm, 13, rfl⟩
abbrev main_call0_v1 : Ref sig .tc := ⟨.hbm, 14, rfl⟩
abbrev main_call0_c_0 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_c_1 : Ref sig .tc := ⟨.hbm, 19, rfl⟩
abbrev main_call0_v5 : Ref sig .tc := ⟨.hbm, 20, rfl⟩
abbrev main_call0_v6 : Ref sig .tc := ⟨.hbm, 21, rfl⟩
abbrev main_call0_c_2 : Ref sig .tc := ⟨.hbm, 22, rfl⟩
abbrev main_call0_v7 : Ref sig .tc := ⟨.hbm, 23, rfl⟩
abbrev main_call0_v8 : Ref sig .tc := ⟨.hbm, 24, rfl⟩
abbrev main_call0_c_3 : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_v12 : Ref sig .tc := ⟨.hbm, 29, rfl⟩
abbrev main_call0_v13 : Ref sig .tc := ⟨.hbm, 30, rfl⟩
abbrev main_call0_v14 : Ref sig .tc := ⟨.hbm, 31, rfl⟩
abbrev main_v9 : Ref sig .tc := ⟨.hbm, 32, rfl⟩
abbrev main_v10 : Ref sig .tc := ⟨.hbm, 33, rfl⟩
abbrev main_cst : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18_0 : Ref sig .tc := ⟨.hbm, 42, rfl⟩
abbrev main_v18_1 : Ref sig .tc := ⟨.hbm, 43, rfl⟩
abbrev main_v18_2 : Ref sig .tc := ⟨.hbm, 44, rfl⟩
abbrev main_v18_3 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![2, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S2048x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S256x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== InOddReferenceIdeal.lean ====
abbrev S2x16384x2048 : Shape := ⟨3, ![2, 16384, 2048]⟩
abbrev S1x2048x4096 : Shape := ⟨3, ![1, 2048, 4096]⟩
abbrev S2048x4096 : Shape := ⟨2, ![2048, 4096]⟩
abbrev S2x16384x4096 : Shape := ⟨3, ![2, 16384, 4096]⟩
abbrev S2x16384x1024 : Shape := ⟨3, ![2, 16384, 1024]⟩
abbrev S2x16384x4x256 : Shape := ⟨4, ![2, 16384, 4, 256]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S_ : Shape := ⟨0, ![]⟩

abbrev nBuf : Space → Nat
  | .hbm => 51
  | .vmem => 0
  | .smem => 0
  | _ => 0

abbrev bufTy : (tb : Table) → Fin (tcTables nBuf tb) → BufTy
  | .hbm, ⟨0, _⟩ => ⟨S2x16384x2048, .f32⟩
  | .hbm, ⟨1, _⟩ => ⟨S1x2048x4096, .f32⟩
  | .hbm, ⟨2, _⟩ => ⟨S2048x4096, .f32⟩
  | .hbm, ⟨3, _⟩ => ⟨S2x16384x4096, .f32⟩
  | .hbm, ⟨4, _⟩ => ⟨S2x16384x1024, .f32⟩
  | .hbm, ⟨5, _⟩ => ⟨S2x16384x1024, .f32⟩
  | .hbm, ⟨6, _⟩ => ⟨S2x16384x1024, .f32⟩
  | .hbm, ⟨7, _⟩ => ⟨S2x16384x1024, .f32⟩
  | .hbm, ⟨8, _⟩ => ⟨S2x16384x4x256, .f32⟩
  | .hbm, ⟨9, _⟩ => ⟨S256, .i32⟩
  | .hbm, ⟨10, _⟩ => ⟨S256x1, .i32⟩
  | .hbm, ⟨11, _⟩ => ⟨S1x256, .i32⟩
  | .hbm, ⟨12, _⟩ => ⟨S256x256, .i32⟩
  | .hbm, ⟨13, _⟩ => ⟨S256x256, .i32⟩
  | .hbm, ⟨14, _⟩ => ⟨S256x256, .i32⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S_, .i1⟩
  | .hbm, ⟨19, _⟩ => ⟨S_, .i32⟩
  | .hbm, ⟨20, _⟩ => ⟨S_, .i32⟩
  | .hbm, ⟨21, _⟩ => ⟨S256x256, .i32⟩
  | .hbm, ⟨22, _⟩ => ⟨S256x256, .i32⟩
  | .hbm, ⟨23, _⟩ => ⟨S_, .i32⟩
  | .hbm, ⟨24, _⟩ => ⟨S256x256, .i32⟩
  | .hbm, ⟨25, _⟩ => ⟨S256x256, .i1⟩
  | .hbm, ⟨26, _⟩ => ⟨S_, .i32⟩
  | .hbm, ⟨27, _⟩ => ⟨S256x256, .i32⟩
  | .hbm, ⟨28, _⟩ => ⟨S256x256, .i1⟩
  | .hbm, ⟨29, _⟩ => ⟨S_, .i32⟩
  | .hbm, ⟨30, _⟩ => ⟨S_, .i1⟩
  | .hbm, ⟨31, _⟩ => ⟨S256x256, .i1⟩
  | .hbm, ⟨32, _⟩ => ⟨S256x256, .i1⟩
  | .hbm, ⟨33, _⟩ => ⟨S256x256, .i1⟩
  | .hbm, ⟨34, _⟩ => ⟨S256x256, .i32⟩
  | .hbm, ⟨35, _⟩ => ⟨S256x256, .i32⟩
  | .hbm, ⟨36, _⟩ => ⟨S256x256, .i32⟩
  | .hbm, ⟨37, _⟩ => ⟨S256x256, .f32⟩
  | .hbm, ⟨38, _⟩ => ⟨S_, .f32⟩
  | .hbm, ⟨39, _⟩ => ⟨S256x256, .f32⟩
  | .hbm, ⟨40, _⟩ => ⟨S256x256, .f32⟩
  | .hbm, ⟨41, _⟩ => ⟨S256x256, .f32⟩
  | .hbm, ⟨42, _⟩ => ⟨S2x16384x4x256, .f32⟩
  | .hbm, ⟨43, _⟩ => ⟨S2x16384x1024, .f32⟩
  | .hbm, ⟨44, _⟩ => ⟨S256x256, .f32⟩
  | .hbm, ⟨45, _⟩ => ⟨S256x256, .f32⟩
  | .hbm, ⟨46, _⟩ => ⟨S2x16384x4x256, .f32⟩
  | .hbm, ⟨47, _⟩ => ⟨S2x16384x1024, .f32⟩
  | .hbm, ⟨48, _⟩ => ⟨S2x16384x1024, .bf16⟩
  | .hbm, ⟨49, _⟩ => ⟨S2x16384x1024, .bf16⟩
  | .hbm, ⟨50, _⟩ => ⟨S2x16384x1024, .f32⟩
  | _, _ => ⟨S2x16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_c : Ref sig .tc := ⟨.hbm, 15, rfl⟩
abbrev main_call0_v0 : Ref sig .tc := ⟨.hbm, 16, rfl⟩
abbrev main_call0_c : Ref sig .tc := ⟨.hbm, 17, rfl⟩
abbrev main_call0_v1 : Ref sig .tc := ⟨.hbm, 18, rfl⟩
abbrev main_call0_c_0 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_call0_c_1 : Ref sig .tc := ⟨.hbm, 23, rfl⟩
abbrev main_call0_v5 : Ref sig .tc := ⟨.hbm, 24, rfl⟩
abbrev main_call0_v6 : Ref sig .tc := ⟨.hbm, 25, rfl⟩
abbrev main_call0_c_2 : Ref sig .tc := ⟨.hbm, 26, rfl⟩
abbrev main_call0_v7 : Ref sig .tc := ⟨.hbm, 27, rfl⟩
abbrev main_call0_v8 : Ref sig .tc := ⟨.hbm, 28, rfl⟩
abbrev main_call0_c_3 : Ref sig .tc := ⟨.hbm, 29, rfl⟩
abbrev main_call0_v9 : Ref sig .tc := ⟨.hbm, 30, rfl⟩
abbrev main_call0_v10 : Ref sig .tc := ⟨.hbm, 31, rfl⟩
abbrev main_call0_v11 : Ref sig .tc := ⟨.hbm, 32, rfl⟩
abbrev main_call0_v12 : Ref sig .tc := ⟨.hbm, 33, rfl⟩
abbrev main_call0_v13 : Ref sig .tc := ⟨.hbm, 34, rfl⟩
abbrev main_call0_v14 : Ref sig .tc := ⟨.hbm, 35, rfl⟩
abbrev main_v13 : Ref sig .tc := ⟨.hbm, 36, rfl⟩
abbrev main_v14 : Ref sig .tc := ⟨.hbm, 37, rfl⟩
abbrev main_cst : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩

abbrev nD : Nat := 1
abbrev τ : Topo := Topo.v7x

variable {F : FTy → Type} [FloatOps F]
-- ==== Proof.Kern.Frame.lean ====
module

public import proofs.«01_k».proof.Proof.Kern.Run
public import proofs.«01_k».proof.Proof.Gen.Kernel.Frame.Runs
public import Idealize.ShloMosaic.PureOps.BitExact
public import Idealize.ShloMosaic.Lib.Claim
public import Idealize.ShloMosaic.Lib.Pipeline.Value

@[expose] public section

set_option maxRecDepth 16384
set_option maxHeartbeats 2000000

noncomputable section

namespace Cert.Kernel.Attn

open Cert.Kernel Cert.Kernel.Gen
open Idealize.ShloMosaic Idealize.ShloMosaic.TcCoe Idealize.ShloMosaic.Tactic Idealize.SL.Sem
open Idealize.SL Idealize.SL.RA Idealize.SL.BI
open scoped Idealize.SL.BI
open Idealize.SL.BI.BIBase Idealize.SL.BI.Laws Idealize.SL.ProofMode
open Idealize.ShloMosaic.Rounds
open Idealize.ShloMosaic.Pipeline (Dat Cfg Window BodyObligation cellOf)

local notation "𝕄" => MT nD τ sig Unit (Elt Bits) ℕ (UR sig nD τ) ℕ

variable (m : (ℓ : Loc nD τ sig) → Buf (Elt Bits) ℓ) (ρ : Dev nD → PrngReg)

/-- An owned buffer at some contents, its contents named. -/
theorem scr_open (c : Dev nD) {s : Shape} {e : EltTy} (a : Memref sig .tc .vmem s e) :
    (iprop(∃ d, owns (c : Thread nD τ) a fullShare d) : sProp 𝕄) ⊢ iprop(∃ f, (a.view.loc (c : Thread nD τ) ↦[a.view.set]{fullShare} f)) := by
  unfold owns
  iintro ⟨%d, %f, -, H⟩
  iexists f
  iexact H

/-- The pipeline's proof data on one core: each input's staging buffer holds its block after every grid point; nothing is asked of the output's. -/
def dats (_ : Fin 1) (c : Dev nD) : Dat τ (Elt Bits) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
  Φ _ := Pipeline.ΦA spec0 c
  q _ := fullShare
  owed _ := 0

/-- The arrays the data start from are those the region finds. -/
theorem A_eq (c : Dev nD) (w : Fin cfg0.W) : (dats m 0 c).A w = V m c (Pipeline.arrRef spec0 w) := by
  dsimp only [dats]

/-- What each staging buffer holds after a grid point. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
/-- The window of which nothing is asked: the output's. -/
def fgt : Fin cfg0.W → Bool := ![false, false, false, false, false, true]

/-- Each input's staging buffer holds its block before the body runs. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-- What the body is given at a grid point, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ X, owns (c : Thread nD τ) (ms0_5 t) fullShare X))

/-- and what it gives back. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ (∃ X, owns (c : Thread nD τ) (ms0_5 t) fullShare X))

/-- The body at any grid point: the run of its text. -/
theorem sound_body (c : Dev nD) (t : Fin cfg0.N) :
    bodyPre m c t ⊢ wp frame (wpE (defs₀ (F := Bits)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4]
  rw [show (dats m 0 c).Φ t.castSucc = Pipeline.ΦA spec0 c from rfl, PhiA0_eq]
  iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩⟩
  ihave ⟨%fS, HS3⟩ := (scr_open c scM0_3) $$ HS3
  iapply ((attnRun c (grid0.coords t) _ _ _ _ _ _ _ _ _ _ _ _ _ _ _ _ _ _ _ _ (iblk m c 0 t) (iblk m c 1 t) (iblk m c 2 t) (iblk m c 3 t) (iblk m c 4 t)).2 fS Set.univ _)
  isplitl [H0]; · iexact H0
  isplitl [H1]; · iexact H1
  isplitl [H2]; · iexact H2
  isplitl [H3]; · iexact H3
  isplitl [H4]; · iexact H4
  isplitl [H5]; · iexists _; iexact H5
  isplitl [HS0]; · iexact HS0
  isplitl [HS1]; · iexact HS1
  isplitl [HS2]; · iexact HS2
  isplitl [HS3]; · iexact HS3
  iintro ⟨H0, H1, H2, H3, H4, ⟨%e5, H5⟩, HS0, HS1, HS2, HS3⟩
  isplitl [HS0 HS1 HS2 HS3 Hg]
  · isplitl [HS0 HS1 HS2 HS3]
    · isplitl [HS0]
      · iexact HS0
      isplitl [HS1]
      · iexact HS1
      isplitl [HS2]
      · iexact HS2
      iexact HS3
    iexact Hg
  isplitl [Ho]; · iexact Ho
  isplitl [H0]; · iexact H0
  isplitl [H1]; · iexact H1
  isplitl [H2]; · iexact H2
  isplitl [H3]; · iexact H3
  isplitl [H4]; · iexact H4
  unfold owns; iexists _, _; isplitr
  swap; · iexact H5
  ipureintro; rfl

/-- The table's row for the body is the body. -/
theorem defs₀_row (t : Fin cfg0.N) :
    defs₀ (F := Bits) .tc cfg0.body (cfg0.bodyArgs t (cfg0.slots t)) = bodyAt0 t := by
  unfold defs₀; rw [Defs.onTc_tc]

/-- The obligation the library asks of the body. -/
theorem body_obligation (c : Dev nD) : BodyObligation (dats m 0 c) (defs₀ (F := Bits)) Variants.none () Set.univ fgt := fun t => by
  rw [bigSep_W0, bigSep_W0, defs₀_row]
  exact triple_restated (sound_body m c t) rfl .rfl fun _ => .rfl

set_option backward.isDefEq.respectTransparency.types false in
/-- The frame of the kernel's program: it ends with the arguments as they were and every counter at zero. -/
theorem frame : θ_run defs (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  Pipeline.θ_run_frame_forget (Q' := _) cfgs (dats m) (0 : Fin 1) launch0 defs₀ Variants.none fgt m ρ main
    (hbody := fun c => (body_obligation m c).loose) (hshare := fun c => (dats m 0 c).share_full fun _ => rfl)
    (howed := fun _ _ => rfl) (V := V m) (hmain := hmain m Variants.none) (hA := A_eq m) (hΦ := fun _ _ => rfl)
    (hQ' := fun r h => ⟨fun c =>
      ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c)⟩, h.2⟩)

end Cert.Kernel.Attn
-- ==== Proof.Attn.Trip.lean ====
module

public import proofs.«01_k».proof.Proof.Gen.KernelIdeal.Loops
public import Idealize.ShloMosaic.Lib.Pipeline.ValueKit
public import Idealize.ShloMosaic.Lib.Pipeline.ReadBack
public import Idealize.ShloMosaic.Lib.VecWindow

@[expose] public section

set_option maxRecDepth 16384
set_option maxHeartbeats 2000000

noncomputable section

namespace Cert.KernelIdeal.Attn

open Cert.KernelIdeal Cert.KernelIdeal.Gen
open Idealize.ShloMosaic Idealize.ShloMosaic.TcCoe Idealize.ShloMosaic.Tactic Idealize.SL.Sem

/-- The weight of key `n` for the stacked query row `r`: `2` to the product of the key with the scaled query; `0` past the last key. -/
def wt (x1 : Vec Ideal S1x16384x128 .bf16) (q : FVec Ideal S3072x128 .bf16) (r : Fin 3072) (n : ℕ) : EReal :=
  if h : n < 16384 then Ideal.exp2 (∑ e : Fin 128, x1 (ix3 0 ⟨n, h⟩ e) * q (ix2 r e)) else 0

/-- Entry `d` of value `n`; `0` past the last value. -/
def vl (x2 : Vec Ideal S1x128x16384 .bf16) (d : Fin 128) (n : ℕ) : EReal :=
  if h : n < 16384 then x2 (ix3 0 d ⟨n, h⟩) else 0

/-- A weight at a key that is in range, as a tile's code writes it. -/
theorem wt_of {x1 : Vec Ideal S1x16384x128 .bf16} {q : FVec Ideal S3072x128 .bf16} {r : Fin 3072} {a n : ℕ} (ha : a < 16384) (h : a = n) :
    FloatOps.exp2 (F := Ideal) (φ := .f32) (∑ e : Fin 128, x1 (ix3 0 ⟨a, ha⟩ e) * q (ix2 r e)) = wt x1 q r n := by
  subst h; rw [wt, dif_pos ha]; rfl

/-- A value that is in range, as a tile's code writes it. -/
theorem vl_of {x2 : Vec Ideal S1x128x16384 .bf16} {d : Fin 128} {a n : ℕ} (ha : a < 16384) (h : a = n) : x2 (ix3 0 d ⟨a, ha⟩) = vl x2 d n := by
  subst h; rw [vl, dif_pos ha]

/-- The first key of an odd tile of a trip. -/
theorem tile_odd : ∀ k < 7, BitVec.toNat (Scalar.indexCast (Scalar.muli (Scalar.addi (Scalar.muli (2#32) (Scf.iv 0#32 1#32 k)) 1#32) 1024#32)) = 1024 * (2 * k + 1) := by
  decide

/-- The first key of the even tile that a trip prepares. -/
theorem tile_next : ∀ k < 7, BitVec.toNat (Scalar.indexCast (Scalar.muli (Scalar.addi (Scalar.muli (2#32) (Scf.iv 0#32 1#32 k)) 2#32) 1024#32)) = 1024 * (2 * k + 2) := by
  decide

/-- The first key of the even tile that a trip consumes. -/
theorem tile_even : ∀ k < 7, BitVec.toNat (Scalar.indexCast (Scalar.muli (Scalar.muli (2#32) (Scf.iv 0#32 1#32 k)) 1024#32)) = 1024 * (2 * k) := by
  decide

/-- What trip `k` leaves, read entry by entry. The accumulator gains the values of the even tile, weighted by what the first buffer held, and those of the odd
    tile, weighted afresh; the row sums gain the weights of the odd tile and of the next even one; and the two buffers hold the weights of those two tiles. -/
theorem trip_reads (𝒱 : Variants) (c : Dev nD) (bd : Option 𝒱.V) (i : grid0.Coords) (arg3 : Memref sig .tc .vmem S1x1024x384 .f32) (harg3 : arg3.IsWhole) (arg4 : Memref sig .tc .vmem S1x16384x128 .bf16) (harg4 : arg4.IsWhole) (arg5 : Memref sig .tc .vmem S1x128x16384 .bf16) (harg5 : arg5.IsWhole) (arg6 : Memref sig .tc .vmem S1x256x128 .bf16) (harg6 : arg6.IsWhole) (arg7 : Memref sig .tc .vmem S1x128x256 .bf16) (harg7 : arg7.IsWhole) (arg8 : Memref sig .tc .vmem S1x1024x384 .bf16) (harg8 : arg8.IsWhole) (arg9 : Memref sig .tc .vmem S128x3072 .f32) (harg9 : arg9.IsWhole) (arg10 : Memref sig .tc .vmem S1x3072 .f32) (harg10 : arg10.IsWhole) (arg11 : Memref sig .tc .vmem S1024x3072 .bf16) (harg11 : arg11.IsWhole) (arg12 : Memref sig .tc .vmem S1024x3072 .bf16) (harg12 : arg12.IsWhole)
    (v8 : FVec Ideal S3072x128 .bf16) (v28 : FVec Ideal S1024x3072 .f32) (v29 : Vec Ideal S1x3072 .f32) (v30 : FVec Ideal S3072 .f32)
    (x1 : Vec Ideal S1x16384x128 .bf16) (x2 : Vec Ideal S1x128x16384 .bf16) (k : Fin k0_t1_loop.trips)
    (f9 : BufTy.Contents (Elt Ideal) arg9.view.ty) (f10 : BufTy.Contents (Elt Ideal) arg10.view.ty) (f11 : BufTy.Contents (Elt Ideal) arg11.view.ty) (f12 : BufTy.Contents (Elt Ideal) arg12.view.ty) :
    ∀ T, T = tripL_k0_t1 (F := Ideal) 𝒱 c bd i arg3 harg3 arg4 harg4 arg5 harg5 arg6 harg6 arg7 harg7 arg8 harg8 arg9 harg9 arg10 harg10 arg11 harg11 arg12 harg12 v8 v28 v29 v30 (harg4.unread x1) (harg5.unread x2) k f9 f10 f11 f12 →
      (∀ (d : Fin 128) (r : Fin 3072), arg9.view.read (Elt Ideal) (arg9.view.writes (Elt Ideal) f9 T.1) (ix2 d r) =
        arg9.view.read (Elt Ideal) f9 (ix2 d r) + ∑ j : Fin 1024, vl x2 d (1024 * (2 * k.val) + j) * arg11.view.read (Elt Ideal) f11 (ix2 j r)
          + ∑ j : Fin 1024, vl x2 d (1024 * (2 * k.val + 1) + j) * wt x1 v8 r (1024 * (2 * k.val + 1) + j)) ∧
      (∀ r : Fin 3072, arg10.view.read (Elt Ideal) (arg10.view.writes (Elt Ideal) f10 T.2.1) (ix2 0 r) =
        arg10.view.read (Elt Ideal) f10 (ix2 0 r) + ∑ j : Fin 1024, wt x1 v8 r (1024 * (2 * k.val + 1) + j) + ∑ j : Fin 1024, wt x1 v8 r (1024 * (2 * k.val + 2) + j)) ∧
      (∀ (j : Fin 1024) (r : Fin 3072), arg11.view.read (Elt Ideal) (arg11.view.writes (Elt Ideal) f11 T.2.2.1) (ix2 j r) = wt x1 v8 r (1024 * (2 * k.val + 2) + j)) := by
  rintro _ rfl
  have hk : k.val < 7 := Nat.lt_of_lt_of_le k.isLt k0_t1_abs.2.1
  refine ⟨fun d r => ?_, fun r => ?_, fun j r => ?_⟩
  · unfold tripL_k0_t1 trip_k0_t1
    dsimp only
    sl_unfold_words
    simp (disch := decide) only [View.readCov_unit_lit', View.readCov_cons_unit_lit', View.readAt_eq_ld, View.ld_unit_lit', Memref.IsWhole.read_unread]
    refine (congrFun (View.read_writes_full _ _ _ _ _) _).trans ?_
    unfold k0_pay18
    pointwise
    congr 1
    · congr 1
      exact Finset.sum_congr rfl fun j _ => congrArg (· * _) (vl_of _ (congrArg (· + j.val) (tile_even _ hk)))
    · exact Finset.sum_congr rfl fun j _ => congrArg₂ (· * ·) (vl_of _ (congrArg (· + j.val) (tile_odd _ hk))) (wt_of _ (congrArg (· + j.val) (tile_odd _ hk)))
  · unfold tripL_k0_t1 trip_k0_t1
    dsimp only
    sl_unfold_words
    simp (disch := decide) only [View.readCov_unit_lit', View.readCov_cons_unit_lit', View.readAt_eq_ld, View.ld_unit_lit', Memref.IsWhole.read_unread]
    refine (congrFun (View.read_writes_full _ _ _ _ _) _).trans ?_
    pointwise
    congr 1
    · congr 1
      exact Finset.sum_congr rfl fun j _ => wt_of _ (by rw [tile_odd _ hk])
    · exact Finset.sum_congr rfl fun j _ => wt_of _ (by rw [tile_next _ hk])
  · unfold tripL_k0_t1 trip_k0_t1
    dsimp only
    sl_unfold_words
    simp (disch := decide) only [View.readCov_unit_lit', View.readCov_cons_unit_lit', View.readAt_eq_ld, View.ld_unit_lit', Memref.IsWhole.read_unread]
    refine (congrFun (View.read_writes_full _ _ _ _ _) _).trans ?_
    pointwise
    exact wt_of _ (by rw [tile_next _ hk])

end Cert.KernelIdeal.Attn
-- ==== Proof.Attn.Loop.lean ====
module

public import proofs.«01_k».proof.Proof.Gen.KernelIdeal.Loops
public import Idealize.ShloMosaic.Lib.Pipeline.ValueKit
public import Idealize.ShloMosaic.Lib.Pipeline.ReadBack
public import Idealize.ShloMosaic.Lib.VecWindow
public import proofs.«01_k».proof.Proof.Attn.Trip

@[expose] public section

set_option maxRecDepth 16384
set_option maxHeartbeats 2000000

noncomputable section

namespace Cert.KernelIdeal.Attn

open Cert.KernelIdeal Cert.KernelIdeal.Gen
open Idealize.ShloMosaic Idealize.ShloMosaic.TcCoe Idealize.ShloMosaic.Tactic Idealize.SL.Sem

/-- A sum over the first keys and the sum over the next tile make the sum over both. -/
theorem sum_tile (f : ℕ → EReal) (a : ℕ) : ∑ n ∈ Finset.range a, f n + ∑ j : Fin 1024, f (a + j) = ∑ n ∈ Finset.range (a + 1024), f n := by
  rw [Finset.sum_range_add, Fin.sum_univ_eq_sum_range (fun j => f (a + j)) 1024]

/-- The loop makes seven trips. -/
theorem trips_eq : k0_t1_loop.trips = 7 := by decide +kernel

/-- Before trip `n` the accumulator has gained the weighted values of the first `2 n` tiles, the row sums the weights of the first `2 n + 1` tiles but for
    the first, which they held at the start, and the first buffer holds the weights of tile `2 n`. -/
theorem loop_reads (𝒱 : Variants) (c : Dev nD) (bd : Option 𝒱.V) (i : grid0.Coords) (arg3 : Memref sig .tc .vmem S1x1024x384 .f32) (harg3 : arg3.IsWhole) (arg4 : Memref sig .tc .vmem S1x16384x128 .bf16) (harg4 : arg4.IsWhole) (arg5 : Memref sig .tc .vmem S1x128x16384 .bf16) (harg5 : arg5.IsWhole) (arg6 : Memref sig .tc .vmem S1x256x128 .bf16) (harg6 : arg6.IsWhole) (arg7 : Memref sig .tc .vmem S1x128x256 .bf16) (harg7 : arg7.IsWhole) (arg8 : Memref sig .tc .vmem S1x1024x384 .bf16) (harg8 : arg8.IsWhole) (arg9 : Memref sig .tc .vmem S128x3072 .f32) (harg9 : arg9.IsWhole) (arg10 : Memref sig .tc .vmem S1x3072 .f32) (harg10 : arg10.IsWhole) (arg11 : Memref sig .tc .vmem S1024x3072 .bf16) (harg11 : arg11.IsWhole) (arg12 : Memref sig .tc .vmem S1024x3072 .bf16) (harg12 : arg12.IsWhole)
    (v8 : FVec Ideal S3072x128 .bf16) (v28 : FVec Ideal S1024x3072 .f32) (v29 : Vec Ideal S1x3072 .f32) (v30 : FVec Ideal S3072 .f32)
    (x1 : Vec Ideal S1x16384x128 .bf16) (x2 : Vec Ideal S1x128x16384 .bf16)
    (G9 : BufTy.Contents (Elt Ideal) arg9.view.ty) (G10 : BufTy.Contents (Elt Ideal) arg10.view.ty) (G11 : BufTy.Contents (Elt Ideal) arg11.view.ty) (G12 : BufTy.Contents (Elt Ideal) arg12.view.ty)
    (h11 : ∀ (j : Fin 1024) (r : Fin 3072), arg11.view.read (Elt Ideal) G11 (ix2 j r) = wt x1 v8 r j) (n : ℕ) :
    n ≤ 7 → ∀ T, T = pb_k0_t1 (F := Ideal) 𝒱 c bd i arg3 harg3 arg4 harg4 arg5 harg5 arg6 harg6 arg7 harg7 arg8 harg8 arg9 harg9 arg10 harg10 arg11 harg11 arg12 harg12 v8 v28 v29 v30 (harg4.unread x1) (harg5.unread x2) G9 G10 G11 G12 n →
      (∀ (d : Fin 128) (r : Fin 3072), arg9.view.read (Elt Ideal) (arg9.view.writes (Elt Ideal) G9 T.1) (ix2 d r) =
        arg9.view.read (Elt Ideal) G9 (ix2 d r) + ∑ j ∈ Finset.range (1024 * (2 * n)), vl x2 d j * wt x1 v8 r j) ∧
      (∀ r : Fin 3072, arg10.view.read (Elt Ideal) (arg10.view.writes (Elt Ideal) G10 T.2.1) (ix2 0 r) =
        arg10.view.read (Elt Ideal) G10 (ix2 0 r) + ∑ j ∈ Finset.range (1024 * (2 * n)), wt x1 v8 r (1024 + j)) ∧
      (∀ (j : Fin 1024) (r : Fin 3072), arg11.view.read (Elt Ideal) (arg11.view.writes (Elt Ideal) G11 T.2.2.1) (ix2 j r) = wt x1 v8 r (1024 * (2 * n) + j)) := by
  induction n with
  | zero =>
    rintro - _ rfl
    refine ⟨fun d r => ?_, fun r => ?_, fun j r => ?_⟩
    · rw [pb_k0_t1.eq_1]; simp [View.writes]
    · rw [pb_k0_t1.eq_1]; simp [View.writes]
    · rw [pb_k0_t1.eq_1]; simpa [View.writes] using h11 j r
  | succ n ih =>
    rintro hn _ rfl
    obtain ⟨i9, i10, i11⟩ := ih (by omega) _ rfl
    have hk : n < k0_t1_loop.trips := by rw [trips_eq]; omega
    have hs := pb_k0_t1_succ (F := Ideal) 𝒱 c bd i arg3 harg3 arg4 harg4 arg5 harg5 arg6 harg6 arg7 harg7 arg8 harg8 arg9 harg9 arg10 harg10 arg11 harg11 arg12 harg12 v8 v28 v29 v30 (harg4.unread x1) (harg5.unread x2) G9 G10 G11 G12 ⟨n, hk⟩
    dsimp only at hs
    obtain ⟨t9, t10, t11⟩ := trip_reads 𝒱 c bd i arg3 harg3 arg4 harg4 arg5 harg5 arg6 harg6 arg7 harg7 arg8 harg8 arg9 harg9 arg10 harg10 arg11 harg11 arg12 harg12 v8 v28 v29 v30 x1 x2 ⟨n, hk⟩ _ _ _ _ _ rfl
    rw [hs]
    simp only [View.writes_append]
    refine ⟨fun d r => ?_, fun r => ?_, fun j r => ?_⟩
    · rw [t9, i9, add_assoc, add_assoc]
      congr 1
      rw [← add_assoc]
      simp only [i11]
      rw [sum_tile (fun m => vl x2 d m * wt x1 v8 r m), show 1024 * (2 * n + 1) = 1024 * (2 * n) + 1024 by ring,
        sum_tile (fun m => vl x2 d m * wt x1 v8 r m)]
      rfl
    · rw [t10, i10, add_assoc, add_assoc]
      congr 1
      rw [← add_assoc]
      have e1 : ∀ j : Fin 1024, 1024 * (2 * n + 1) + (j : ℕ) = 1024 + (1024 * (2 * n) + j) := fun j => by ring
      have e2 : ∀ j : Fin 1024, 1024 * (2 * n + 2) + (j : ℕ) = 1024 + (1024 * (2 * n) + 1024 + j) := fun j => by ring
      simp only [e1, e2]
      rw [sum_tile (fun m => wt x1 v8 r (1024 + m)), sum_tile (fun m => wt x1 v8 r (1024 + m))]
      rfl
    · rw [t11]; rfl

end Cert.KernelIdeal.Attn
-- ==== Proof.Attn.Run.lean ====
module

public import proofs.«01_k».proof.Proof.Gen.KernelIdeal.Frame.Runs

@[expose] public section

set_option maxRecDepth 16384
set_option maxHeartbeats 1000000

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- One grid point of the attention runs: from the inputs' blocks, the output's and the scratch buffers' memories at anything, to the inputs unchanged and a list of
    stores over the output's memory. The second weight buffer is handed over at contents `f12` by name, since the list of stores may speak of them: the loop
    reads that buffer only after writing it, but that is a fact about the loop and not about the way the stores are listed. -/
def attnRun (c : Dev nD) (i : grid0.Coords) (arg3 : Memref sig .tc .vmem S1x1024x384 .f32) (harg3 : arg3.IsWhole) (arg4 : Memref sig .tc .vmem S1x16384x128 .bf16) (harg4 : arg4.IsWhole) (arg5 : Memref sig .tc .vmem S1x128x16384 .bf16) (harg5 : arg5.IsWhole) (arg6 : Memref sig .tc .vmem S1x256x128 .bf16) (harg6 : arg6.IsWhole) (arg7 : Memref sig .tc .vmem S1x128x256 .bf16) (harg7 : arg7.IsWhole) (arg8 : Memref sig .tc .vmem S1x1024x384 .bf16) (harg8 : arg8.IsWhole) (arg9 : Memref sig .tc .vmem S128x3072 .f32) (harg9 : arg9.IsWhole) (arg10 : Memref sig .tc .vmem S1x3072 .f32) (harg10 : arg10.IsWhole) (arg11 : Memref sig .tc .vmem S1024x3072 .bf16) (harg11 : arg11.IsWhole) (arg12 : Memref sig .tc .vmem S1024x3072 .bf16) (harg12 : arg12.IsWhole)
    (x0 : Vec F S1x1024x384 .f32) (x1 : Vec F S1x16384x128 .bf16) (x2 : Vec F S1x128x16384 .bf16) (x3 : Vec F S1x256x128 .bf16) (x4 : Vec F S1x128x256 .bf16) :
    { L : BufTy.Contents (Elt F) arg12.view.ty → List (View.Piece (Elt F) S1x1024x384 .bf16) //
      ∀ (f12 : BufTy.Contents (Elt F) arg12.view.ty) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
            ∗ (arg12.view.loc (c : Thread nD τ) ↦[arg12.view.set]{fullShare} f12)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ f, arg8.view.loc (c : Thread nD τ) ↦[arg8.view.set]{fullShare} arg8.view.writes (Elt F) f (L f12))
                ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)) -∗ K ⟨⟩))
          ⊢ wp frame (wpE (defs₀ (F := F)) Variants.none c none) E (cc0_attention i arg3 harg3 arg4 harg4 arg5 harg5 arg6 harg6 arg7 harg7 arg8 harg8 arg9 harg9 arg10 harg10 arg11 harg11 arg12 harg12) K } := by
  refine ⟨?_, fun f12 E K => ?run⟩
  case run =>
    simp only [cc0_attention_eq_skeleton]; unfold cc0_attention_skel
    simp only [k0_part3_eq_skeleton, k0_part4_eq_skeleton, k0_part5_eq_skeleton]
    unfold owns
    iintro ⟨⟨%g0, %e0, H0⟩, ⟨%g1, %e1, H1⟩, ⟨%g2, %e2, H2⟩, ⟨%g3, %e3, H3⟩, ⟨%g4, %e4, H4⟩, ⟨%w5, %g5, -, H5⟩, ⟨%w9, %g9, -, H9⟩, ⟨%w10, %g10, -, H10⟩, ⟨%w11, %g11, -, H11⟩, H12, Hk⟩
    obtain rfl := harg3.eq_unread e0; obtain rfl := harg4.eq_unread e1; obtain rfl := harg5.eq_unread e2; obtain rfl := harg6.eq_unread e3; obtain rfl := harg7.eq_unread e4
    sl_exec
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]; · iexists _; iexact H5
    isplitl [H9]
    · iexists _, _; isplitr; swap; · iexact H9
      ipureintro; rfl
    isplitl [H10]
    · iexists _, _; isplitr; swap; · iexact H10
      ipureintro; rfl
    isplitl [H11]
    · iexists _, _; isplitr; swap; · iexact H11
      ipureintro; rfl
    iexists _, _; isplitr; swap; · iexact H12
    ipureintro; rfl

end Cert.KernelIdeal.Attn
-- ==== Proof.Attn.Start.lean ====
module

public import proofs.«01_k».proof.Proof.Gen.KernelIdeal.Loops
public import Idealize.ShloMosaic.Lib.Pipeline.ValueKit
public import Idealize.ShloMosaic.Lib.Pipeline.ReadBack
public import Idealize.ShloMosaic.Lib.VecWindow
public import proofs.«01_k».proof.Proof.Attn.Trip
public import proofs.«01_k».proof.Proof.Attn.Run

@[expose] public section

set_option maxRecDepth 16384
set_option maxHeartbeats 2000000

noncomputable section

namespace Cert.KernelIdeal.Attn

open Cert.KernelIdeal Cert.KernelIdeal.Gen
open Idealize.ShloMosaic Idealize.ShloMosaic.TcCoe Idealize.ShloMosaic.Tactic Idealize.SL.Sem

/-- The weight of context key `n` for the stacked query row `r`. -/
def wtc (x3 : Vec Ideal S1x256x128 .bf16) (q : FVec Ideal S3072x128 .bf16) (r : Fin 3072) (n : Fin 256) : EReal :=
  Ideal.exp2 (∑ e : Fin 128, x3 (ix3 0 n e) * q (ix2 r e))

/-- The run's word for the stacked queries is their payload. -/
theorem queries_word (c : Dev nD) (arg3 : Memref sig .tc .vmem S1x1024x384 .f32) (harg3 : arg3.IsWhole) (x0 : Vec Ideal S1x1024x384 .f32) : attnRun.sl.r (F := Ideal) c arg3 harg3 x0 = k0_pay10 x0 := by
  unfold attnRun.sl.r
  simp (disch := decide) only [View.readCov_unit_lit', View.readCov_cons_unit_lit', View.readAt_eq_ld, View.ld_unit_lit', Memref.IsWhole.read_unread]

/-- Before the loop the first buffer holds the weights of the first tile. -/
theorem start_weights (c : Dev nD) (arg3 : Memref sig .tc .vmem S1x1024x384 .f32) (harg3 : arg3.IsWhole) (arg4 : Memref sig .tc .vmem S1x16384x128 .bf16) (harg4 : arg4.IsWhole) (arg11 : Memref sig .tc .vmem S1024x3072 .bf16) (x0 : Vec Ideal S1x1024x384 .f32) (x1 : Vec Ideal S1x16384x128 .bf16) (j : Fin 1024) (r : Fin 3072) :
    arg11.view.read (Elt Ideal) (arg11.view.writes (Elt Ideal) arg11.view.junk (attnRun.sl.H11_1 (F := Ideal) c arg3 harg3 arg4 harg4 x0 x1)) (ix2 j r) = wt x1 (k0_pay10 x0) r j := by
  sl_unfold_words
  simp (disch := decide) only [View.readCov_unit_lit', View.readCov_cons_unit_lit', View.readAt_eq_ld, View.ld_unit_lit', Memref.IsWhole.read_unread]
  refine (congrFun (View.read_writes_full _ _ _ _ _) _).trans ?_
  unfold k0_pay17 k0_pay14
  generalize k0_pay10 x0 = q
  pointwise
  exact wt_of _ rfl

/-- Before the loop the row sums are those of the context's weights and of the first tile's. -/
theorem start_sums (c : Dev nD) (arg3 : Memref sig .tc .vmem S1x1024x384 .f32) (harg3 : arg3.IsWhole) (arg4 : Memref sig .tc .vmem S1x16384x128 .bf16) (harg4 : arg4.IsWhole) (arg6 : Memref sig .tc .vmem S1x256x128 .bf16) (harg6 : arg6.IsWhole) (arg10 : Memref sig .tc .vmem S1x3072 .f32) (x0 : Vec Ideal S1x1024x384 .f32) (x1 : Vec Ideal S1x16384x128 .bf16) (x3 : Vec Ideal S1x256x128 .bf16) (r : Fin 3072) :
    arg10.view.read (Elt Ideal) (arg10.view.writes (Elt Ideal) arg10.view.junk (attnRun.sl.H10_2 (F := Ideal) c arg3 harg3 arg4 harg4 arg6 harg6 arg10 x0 x1 x3)) (ix2 0 r) =
      ∑ n : Fin 256, wtc x3 (k0_pay10 x0) r n + ∑ j : Fin 1024, wt x1 (k0_pay10 x0) r j := by
  sl_unfold_words
  simp (disch := decide) only [View.readCov_unit_lit', View.readCov_cons_unit_lit', View.readAt_eq_ld, View.ld_unit_lit', Memref.IsWhole.read_unread]
  refine (congrFun (View.read_writes_full _ _ _ _ _) _).trans ?_
  unfold k0_pay16 k0_pay15 k0_pay14 k0_pay12 k0_pay11
  generalize k0_pay10 x0 = q
  pointwise
  congr 1

/-- Before the loop the accumulator holds the context's weighted values. -/
theorem start_acc (c : Dev nD) (arg3 : Memref sig .tc .vmem S1x1024x384 .f32) (harg3 : arg3.IsWhole) (arg6 : Memref sig .tc .vmem S1x256x128 .bf16) (harg6 : arg6.IsWhole) (arg7 : Memref sig .tc .vmem S1x128x256 .bf16) (harg7 : arg7.IsWhole) (arg9 : Memref sig .tc .vmem S128x3072 .f32) (x0 : Vec Ideal S1x1024x384 .f32) (x3 : Vec Ideal S1x256x128 .bf16) (x4 : Vec Ideal S1x128x256 .bf16) (d : Fin 128) (r : Fin 3072) :
    arg9.view.read (Elt Ideal) (arg9.view.writes (Elt Ideal) arg9.view.junk (attnRun.sl.H9_1 (F := Ideal) c arg3 harg3 arg6 harg6 arg7 harg7 x0 x3 x4)) (ix2 d r) =
      ∑ n : Fin 256, x4 (ix3 0 d n) * wtc x3 (k0_pay10 x0) r n := by
  sl_unfold_words
  simp (disch := decide) only [View.readCov_unit_lit', View.readCov_cons_unit_lit', View.readAt_eq_ld, View.ld_unit_lit', Memref.IsWhole.read_unread]
  refine (congrFun (View.read_writes_full _ _ _ _ _) _).trans ?_
  unfold k0_pay13 k0_pay11
  generalize k0_pay10 x0 = q
  pointwise
  rfl

end Cert.KernelIdeal.Attn
-- ==== Proof.Attn.Final.lean ====
module

public import proofs.«01_k».proof.Proof.Gen.KernelIdeal.Loops
public import Idealize.ShloMosaic.Lib.Pipeline.ValueKit
public import Idealize.ShloMosaic.Lib.Pipeline.ReadBack
public import Idealize.ShloMosaic.Lib.VecWindow
public import proofs.«01_k».proof.Proof.Attn.Loop
public import proofs.«01_k».proof.Proof.Attn.Start

@[expose] public section

set_option maxRecDepth 16384
set_option maxHeartbeats 2000000

noncomputable section

namespace Cert.KernelIdeal.Attn

open Cert.KernelIdeal Cert.KernelIdeal.Gen
open Idealize.ShloMosaic Idealize.ShloMosaic.TcCoe Idealize.ShloMosaic.Tactic Idealize.SL.Sem

/-- The loop's trip count as the run spells it. -/
theorem trips_word : Scf.trips (0#32) (Scalar.addi 0#32 7#32) 1#32 = 7 := by decide +kernel

/-- What the four scratch buffers are read as after the loop: the accumulator and the row sums of the context and of all tiles but the last two (but the last
    one), and the weights of the last tile but one. -/
theorem after_loop (c : Dev nD) (i : grid0.Coords) (arg3 : Memref sig .tc .vmem S1x1024x384 .f32) (harg3 : arg3.IsWhole) (arg4 : Memref sig .tc .vmem S1x16384x128 .bf16) (harg4 : arg4.IsWhole) (arg5 : Memref sig .tc .vmem S1x128x16384 .bf16) (harg5 : arg5.IsWhole) (arg6 : Memref sig .tc .vmem S1x256x128 .bf16) (harg6 : arg6.IsWhole) (arg7 : Memref sig .tc .vmem S1x128x256 .bf16) (harg7 : arg7.IsWhole) (arg8 : Memref sig .tc .vmem S1x1024x384 .bf16) (harg8 : arg8.IsWhole) (arg9 : Memref sig .tc .vmem S128x3072 .f32) (harg9 : arg9.IsWhole) (arg10 : Memref sig .tc .vmem S1x3072 .f32) (harg10 : arg10.IsWhole) (arg11 : Memref sig .tc .vmem S1024x3072 .bf16) (harg11 : arg11.IsWhole) (arg12 : Memref sig .tc .vmem S1024x3072 .bf16) (harg12 : arg12.IsWhole) (x0 : Vec Ideal S1x1024x384 .f32) (x1 : Vec Ideal S1x16384x128 .bf16) (x2 : Vec Ideal S1x128x16384 .bf16) (x3 : Vec Ideal S1x256x128 .bf16) (x4 : Vec Ideal S1x128x256 .bf16) (f12 : BufTy.Contents (Elt Ideal) arg12.view.ty) :
    (∀ (d : Fin 128) (r : Fin 3072), attnRun.sl.v56 (F := Ideal) c i arg3 harg3 arg4 harg4 arg5 harg5 arg6 harg6 arg7 harg7 arg8 harg8 arg9 harg9 arg10 harg10 arg11 harg11 arg12 harg12 x0 x1 x2 x3 x4 f12 (ix2 d r) =
      ∑ n : Fin 256, x4 (ix3 0 d n) * wtc x3 (k0_pay10 x0) r n + ∑ j ∈ Finset.range 14336, vl x2 d j * wt x1 (k0_pay10 x0) r j) ∧
    (∀ r : Fin 3072, attnRun.sl.v45 (F := Ideal) c i arg3 harg3 arg4 harg4 arg5 harg5 arg6 harg6 arg7 harg7 arg8 harg8 arg9 harg9 arg10 harg10 arg11 harg11 arg12 harg12 x0 x1 x2 x3 x4 f12 (ix2 0 r) =
      ∑ n : Fin 256, wtc x3 (k0_pay10 x0) r n + ∑ j ∈ Finset.range 15360, wt x1 (k0_pay10 x0) r j) ∧
    (∀ (j : Fin 1024) (r : Fin 3072), attnRun.sl.v59 (F := Ideal) c i arg3 harg3 arg4 harg4 arg5 harg5 arg6 harg6 arg7 harg7 arg8 harg8 arg9 harg9 arg10 harg10 arg11 harg11 arg12 harg12 x0 x1 x2 x3 x4 f12 (ix2 j r) = wt x1 (k0_pay10 x0) r (14336 + j)) := by
  obtain ⟨l9, l10, l11⟩ := loop_reads Variants.none c none i arg3 harg3 arg4 harg4 arg5 harg5 arg6 harg6 arg7 harg7 arg8 harg8 arg9 harg9 arg10 harg10 arg11 harg11 arg12 harg12 (attnRun.sl.r (F := Ideal) c arg3 harg3 x0)
    (attnRun.sl.r_1 (F := Ideal) c arg3 harg3 arg4 harg4 x0 x1) (attnRun.sl.v29 (F := Ideal) c arg3 harg3 arg6 harg6 arg10 x0 x3) (attnRun.sl.r_2 (F := Ideal) c arg3 harg3 arg4 harg4 x0 x1)
    x1 x2 (arg9.view.writes (Elt Ideal) arg9.view.junk (attnRun.sl.H9_1 (F := Ideal) c arg3 harg3 arg6 harg6 arg7 harg7 x0 x3 x4))
    (arg10.view.writes (Elt Ideal) arg10.view.junk (attnRun.sl.H10_2 (F := Ideal) c arg3 harg3 arg4 harg4 arg6 harg6 arg10 x0 x1 x3))
    (arg11.view.writes (Elt Ideal) arg11.view.junk (attnRun.sl.H11_1 (F := Ideal) c arg3 harg3 arg4 harg4 x0 x1)) f12
    (fun j r => by rw [start_weights, queries_word]) 7 le_rfl _ rfl
  rw [queries_word] at l9 l10 l11
  refine ⟨fun d r => ?_, fun r => ?_, fun j r => ?_⟩
  · unfold attnRun.sl.v56 View.readCov
    rw [View.writes_append, trips_word, queries_word]
    refine (congrFun (View.readAt_full _ _ _) _).trans ?_
    rw [l9, start_acc]
  · unfold attnRun.sl.v45 View.readCov
    rw [View.writes_append, trips_word, queries_word]
    refine (congrFun (View.readAt_full _ _ _) _).trans ?_
    rw [l10, start_sums, Fin.sum_univ_eq_sum_range (fun j => wt x1 (k0_pay10 x0) r j) 1024, add_assoc, ← Finset.sum_range_add]
  · unfold attnRun.sl.v59 View.readCov
    rw [View.writes_append, trips_word, queries_word]
    refine (congrFun (View.readAt_full _ _ _) _).trans ?_
    rw [l11]

/-- The last tile's weights, as the run reads them back. -/
theorem last_weights (c : Dev nD) (i : grid0.Coords) (arg3 : Memref sig .tc .vmem S1x1024x384 .f32) (harg3 : arg3.IsWhole) (arg4 : Memref sig .tc .vmem S1x16384x128 .bf16) (harg4 : arg4.IsWhole) (arg5 : Memref sig .tc .vmem S1x128x16384 .bf16) (harg5 : arg5.IsWhole) (arg6 : Memref sig .tc .vmem S1x256x128 .bf16) (harg6 : arg6.IsWhole) (arg7 : Memref sig .tc .vmem S1x128x256 .bf16) (harg7 : arg7.IsWhole) (arg8 : Memref sig .tc .vmem S1x1024x384 .bf16) (harg8 : arg8.IsWhole) (arg9 : Memref sig .tc .vmem S128x3072 .f32) (harg9 : arg9.IsWhole) (arg10 : Memref sig .tc .vmem S1x3072 .f32) (harg10 : arg10.IsWhole) (arg11 : Memref sig .tc .vmem S1024x3072 .bf16) (harg11 : arg11.IsWhole) (arg12 : Memref sig .tc .vmem S1024x3072 .bf16) (harg12 : arg12.IsWhole) (x0 : Vec Ideal S1x1024x384 .f32) (x1 : Vec Ideal S1x16384x128 .bf16) (x2 : Vec Ideal S1x128x16384 .bf16) (x3 : Vec Ideal S1x256x128 .bf16) (x4 : Vec Ideal S1x128x256 .bf16) (f12 : BufTy.Contents (Elt Ideal) arg12.view.ty) (j : Fin 1024) (r : Fin 3072) :
    attnRun.sl.v68 (F := Ideal) c i arg3 harg3 arg4 harg4 arg5 harg5 arg6 harg6 arg7 harg7 arg8 harg8 arg9 harg9 arg10 harg10 arg11 harg11 arg12 harg12 x0 x1 x2 x3 x4 f12 (ix2 j r) = wt x1 (k0_pay10 x0) r (15360 + j) := by
  unfold attnRun.sl.v68 attnRun.sl.H12_1
  rw [queries_word]
  simp (disch := decide) only [View.readCov_unit_lit', View.readCov_cons_unit_lit', View.readAt_eq_ld, View.ld_unit_lit', Memref.IsWhole.read_unread]
  unfold k0_pay21 k0_pay19
  generalize k0_pay10 x0 = q
  pointwise
  exact wt_of _ rfl

/-- The accumulator at the end: every value of the context and of the sequence by its weight. -/
theorem final_acc (c : Dev nD) (i : grid0.Coords) (arg3 : Memref sig .tc .vmem S1x1024x384 .f32) (harg3 : arg3.IsWhole) (arg4 : Memref sig .tc .vmem S1x16384x128 .bf16) (harg4 : arg4.IsWhole) (arg5 : Memref sig .tc .vmem S1x128x16384 .bf16) (harg5 : arg5.IsWhole) (arg6 : Memref sig .tc .vmem S1x256x128 .bf16) (harg6 : arg6.IsWhole) (arg7 : Memref sig .tc .vmem S1x128x256 .bf16) (harg7 : arg7.IsWhole) (arg8 : Memref sig .tc .vmem S1x1024x384 .bf16) (harg8 : arg8.IsWhole) (arg9 : Memref sig .tc .vmem S128x3072 .f32) (harg9 : arg9.IsWhole) (arg10 : Memref sig .tc .vmem S1x3072 .f32) (harg10 : arg10.IsWhole) (arg11 : Memref sig .tc .vmem S1024x3072 .bf16) (harg11 : arg11.IsWhole) (arg12 : Memref sig .tc .vmem S1024x3072 .bf16) (harg12 : arg12.IsWhole) (x0 : Vec Ideal S1x1024x384 .f32) (x1 : Vec Ideal S1x16384x128 .bf16) (x2 : Vec Ideal S1x128x16384 .bf16) (x3 : Vec Ideal S1x256x128 .bf16) (x4 : Vec Ideal S1x128x256 .bf16) (f12 : BufTy.Contents (Elt Ideal) arg12.view.ty) (d : Fin 128) (r : Fin 3072) :
    attnRun.sl.v74 (F := Ideal) c i arg3 harg3 arg4 harg4 arg5 harg5 arg6 harg6 arg7 harg7 arg8 harg8 arg9 harg9 arg10 harg10 arg11 harg11 arg12 harg12 x0 x1 x2 x3 x4 f12 (ix2 d r) =
      ∑ n : Fin 256, x4 (ix3 0 d n) * wtc x3 (k0_pay10 x0) r n + ∑ j ∈ Finset.range 16384, vl x2 d j * wt x1 (k0_pay10 x0) r j := by
  obtain ⟨a9, -, a11⟩ := after_loop c i arg3 harg3 arg4 harg4 arg5 harg5 arg6 harg6 arg7 harg7 arg8 harg8 arg9 harg9 arg10 harg10 arg11 harg11 arg12 harg12 x0 x1 x2 x3 x4 f12
  have a12 := last_weights c i arg3 harg3 arg4 harg4 arg5 harg5 arg6 harg6 arg7 harg7 arg8 harg8 arg9 harg9 arg10 harg10 arg11 harg11 arg12 harg12 x0 x1 x2 x3 x4 f12
  have h65 : attnRun.sl.v65 (F := Ideal) c i arg3 harg3 arg4 harg4 arg5 harg5 arg6 harg6 arg7 harg7 arg8 harg8 arg9 harg9 arg10 harg10 arg11 harg11 arg12 harg12 x0 x1 x2 x3 x4 f12 (ix2 d r) =
      ∑ n : Fin 256, x4 (ix3 0 d n) * wtc x3 (k0_pay10 x0) r n + ∑ j ∈ Finset.range 15360, vl x2 d j * wt x1 (k0_pay10 x0) r j := by
    unfold attnRun.sl.v65 attnRun.sl.H9_1_1 attnRun.sl.r_3
    simp (disch := decide) only [View.readCov_unit_lit', View.readCov_cons_unit_lit', View.readAt_eq_ld, View.ld_unit_lit', Memref.IsWhole.read_unread]
    unfold k0_pay23 k0_pay22
    generalize attnRun.sl.v56 (F := Ideal) c i arg3 harg3 arg4 harg4 arg5 harg5 arg6 harg6 arg7 harg7 arg8 harg8 arg9 harg9 arg10 harg10 arg11 harg11 arg12 harg12 x0 x1 x2 x3 x4 f12 = y56 at a9 ⊢
    generalize attnRun.sl.v59 (F := Ideal) c i arg3 harg3 arg4 harg4 arg5 harg5 arg6 harg6 arg7 harg7 arg8 harg8 arg9 harg9 arg10 harg10 arg11 harg11 arg12 harg12 x0 x1 x2 x3 x4 f12 = y59 at a11 ⊢
    pointwise
    rw [a9, add_assoc]
    refine congrArg (_ + ·) ?_
    rw [← sum_tile (fun m => vl x2 d m * wt x1 (k0_pay10 x0) r m) 14336]
    refine congrArg (_ + ·) ?_
    exact Finset.sum_congr rfl fun j _ => congrArg₂ (· * ·) (vl_of _ rfl) (a11 j r)
  unfold attnRun.sl.v74 attnRun.sl.H9_2
  simp (disch := decide) only [View.readCov_unit_lit', View.readCov_cons_unit_lit', View.readAt_eq_ld, View.ld_unit_lit', Memref.IsWhole.read_unread]
  unfold k0_pay24
  generalize attnRun.sl.v65 (F := Ideal) c i arg3 harg3 arg4 harg4 arg5 harg5 arg6 harg6 arg7 harg7 arg8 harg8 arg9 harg9 arg10 harg10 arg11 harg11 arg12 harg12 x0 x1 x2 x3 x4 f12 = y65 at h65 ⊢
  generalize attnRun.sl.v68 (F := Ideal) c i arg3 harg3 arg4 harg4 arg5 harg5 arg6 harg6 arg7 harg7 arg8 harg8 arg9 harg9 arg10 harg10 arg11 harg11 arg12 harg12 x0 x1 x2 x3 x4 f12 = y68 at a12 ⊢
  pointwise
  rw [h65, add_assoc]
  refine congrArg (_ + ·) ?_
  rw [← sum_tile (fun m => vl x2 d m * wt x1 (k0_pay10 x0) r m) 15360]
  refine congrArg (_ + ·) ?_
  exact Finset.sum_congr rfl fun j _ => congrArg₂ (· * ·) (vl_of _ rfl) (a12 j r)

/-- The row sums at the end: every weight of the context and of the sequence. -/
theorem final_sums (c : Dev nD) (i : grid0.Coords) (arg3 : Memref sig .tc .vmem S1x1024x384 .f32) (harg3 : arg3.IsWhole) (arg4 : Memref sig .tc .vmem S1x16384x128 .bf16) (harg4 : arg4.IsWhole) (arg5 : Memref sig .tc .vmem S1x128x16384 .bf16) (harg5 : arg5.IsWhole) (arg6 : Memref sig .tc .vmem S1x256x128 .bf16) (harg6 : arg6.IsWhole) (arg7 : Memref sig .tc .vmem S1x128x256 .bf16) (harg7 : arg7.IsWhole) (arg8 : Memref sig .tc .vmem S1x1024x384 .bf16) (harg8 : arg8.IsWhole) (arg9 : Memref sig .tc .vmem S128x3072 .f32) (harg9 : arg9.IsWhole) (arg10 : Memref sig .tc .vmem S1x3072 .f32) (harg10 : arg10.IsWhole) (arg11 : Memref sig .tc .vmem S1024x3072 .bf16) (harg11 : arg11.IsWhole) (arg12 : Memref sig .tc .vmem S1024x3072 .bf16) (harg12 : arg12.IsWhole) (x0 : Vec Ideal S1x1024x384 .f32) (x1 : Vec Ideal S1x16384x128 .bf16) (x2 : Vec Ideal S1x128x16384 .bf16) (x3 : Vec Ideal S1x256x128 .bf16) (x4 : Vec Ideal S1x128x256 .bf16) (f12 : BufTy.Contents (Elt Ideal) arg12.view.ty) (r : Fin 3072) :
    attnRun.sl.v75 (F := Ideal) c i arg3 harg3 arg4 harg4 arg5 harg5 arg6 harg6 arg7 harg7 arg8 harg8 arg9 harg9 arg10 harg10 arg11 harg11 arg12 harg12 x0 x1 x2 x3 x4 f12 (ix2 0 r) =
      ∑ n : Fin 256, wtc x3 (k0_pay10 x0) r n + ∑ j ∈ Finset.range 16384, wt x1 (k0_pay10 x0) r j := by
  obtain ⟨-, a10, -⟩ := after_loop c i arg3 harg3 arg4 harg4 arg5 harg5 arg6 harg6 arg7 harg7 arg8 harg8 arg9 harg9 arg10 harg10 arg11 harg11 arg12 harg12 x0 x1 x2 x3 x4 f12
  unfold attnRun.sl.v75 attnRun.sl.H10_1_1
  rw [queries_word]
  simp (disch := decide) only [View.readCov_unit_lit', View.readCov_cons_unit_lit', View.readAt_eq_ld, View.ld_unit_lit', Memref.IsWhole.read_unread]
  unfold k0_pay20 k0_pay19
  generalize attnRun.sl.v45 (F := Ideal) c i arg3 harg3 arg4 harg4 arg5 harg5 arg6 harg6 arg7 harg7 arg8 harg8 arg9 harg9 arg10 harg10 arg11 harg11 arg12 harg12 x0 x1 x2 x3 x4 f12 = y45 at a10 ⊢
  generalize k0_pay10 x0 = q at a10 ⊢
  pointwise
  rw [a10, add_assoc]
  refine congrArg (_ + ·) ?_
  rw [← sum_tile (fun m => wt x1 q r m) 15360]
  refine congrArg (_ + ·) ?_
  exact Finset.sum_congr rfl fun j _ => wt_of _ rfl

end Cert.KernelIdeal.Attn
-- ==== Proof.Attn.Block.lean ====
module

public import proofs.«01_k».proof.Proof.Attn.Final

@[expose] public section

set_option maxRecDepth 16384
set_option maxHeartbeats 2000000

noncomputable section

namespace Cert.KernelIdeal.Attn

open Cert.KernelIdeal Cert.KernelIdeal.Gen
open Idealize.ShloMosaic Idealize.ShloMosaic.TcCoe Idealize.ShloMosaic.Tactic Idealize.SL.Sem

/-- The unnormalised attention of a block of queries: at value column `d` of row `r`, every value of the context and of the sequence by its weight. -/
def accOf (x0 : Vec Ideal S1x1024x384 .f32) (x1 : Vec Ideal S1x16384x128 .bf16) (x2 : Vec Ideal S1x128x16384 .bf16) (x3 : Vec Ideal S1x256x128 .bf16) (x4 : Vec Ideal S1x128x256 .bf16) (d : Fin 128) (r : Fin 3072) : EReal :=
  ∑ n : Fin 256, x4 (ix3 0 d n) * wtc x3 (k0_pay10 x0) r n + ∑ j ∈ Finset.range 16384, vl x2 d j * wt x1 (k0_pay10 x0) r j

/-- The sum of the weights of row `r`. -/
def sumOf (x0 : Vec Ideal S1x1024x384 .f32) (x1 : Vec Ideal S1x16384x128 .bf16) (x3 : Vec Ideal S1x256x128 .bf16) (r : Fin 3072) : EReal :=
  ∑ n : Fin 256, wtc x3 (k0_pay10 x0) r n + ∑ j ∈ Finset.range 16384, wt x1 (k0_pay10 x0) r j

/-- What one grid point stores: at query `y 1` and column `y 2`, which is column `y 2 % 128` of the head numbered `y 2 / 128` in its group, the unnormalised
    attention divided by the sum of the weights. -/
def attnBlk (x0 : Vec Ideal S1x1024x384 .f32) (x1 : Vec Ideal S1x16384x128 .bf16) (x2 : Vec Ideal S1x128x16384 .bf16) (x3 : Vec Ideal S1x256x128 .bf16) (x4 : Vec Ideal S1x128x256 .bf16) : Vec Ideal S1x1024x384 .bf16 := fun y =>
  Ideal.div (accOf x0 x1 x2 x3 x4 ⟨(y 2 : ℕ) % 128, Nat.mod_lt _ (by decide)⟩
      ⟨(y 2 : ℕ) / 128 * 1024 + (y 1 : ℕ), by have h1 : (y 1 : ℕ) < 1024 := (y 1).isLt; have h2 : (y 2 : ℕ) < 384 := (y 2).isLt; omega⟩)
    (sumOf x0 x1 x3 ⟨(y 2 : ℕ) / 128 * 1024 + (y 1 : ℕ), by have h1 : (y 1 : ℕ) < 1024 := (y 1).isLt; have h2 : (y 2 : ℕ) < 384 := (y 2).isLt; omega⟩)

/-- The stored block at the three coordinates. -/
theorem attnBlk_of (x0 : Vec Ideal S1x1024x384 .f32) (x1 : Vec Ideal S1x16384x128 .bf16) (x2 : Vec Ideal S1x128x16384 .bf16) (x3 : Vec Ideal S1x256x128 .bf16) (x4 : Vec Ideal S1x128x256 .bf16) (y : S1x1024x384.Idx) (d : Fin 128) (r : Fin 3072) (hd : (y 2 : ℕ) % 128 = d)
    (hr : (y 2 : ℕ) / 128 * 1024 + (y 1 : ℕ) = r) :
    attnBlk x0 x1 x2 x3 x4 y = Ideal.div (accOf x0 x1 x2 x3 x4 d r) (sumOf x0 x1 x3 r) := by
  unfold attnBlk
  congr 2 <;> exact Fin.ext (by assumption)

/-- The three column blocks stored at the end, read back over any contents: the block's attention. -/
theorem blk_value (c : Dev nD) (i : grid0.Coords) (arg3 : Memref sig .tc .vmem S1x1024x384 .f32) (harg3 : arg3.IsWhole) (arg4 : Memref sig .tc .vmem S1x16384x128 .bf16) (harg4 : arg4.IsWhole) (arg5 : Memref sig .tc .vmem S1x128x16384 .bf16) (harg5 : arg5.IsWhole) (arg6 : Memref sig .tc .vmem S1x256x128 .bf16) (harg6 : arg6.IsWhole) (arg7 : Memref sig .tc .vmem S1x128x256 .bf16) (harg7 : arg7.IsWhole) (arg8 : Memref sig .tc .vmem S1x1024x384 .bf16) (harg8 : arg8.IsWhole) (arg9 : Memref sig .tc .vmem S128x3072 .f32) (harg9 : arg9.IsWhole) (arg10 : Memref sig .tc .vmem S1x3072 .f32) (harg10 : arg10.IsWhole) (arg11 : Memref sig .tc .vmem S1024x3072 .bf16) (harg11 : arg11.IsWhole) (arg12 : Memref sig .tc .vmem S1024x3072 .bf16) (harg12 : arg12.IsWhole) (x0 : Vec Ideal S1x1024x384 .f32) (x1 : Vec Ideal S1x16384x128 .bf16) (x2 : Vec Ideal S1x128x16384 .bf16) (x3 : Vec Ideal S1x256x128 .bf16) (x4 : Vec Ideal S1x128x256 .bf16)
    (f : BufTy.Contents (Elt Ideal) arg8.view.ty) (f12 : BufTy.Contents (Elt Ideal) arg12.view.ty) :
    arg8.view.read (Elt Ideal) (arg8.view.writes (Elt Ideal) f ((attnRun (F := Ideal) c i arg3 harg3 arg4 harg4 arg5 harg5 arg6 harg6 arg7 harg7 arg8 harg8 arg9 harg9 arg10 harg10 arg11 harg11 arg12 harg12 x0 x1 x2 x3 x4).1 f12)) = attnBlk x0 x1 x2 x3 x4 := by
  have ha := final_acc c i arg3 harg3 arg4 harg4 arg5 harg5 arg6 harg6 arg7 harg7 arg8 harg8 arg9 harg9 arg10 harg10 arg11 harg11 arg12 harg12 x0 x1 x2 x3 x4 f12
  have hs := final_sums c i arg3 harg3 arg4 harg4 arg5 harg5 arg6 harg6 arg7 harg7 arg8 harg8 arg9 harg9 arg10 harg10 arg11 harg11 arg12 harg12 x0 x1 x2 x3 x4 f12
  unfold attnRun
  dsimp only
  unfold attnRun.sl.r_4
  generalize attnRun.sl.v74 (F := Ideal) c i arg3 harg3 arg4 harg4 arg5 harg5 arg6 harg6 arg7 harg7 arg8 harg8 arg9 harg9 arg10 harg10 arg11 harg11 arg12 harg12 x0 x1 x2 x3 x4 f12 = v74 at ha ⊢
  generalize attnRun.sl.v75 (F := Ideal) c i arg3 harg3 arg4 harg4 arg5 harg5 arg6 harg6 arg7 harg7 arg8 harg8 arg9 harg9 arg10 harg10 arg11 harg11 arg12 harg12 x0 x1 x2 x3 x4 f12 = v75 at hs ⊢
  funext y
  refine (View.read_writes_apply_eq_canon (Val := Elt Ideal) arg8.view f y _ ?_).trans ?_
  · exact View.cover_of_tiledL _ ![1, 1024, 128] (by sl_kernel_rfl) y
  have key : ∀ (d : Fin 128) (r : Fin 3072), Ideal.div (v74 (ix2 d r)) (v75 (ix2 0 r)) = Ideal.div (accOf x0 x1 x2 x3 x4 d r) (sumOf x0 x1 x3 r) := fun d r => by
    rw [ha, hs]; rfl
  clear ha hs
  canon_tiles x h using (View.cover_of_tiledL _ ![1, 1024, 128] (by sl_kernel_rfl) y)
  · unfold k0_pay1 k0_pay28 k0_pay25
    pointwise
    rw [attnBlk_of x0 x1 x2 x3 x4 y (x 2) ⟨2048 + (x 1 : ℕ), by omega⟩ (by omega) (by show _ = 2048 + (x 1 : ℕ); omega)]
    exact key _ _
  · unfold k0_pay27 k0_pay25
    pointwise
    rw [attnBlk_of x0 x1 x2 x3 x4 y (x 2) ⟨1024 + (x 1 : ℕ), by omega⟩ (by omega) (by show _ = 1024 + (x 1 : ℕ); omega)]
    exact key _ _
  · unfold k0_pay26 k0_pay25
    pointwise
    rw [attnBlk_of x0 x1 x2 x3 x4 y (x 2) ⟨(x 1 : ℕ), by omega⟩ (by omega) (by show _ = (x 1 : ℕ); omega)]
    exact key _ _

/-- The scaled queries, one head of the group after the other, at an index. -/
theorem queries_at (x0 : Vec Ideal S1x1024x384 .f32) (g : Fin 3) (qi : Fin 1024) (e : Fin 128) (r : Fin 3072) (hr : (r : ℕ) = g * 1024 + qi) (b : Fin 384) (hb : (b : ℕ) = g * 128 + e) :
    k0_pay10 (F := Ideal) x0 (ix2 r e) = x0 (ix3 0 qi b) * (((Real.sqrt 128)⁻¹ * (Real.log 2)⁻¹ : ℝ) : EReal) := by
  unfold k0_pay10
  pointwise
  have hc : (Named.named (F := Ideal) (φ := .f32) κ "qk_scale_log2" 1040356334#32) = (((Real.sqrt 128)⁻¹ * (Real.log 2)⁻¹ : ℝ) : EReal) :=
    IdealRules.named_const.ideal_named_scalar _ _ _ _ rfl
  have hq : (qi : ℕ) < 1024 := qi.isLt
  rcases g with ⟨g, hg⟩
  dsimp only at hr hb
  obtain rfl | rfl | rfl : g = 0 ∨ g = 1 ∨ g = 2 := by omega
  · rw [dif_pos (by omega)]
    exact congrArg₂ (· * ·) (congrArg x0 (congrArg₂ (ix3 0) (Fin.ext (by show (r : ℕ) = _; omega)) (Fin.ext (by show (e : ℕ) = _; omega)))) hc
  · rw [dif_neg (by omega), dif_pos (by omega)]
    exact congrArg₂ (· * ·) (congrArg x0 (congrArg₂ (ix3 0) (Fin.ext (by show (r : ℕ) - 1024 = _; omega)) (Fin.ext (by show 128 + (e : ℕ) = _; omega)))) hc
  · rw [dif_neg (by omega), dif_neg (by omega)]
    exact congrArg₂ (· * ·) (congrArg x0 (congrArg₂ (ix3 0) (Fin.ext (by show (r : ℕ) - 1024 - 1024 = _; omega)) (Fin.ext (by show 256 + (e : ℕ) = _; omega)))) hc

end Cert.KernelIdeal.Attn
-- ==== Proof.Attn.Frame.lean ====
module

public import proofs.«01_k».proof.Proof.Attn.Block
public import proofs.«01_k».proof.Proof.Gen.KernelIdeal.Frame.Runs
public import Idealize.ShloMosaic.Lib.Claim
public import Idealize.ShloMosaic.Lib.Pipeline.Value

@[expose] public section

set_option maxRecDepth 16384
set_option maxHeartbeats 2000000

noncomputable section

namespace Cert.KernelIdeal.Attn

open Cert.KernelIdeal Cert.KernelIdeal.Gen
open Idealize.ShloMosaic Idealize.ShloMosaic.TcCoe Idealize.ShloMosaic.Tactic Idealize.SL.Sem
open Idealize.SL Idealize.SL.RA Idealize.SL.BI
open scoped Idealize.SL.BI
open Idealize.SL.BI.BIBase Idealize.SL.BI.Laws Idealize.SL.ProofMode
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-- An owned buffer at some contents, its contents named. -/
theorem scr_open (c : Dev nD) {s : Shape} {e : EltTy} (a : Memref sig .tc .vmem s e) :
    (iprop(∃ d, owns (c : Thread nD τ) a fullShare d) : sProp 𝕄) ⊢ iprop(∃ f, (a.view.loc (c : Thread nD τ) ↦[a.view.set]{fullShare} f)) := by
  unfold owns
  iintro ⟨%d, %f, -, H⟩
  iexists f
  iexact H

/-- The pipeline's proof data on one core: each input's staging buffer holds its block after every grid point, the output's the block's attention. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => attnBlk (iblk m c 0 t) (iblk m c 1 t) (iblk m c 2 t) (iblk m c 3 t) (iblk m c 4 t)
  Φ _ := Pipeline.ΦA spec0 c
  q _ := fullShare
  owed _ := 0

/-- The arrays the data start from are those the region finds. -/
theorem A_eq (c : Dev nD) (w : Fin cfg0.W) : (dats m 0 c).A w = V m c (Pipeline.arrRef spec0 w) := by
  dsimp only [dats]

/-- What each staging buffer holds after a grid point. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = attnBlk (iblk m c 0 t) (iblk m c 1 t) (iblk m c 2 t) (iblk m c 3 t) (iblk m c 4 t) := by dsimp only [dats]

/-- Each input's staging buffer holds its block before the body runs. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-- What the body is given at a grid point, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

/-- and what it gives back. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t))

/-- The body at any grid point: the run of its text, whose three stored column blocks read back as the block's attention whatever the buffers held before. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  rw [show (dats m 0 c).Φ t.castSucc = Pipeline.ΦA spec0 c from rfl, PhiA0_eq]
  iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩⟩
  ihave ⟨%fS, HS3⟩ := (scr_open c scM0_3) $$ HS3
  iapply ((attnRun c (grid0.coords t) _ _ _ _ _ _ _ _ _ _ _ _ _ _ _ _ _ _ _ _ (iblk m c 0 t) (iblk m c 1 t) (iblk m c 2 t) (iblk m c 3 t) (iblk m c 4 t)).2 fS Set.univ _)
  isplitl [H0]; · iexact H0
  isplitl [H1]; · iexact H1
  isplitl [H2]; · iexact H2
  isplitl [H3]; · iexact H3
  isplitl [H4]; · iexact H4
  isplitl [H5]; · iexists _; iexact H5
  isplitl [HS0]; · iexact HS0
  isplitl [HS1]; · iexact HS1
  isplitl [HS2]; · iexact HS2
  isplitl [HS3]; · iexact HS3
  iintro ⟨H0, H1, H2, H3, H4, ⟨%e5, H5⟩, HS0, HS1, HS2, HS3⟩
  isplitl [HS0 HS1 HS2 HS3 Hg]
  · isplitl [HS0 HS1 HS2 HS3]
    · isplitl [HS0]
      · iexact HS0
      isplitl [HS1]
      · iexact HS1
      isplitl [HS2]
      · iexact HS2
      iexact HS3
    iexact Hg
  isplitl [Ho]; · iexact Ho
  isplitl [H0]; · iexact H0
  isplitl [H1]; · iexact H1
  isplitl [H2]; · iexact H2
  isplitl [H3]; · iexact H3
  isplitl [H4]; · iexact H4
  unfold owns; iexists _; isplitr
  swap; · iexact H5
  ipureintro; exact blk_value c _ _ _ _ _ _ _ _ _ _ _ _ _ _ _ _ _ _ _ _ _ _ _ _ _ _ _ _

/-- The table's row for the body is the body. -/
theorem defs₀_row (t : Fin cfg0.N) :
    defs₀ (F := Ideal) .tc cfg0.body (cfg0.bodyArgs t (cfg0.slots t)) = bodyAt0 t := by
  unfold defs₀; rw [Defs.onTc_tc]

/-- The obligation the library asks of the body. -/
theorem body_obligation (c : Dev nD) : BodyObligation (dats m 0 c) (defs₀ (F := Ideal)) Variants.none () Set.univ := fun t => by
  rw [bigSep_W0, bigSep_W0, defs₀_row]
  exact triple_restated (sound_body m c t) rfl .rfl fun _ => .rfl

set_option backward.isDefEq.respectTransparency.types false in
/-- The launch: the whole program ends, with every counter at zero. -/
theorem run_main_quiescent : θ_run defs (onTc (τ := τ) (main (F := Ideal))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The launch without the counters. -/
theorem run_main : θ_run defs (onTc (τ := τ) (main (F := Ideal))) (s₀ m ρ) (Pipeline.FramePost cfgs (dats m) 0 (V m)) :=
  (θ_run defs _ _).mono (fun _ h => h.1) (run_main_quiescent m ρ)

/-- The arguments end as they were. -/
theorem unchanged : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

/-- The frame of the kernel's program over the extended reals. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

/-- After the run the output array is what the grid points wrote. -/
theorem post5 (r : PUnit × MemSt nD τ sig (Elt Ideal)) (h : Pipeline.FramePost cfgs (dats m) 0 (V m) r) (c : Dev nD) :
    r.2.mem ((c : Thread nD τ).loc main_v11) = (dats m 0 c).arrAt 5 cfg0.N :=
  (h c).1 5

/-- After the run each argument is as it was. -/
theorem kept_main_arg0 (r : PUnit × MemSt nD τ sig (Elt Ideal)) (h : Pipeline.FramePost cfgs (dats m) 0 (V m) r) (c : Dev nD) :
    r.2.mem ((c : Thread nD τ).loc main_arg0) = m ((c : Thread nD τ).loc main_arg0) :=
  ((h c).2 main_arg0 (Pipeline.mem_restRefs_of main_arg0 (by decide) (by decide))).trans (V_main_arg0 m c)

theorem kept_main_arg1 (r : PUnit × MemSt nD τ sig (Elt Ideal)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

theorem kept_main_arg2 (r : PUnit × MemSt nD τ sig (Elt Ideal)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

theorem kept_main_arg3 (r : PUnit × MemSt nD τ sig (Elt Ideal)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

theorem kept_main_arg4 (r : PUnit × MemSt nD τ sig (Elt Ideal)) (h : Pipeline.FramePost cfgs (dats m) 0 (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)

/-- The run with the output array named and the arguments unchanged. -/
theorem run_blocks : θ_run defs (onTc (τ := τ) (main (F := Ideal))) ⟨m, fun _ => 0, ρ⟩ fun r => ∀ c : Dev nD,
      r.2.mem ((c : Thread nD τ).loc main_v11) = (dats m 0 c).arrAt 5 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨post5 m r h c,
      kept_main_arg0 m r h c,
      kept_main_arg1 m r h c,
      kept_main_arg2 m r h c,
      kept_main_arg3 m r h c,
      kept_main_arg4 m r h c⟩)
    (run_main m ρ)

end Cert.KernelIdeal.Attn
-- ==== Proof.Attn.Array.lean ====
module

public import proofs.«01_k».proof.Proof.Attn.Frame

@[expose] public section

set_option maxRecDepth 16384
set_option maxHeartbeats 2000000

noncomputable section

namespace Cert.KernelIdeal.Attn

open Cert.KernelIdeal Cert.KernelIdeal.Gen
open Idealize.ShloMosaic Idealize.ShloMosaic.TcCoe Idealize.ShloMosaic.Tactic Idealize.SL.Sem

variable (m : (ℓ : Loc nD τ sig) → Buf (Elt Ideal) ℓ)

/-- Where each window's block lies, from the grid's coordinates: batch, head group, query block. -/
theorem idx : ∀ t : Fin grid0.N,
    win0_0.index t = ![(grid0.coords t 0).val, (grid0.coords t 2).val, (grid0.coords t 1).val] ∧
    win0_1.index t = ![(grid0.coords t 0).val, 0, (grid0.coords t 1).val] ∧
    win0_2.index t = ![(grid0.coords t 0).val, (grid0.coords t 1).val, 0] ∧
    win0_3.index t = ![(grid0.coords t 0).val, 0, (grid0.coords t 1).val] ∧
    win0_4.index t = ![(grid0.coords t 0).val, (grid0.coords t 1).val, 0] ∧
    win0_5.index t = ![(grid0.coords t 0).val, (grid0.coords t 2).val, (grid0.coords t 1).val] := by
  decide +kernel

/-- The queries' block, read off the argument. -/
theorem blk0 (c : Dev nD) (t : Fin cfg0.N) (a : Fin 1) (qi : Fin 1024) (y : Fin 384) (b : Fin 2) (n : Fin 16384) (hd : Fin 12) (e : Fin 128)
    (hb : (b : ℕ) = (grid0.coords t 0).val) (hn : (n : ℕ) = (grid0.coords t 2).val * 1024 + qi)
    (hh : (grid0.coords t 1).val * 384 + (y : ℕ) = hd * 128 + e) :
    iblk m c 0 t (ix3 a qi y) = m ((c : Thread nD τ).loc main_arg0) (ix4 b n hd e) := by
  have hi := (idx t).1
  have he : (win0_0.blk t).view.emb (ix3 a qi y) = ix3 b n (⟨(hd : ℕ) * 128 + e, by omega⟩ : Fin 1536) := by
    blk_ext [hi]
  show V m c main_v0 ((win0_0.blk t).view.emb (ix3 a qi y)) = _
  rw [he]
  entry_read
  pointwise

/-- The keys' block, read off the argument. -/
theorem blk1 (c : Dev nD) (t : Fin cfg0.N) (a : Fin 1) (n : Fin 16384) (e : Fin 128) (b : Fin 2) (h : Fin 4)
    (hb : (b : ℕ) = (grid0.coords t 0).val) (hh : (h : ℕ) = (grid0.coords t 1).val) :
    iblk m c 1 t (ix3 a n e) = m ((c : Thread nD τ).loc main_arg1) (ix4 b n h e) := by
  have hi := (idx t).2.1
  have he : (win0_1.blk t).view.emb (ix3 a n e) = ix3 b n (⟨(h : ℕ) * 128 + e, by omega⟩ : Fin 512) := by
    blk_ext [hi]
  show V m c main_v2 ((win0_1.blk t).view.emb (ix3 a n e)) = _
  rw [he]
  entry_read
  pointwise
  exact congrArg (m ((c : Thread nD τ).loc main_arg1)) (congrArg₂ (ix4 b n) (Fin.ext (by show ((h : ℕ) * 128 + e) / 128 = h; omega)) (Fin.ext (by show ((h : ℕ) * 128 + e) % 128 = e; omega)))

/-- The values' block, read off the argument. -/
theorem blk2 (c : Dev nD) (t : Fin cfg0.N) (a : Fin 1) (n : Fin 16384) (e : Fin 128) (b : Fin 2) (h : Fin 4)
    (hb : (b : ℕ) = (grid0.coords t 0).val) (hh : (h : ℕ) = (grid0.coords t 1).val) :
    iblk m c 2 t (ix3 a e n) = m ((c : Thread nD τ).loc main_arg2) (ix4 b n h e) := by
  have hi := (idx t).2.2.1
  have he : (win0_2.blk t).view.emb (ix3 a e n) = ix3 b (⟨(h : ℕ) * 128 + e, by omega⟩ : Fin 512) n := by
    blk_ext [hi]
  show V m c main_v5 ((win0_2.blk t).view.emb (ix3 a e n)) = _
  rw [he]
  entry_read
  pointwise
  exact congrArg (m ((c : Thread nD τ).loc main_arg2)) (congrArg₂ (ix4 b n) (Fin.ext (by show ((h : ℕ) * 128 + e) / 128 = h; omega)) (Fin.ext (by show ((h : ℕ) * 128 + e) % 128 = e; omega)))

/-- The context keys' block, read off the argument. -/
theorem blk3 (c : Dev nD) (t : Fin cfg0.N) (a : Fin 1) (n : Fin 256) (e : Fin 128) (b : Fin 2) (h : Fin 4)
    (hb : (b : ℕ) = (grid0.coords t 0).val) (hh : (h : ℕ) = (grid0.coords t 1).val) :
    iblk m c 3 t (ix3 a n e) = m ((c : Thread nD τ).loc main_arg3) (ix4 b n h e) := by
  have hi := (idx t).2.2.2.1
  have he : (win0_3.blk t).view.emb (ix3 a n e) = ix3 b n (⟨(h : ℕ) * 128 + e, by omega⟩ : Fin 512) := by
    blk_ext [hi]
  show V m c main_v7 ((win0_3.blk t).view.emb (ix3 a n e)) = _
  rw [he]
  entry_read
  pointwise
  exact congrArg (m ((c : Thread nD τ).loc main_arg3)) (congrArg₂ (ix4 b n) (Fin.ext (by show ((h : ℕ) * 128 + e) / 128 = h; omega)) (Fin.ext (by show ((h : ℕ) * 128 + e) % 128 = e; omega)))

/-- The context values' block, read off the argument. -/
theorem blk4 (c : Dev nD) (t : Fin cfg0.N) (a : Fin 1) (n : Fin 256) (e : Fin 128) (b : Fin 2) (h : Fin 4)
    (hb : (b : ℕ) = (grid0.coords t 0).val) (hh : (h : ℕ) = (grid0.coords t 1).val) :
    iblk m c 4 t (ix3 a e n) = m ((c : Thread nD τ).loc main_arg4) (ix4 b n h e) := by
  have hi := (idx t).2.2.2.2.1
  have he : (win0_4.blk t).view.emb (ix3 a e n) = ix3 b (⟨(h : ℕ) * 128 + e, by omega⟩ : Fin 512) n := by
    blk_ext [hi]
  show V m c main_v10 ((win0_4.blk t).view.emb (ix3 a e n)) = _
  rw [he]
  entry_read
  pointwise
  exact congrArg (m ((c : Thread nD τ).loc main_arg4)) (congrArg₂ (ix4 b n) (Fin.ext (by show ((h : ℕ) * 128 + e) / 128 = h; omega)) (Fin.ext (by show ((h : ℕ) * 128 + e) % 128 = e; omega)))

/-- A query by the scale, against a key. -/
def logit2 (q k : Fin 128 → EReal) : EReal := ∑ e : Fin 128, k e * (q e * (((Real.sqrt 128)⁻¹ * (Real.log 2)⁻¹ : ℝ) : EReal))

/-- What the kernel's program leaves for query `n` of head `hd` of batch `b` at value column `d`. -/
def attnAt (q : S2x16384x12x128.Idx → EReal) (k v : S2x16384x4x128.Idx → EReal) (kc vc : S2x256x4x128.Idx → EReal)
    (b : Fin 2) (n : Fin 16384) (hd : Fin 12) (h : Fin 4) (d : Fin 128) : EReal :=
  Ideal.div
    (∑ j : Fin 256, vc (ix4 b j h d) * Ideal.exp2 (logit2 (fun e => q (ix4 b n hd e)) (fun e => kc (ix4 b j h e))) +
      ∑ j : Fin 16384, v (ix4 b j h d) * Ideal.exp2 (logit2 (fun e => q (ix4 b n hd e)) (fun e => k (ix4 b j h e))))
    (∑ j : Fin 256, Ideal.exp2 (logit2 (fun e => q (ix4 b n hd e)) (fun e => kc (ix4 b j h e))) +
      ∑ j : Fin 16384, Ideal.exp2 (logit2 (fun e => q (ix4 b n hd e)) (fun e => k (ix4 b j h e))))

/-- What the kernel's program leaves, over the whole output. -/
def attnArr (q : S2x16384x12x128.Idx → EReal) (k v : S2x16384x4x128.Idx → EReal) (kc vc : S2x256x4x128.Idx → EReal) : S2x16384x1536.Idx → EReal := fun y =>
  attnAt q k v kc vc (y 0) (y 1) ⟨(y 2 : ℕ) / 128, by have h2 : (y 2 : ℕ) < 1536 := (y 2).isLt; omega⟩
    ⟨(y 2 : ℕ) / 384, by have h2 : (y 2 : ℕ) < 1536 := (y 2).isLt; omega⟩ ⟨(y 2 : ℕ) % 128, Nat.mod_lt _ (by decide)⟩

/-- The block's attention from its five input blocks' entries. -/
theorem attnBlk_eq (x0 : Vec Ideal S1x1024x384 .f32) (x1 : Vec Ideal S1x16384x128 .bf16) (x2 : Vec Ideal S1x128x16384 .bf16) (x3 : Vec Ideal S1x256x128 .bf16) (x4 : Vec Ideal S1x128x256 .bf16)
    (q : S2x16384x12x128.Idx → EReal) (k v : S2x16384x4x128.Idx → EReal) (kc vc : S2x256x4x128.Idx → EReal)
    (qi : Fin 1024) (g : Fin 3) (d : Fin 128) (b : Fin 2) (n : Fin 16384) (hd : Fin 12) (h : Fin 4)
    (y : S1x1024x384.Idx) (hy1 : (y 1 : ℕ) = qi) (hy2 : (y 2 : ℕ) = g * 128 + d)
    (h0 : ∀ e : Fin 128, x0 (ix3 0 qi ⟨(g : ℕ) * 128 + e, by omega⟩) = q (ix4 b n hd e))
    (h1 : ∀ (j : Fin 16384) (e : Fin 128), x1 (ix3 0 j e) = k (ix4 b j h e))
    (h2 : ∀ (j : Fin 16384), x2 (ix3 0 d j) = v (ix4 b j h d))
    (h3 : ∀ (j : Fin 256) (e : Fin 128), x3 (ix3 0 j e) = kc (ix4 b j h e))
    (h4 : ∀ (j : Fin 256), x4 (ix3 0 d j) = vc (ix4 b j h d)) :
    attnBlk x0 x1 x2 x3 x4 y = attnAt q k v kc vc b n hd h d := by
  have hr : (g : ℕ) * 1024 + qi < 3072 := by omega
  rw [attnBlk_of x0 x1 x2 x3 x4 y d ⟨(g : ℕ) * 1024 + qi, hr⟩ (by omega) (by show _ = (g : ℕ) * 1024 + (qi : ℕ); omega)]
  have hq : ∀ e : Fin 128, k0_pay10 (F := Ideal) x0 (ix2 ⟨(g : ℕ) * 1024 + qi, hr⟩ e) = q (ix4 b n hd e) * (((Real.sqrt 128)⁻¹ * (Real.log 2)⁻¹ : ℝ) : EReal) := fun e => by
    rw [queries_at x0 g qi e _ rfl ⟨(g : ℕ) * 128 + e, by omega⟩ rfl, h0]
  have hc : ∀ j : Fin 256, wtc x3 (k0_pay10 (F := Ideal) x0) ⟨(g : ℕ) * 1024 + qi, hr⟩ j = Ideal.exp2 (logit2 (fun e => q (ix4 b n hd e)) (fun e => kc (ix4 b j h e))) := fun j => by
    unfold wtc logit2
    refine congrArg Ideal.exp2 (Finset.sum_congr rfl fun e _ => ?_)
    rw [hq, h3]
  have hs : ∀ j : Fin 16384, wt x1 (k0_pay10 (F := Ideal) x0) ⟨(g : ℕ) * 1024 + qi, hr⟩ j = Ideal.exp2 (logit2 (fun e => q (ix4 b n hd e)) (fun e => k (ix4 b j h e))) := fun j => by
    unfold wt logit2
    rw [dif_pos j.isLt]
    refine congrArg Ideal.exp2 (Finset.sum_congr rfl fun e _ => ?_)
    rw [hq, h1]
  have hv : ∀ j : Fin 16384, vl x2 d j = v (ix4 b j h d) := fun j => by
    unfold vl
    rw [dif_pos j.isLt, h2]
  unfold attnAt accOf sumOf
  rw [Finset.sum_range, Finset.sum_range]
  refine congrArg₂ Ideal.div (congrArg₂ (· + ·) (Finset.sum_congr rfl fun j _ => ?_) (Finset.sum_congr rfl fun j _ => ?_))
    (congrArg₂ (· + ·) (Finset.sum_congr rfl fun j _ => ?_) (Finset.sum_congr rfl fun j _ => ?_))
  · rw [hc, h4]
  · rw [hs, hv]
  · exact hc j
  · exact hs j

/-- The output array after the run: the attention of every query of every head of every batch. -/
theorem out_eq (c : Dev nD) : (dats m 0 c).arrAt 5 cfg0.N =
    attnArr (m ((c : Thread nD τ).loc main_arg0)) (m ((c : Thread nD τ).loc main_arg1)) (m ((c : Thread nD τ).loc main_arg2))
      (m ((c : Thread nD τ).loc main_arg3)) (m ((c : Thread nD τ).loc main_arg4)) := by
  refine (dats m 0 c).arrAt_eq_of_covers 5 _ (by decide +kernel) fun t hf y => ?_
  blk_simp
  rw [after0_5]
  have hi := (idx t).2.2.2.2.2
  have y0 : (y 0 : ℕ) < 1 := (y 0).isLt
  have y1 : (y 1 : ℕ) < 1024 := (y 1).isLt
  have y2 : (y 2 : ℕ) < 384 := (y 2).isLt
  have c1 : (grid0.coords t 1 : ℕ) < 4 := (grid0.coords t 1).isLt
  have e0 : ((win0_5.blk t).view.emb y 0 : ℕ) = (grid0.coords t 0 : ℕ) := by
    blk_simp [hi]
  have e1 : ((win0_5.blk t).view.emb y 1 : ℕ) = (grid0.coords t 2 : ℕ) * 1024 + (y 1 : ℕ) := by
    blk_simp [hi]
  have e2 : ((win0_5.blk t).view.emb y 2 : ℕ) = (grid0.coords t 1 : ℕ) * 384 + (y 2 : ℕ) := by
    blk_simp [hi]
  unfold attnArr
  generalize (win0_5.blk t).view.emb y = z at e0 e1 e2
  refine attnBlk_eq _ _ _ _ _ _ _ _ _ _ ⟨(y 1 : ℕ), y1⟩ ⟨(y 2 : ℕ) / 128, by omega⟩ _ _ _ _ _ y rfl (by show _ = (y 2 : ℕ) / 128 * 128 + (z 2 : ℕ) % 128; omega)
    (fun e => ?_) (fun j e => ?_) (fun j => ?_) (fun j e => ?_) (fun j => ?_)
  · exact blk0 m c t 0 _ _ _ _ _ e e0 e1 (by show (grid0.coords t 1 : ℕ) * 384 + ((y 2 : ℕ) / 128 * 128 + (e : ℕ)) = (z 2 : ℕ) / 128 * 128 + (e : ℕ); omega)
  · exact blk1 m c t 0 j e _ _ e0 (by show (z 2 : ℕ) / 384 = _; omega)
  · exact blk2 m c t 0 j _ _ _ e0 (by show (z 2 : ℕ) / 384 = _; omega)
  · exact blk3 m c t 0 j e _ _ e0 (by show (z 2 : ℕ) / 384 = _; omega)
  · exact blk4 m c t 0 j _ _ _ e0 (by show (z 2 : ℕ) / 384 = _; omega)

end Cert.KernelIdeal.Attn
-- ==== Proof.Attn.Math.lean ====
module

public import Idealize.ShloMosaic.PureOps.Ideal.Laws
public import Idealize.ShloMosaic.PureOps.Reduce
public import Idealize.ShloMosaic.Lib.Pointwise

@[expose] public section

set_option maxRecDepth 16384

noncomputable section

namespace Cert.AttnMath

open Idealize.ShloMosaic

/-- A finite sum of real numbers, taken among the extended reals. -/
theorem sum_real {ι : Type} (s : Finset ι) (f : ι → ℝ) : ∑ j ∈ s, ((f j : ℝ) : EReal) = ((∑ j ∈ s, f j : ℝ) : EReal) := by
  classical
  induction s using Finset.induction_on with
  | empty => simp
  | insert a s ha ih => rw [Finset.sum_insert ha, Finset.sum_insert ha, ih, EReal.coe_add]

/-- A nonnegative real factor goes into a sum of extended reals. -/
theorem sum_mul_real {ι : Type} (s : Finset ι) (f : ι → EReal) {r : ℝ} (hr : 0 ≤ r) :
    (∑ j ∈ s, f j) * ((r : ℝ) : EReal) = ∑ j ∈ s, f j * ((r : ℝ) : EReal) := by
  classical
  induction s using Finset.induction_on with
  | empty => simp
  | insert a s ha ih =>
    rw [Finset.sum_insert ha, Finset.sum_insert ha, ← ih]
    exact EReal.right_distrib_of_nonneg_of_ne_top (by exact_mod_cast hr) (EReal.coe_ne_top r) _ _

/-- The greatest of finitely many real numbers, started from the least extended real, is a real number. -/
theorem fold_max_real {ι : Type} (s : Finset ι) (hs : s.Nonempty) (f : ι → EReal) (hf : ∀ i, ∃ r : ℝ, f i = (r : EReal)) :
    ∃ r : ℝ, s.fold max (⊥ : EReal) f = (r : EReal) := by
  have hlt : s.fold max (⊥ : EReal) f < ⊤ := by
    rw [Finset.fold_max_lt]
    refine ⟨bot_lt_top, fun x _ => ?_⟩
    obtain ⟨r, hr⟩ := hf x
    rw [hr]; exact EReal.coe_lt_top r
  have hgt : ⊥ < s.fold max (⊥ : EReal) f := by
    obtain ⟨i, hi⟩ := hs
    obtain ⟨r, hr⟩ := hf i
    refine lt_of_lt_of_le (EReal.bot_lt_coe r) ?_
    rw [Finset.le_fold_max]
    exact Or.inr ⟨i, hi, le_of_eq hr.symm⟩
  exact ⟨_, (EReal.coe_toReal hlt.ne hgt.ne').symm⟩

/-- Values averaged by the normalised exponentials of real logits, shifted by any real number: the values weighted by the exponentials, divided once by their sum. -/
theorem softmax_mean {n : ℕ} (hn : 0 < n) (v : Fin n → EReal) (s : Fin n → ℝ) (M : ℝ) :
    ∑ j : Fin n, v j * Ideal.div (Ideal.exp (((s j : ℝ) : EReal) - ((M : ℝ) : EReal))) (0 + ∑ i : Fin n, Ideal.exp (((s i : ℝ) : EReal) - ((M : ℝ) : EReal)))
      = Ideal.div (∑ j : Fin n, v j * ((Real.exp (s j) : ℝ) : EReal)) ((∑ j : Fin n, Real.exp (s j) : ℝ) : EReal) := by
  have hpos : (0 : ℝ) < ∑ j : Fin n, Real.exp (s j) :=
    Finset.sum_pos (fun j _ => Real.exp_pos _) ⟨⟨0, hn⟩, Finset.mem_univ _⟩
  have he : ∀ j, Ideal.exp (((s j : ℝ) : EReal) - ((M : ℝ) : EReal)) = ((Real.exp (s j) * Real.exp (-M) : ℝ) : EReal) := fun j => by
    rw [← EReal.coe_sub, Ideal.exp_coe, sub_eq_add_neg, Real.exp_add]
  have hS : (0 : EReal) + ∑ i : Fin n, Ideal.exp (((s i : ℝ) : EReal) - ((M : ℝ) : EReal)) = (((∑ i : Fin n, Real.exp (s i)) * Real.exp (-M) : ℝ) : EReal) := by
    rw [zero_add, Finset.sum_congr rfl fun j _ => he j, sum_real, Finset.sum_mul]
  rw [hS, Ideal.div_coe hpos.ne', sum_mul_real _ _ (by positivity)]
  refine Finset.sum_congr rfl fun j _ => ?_
  rw [he, Ideal.div_coe (mul_pos hpos (Real.exp_pos _)).ne', ← EReal.coe_mul, mul_assoc (v j), ← EReal.coe_mul]
  congr 2
  have hM : Real.exp (-M) ≠ 0 := (Real.exp_pos _).ne'
  field_simp

/-- Two to the power of a logit scaled by the reciprocal of the logarithm of two is its exponential. -/
theorem exp2_scaled (x : ℝ) : Ideal.exp2 ((x * (Real.log 2)⁻¹ : ℝ) : EReal) = ((Real.exp x : ℝ) : EReal) := by
  rw [Ideal.exp2_coe]
  congr 1
  show (2 : ℝ) ^ (x * (Real.log 2)⁻¹) = _
  rw [Real.rpow_def_of_pos (by norm_num)]
  congr 1
  have : Real.log 2 ≠ 0 := (Real.log_pos (by norm_num)).ne'
  field_simp

end Cert.AttnMath
-- ==== Proof.Attn.Ref.lean ====
module

public import proofs.«01_k».proof.Proof.Gen.ReferenceIdeal.Read
public import proofs.«01_k».proof.Proof.Attn.Math
public import Idealize.ShloMosaic.Lib.Pointwise

@[expose] public section

set_option maxRecDepth 16384
set_option maxHeartbeats 2000000

noncomputable section

namespace Cert.ReferenceIdeal.Attn

open Cert.ReferenceIdeal Cert.ReferenceIdeal.Gen Cert.ReferenceIdeal.Read Cert.AttnMath
open Idealize.ShloMosaic Idealize.ShloMosaic.TcCoe Idealize.ShloMosaic.Tactic Idealize.SL.Sem

/-- An array of the context followed by the sequence, at position `j`. -/
def cat {α : Type} (kc : S2x256x4x128.Idx → α) (k : S2x16384x4x128.Idx → α) (b : Fin 2) (j : Fin 16640) (h : Fin 4) (e : Fin 128) : α :=
  if hj : (j : ℕ) < 256 then kc (ix4 b ⟨j, hj⟩ h e) else k (ix4 b ⟨(j : ℕ) - 256, by omega⟩ h e)

/-- The logit of query `n` of head `hd` against position `j`. -/
def logit (q : S2x16384x12x128.Idx → ℝ) (k : S2x16384x4x128.Idx → ℝ) (kc : S2x256x4x128.Idx → ℝ) (b : Fin 2) (n : Fin 16384) (hd : Fin 12) (h : Fin 4) (j : Fin 16640) : ℝ :=
  (∑ e : Fin 128, cat kc k b j h e * q (ix4 b n hd e)) * (1 / Real.sqrt 128)

theorem keys_at (k : (⟨S2x16384x4x128, .f32⟩ : BufTy).Contents (Elt Ideal)) (kc : (⟨S2x256x4x128, .f32⟩ : BufTy).Contents (Elt Ideal)) (i : S2x16640x4x128.Idx) :
    val_main_v0 (F := Ideal) k kc i = cat (α := EReal) kc k (i 0) (i 1) (i 2) (i 3) := by
  unfold val_main_v0
  pointwise
  rfl

theorem values_at (v : (⟨S2x16384x4x128, .f32⟩ : BufTy).Contents (Elt Ideal)) (vc : (⟨S2x256x4x128, .f32⟩ : BufTy).Contents (Elt Ideal)) (i : S2x16640x4x128.Idx) :
    val_main_v1 (F := Ideal) v vc i = cat (α := EReal) vc v (i 0) (i 1) (i 2) (i 3) := by
  unfold val_main_v1
  pointwise
  rfl

theorem cat_real (kc : S2x256x4x128.Idx → ℝ) (k : S2x16384x4x128.Idx → ℝ) (b : Fin 2) (j : Fin 16640) (h : Fin 4) (e : Fin 128) :
    cat (fun i => ((kc i : ℝ) : EReal)) (fun i => ((k i : ℝ) : EReal)) b j h e = ((cat kc k b j h e : ℝ) : EReal) := by
  unfold cat
  split <;> rfl

/-- The divisor of the logits is the square root of 128. -/
theorem scale_at (i : S2x4x3x16384x16640.Idx) : val_main_v6 (F := Ideal) i = ((Real.sqrt 128 : ℝ) : EReal) := by
  rw [val_main_v6_apply, val_main_v5_apply, val_main_cst_apply]
  show Ideal.sqrt (Ideal.ofBits .f32 0x43000000#32) = _
  rw [show Ideal.ofBits .f32 0x43000000#32 = ((128 : ℝ) : EReal) from by simp [Ideal.ofBits, Ideal.ieee, -EReal.coe_mul]; norm_num]
  rw [Ideal.sqrt_coe, if_neg (by norm_num)]

theorem logits_at (q : S2x16384x12x128.Idx → ℝ) (k : S2x16384x4x128.Idx → ℝ) (kc : S2x256x4x128.Idx → ℝ) (i : S2x4x3x16384x16640.Idx)
    (b : Fin 2) (n : Fin 16384) (hd : Fin 12) (h : Fin 4) (j : Fin 16640) (hb : b = i 0) (hn : n = i 3) (hhd : (hd : ℕ) = (i 1 : ℕ) * 3 + (i 2 : ℕ)) (hh : h = i 1) (hj : j = i 4) :
    val_main_v7 (F := Ideal) (fun i => ((q i : ℝ) : EReal)) (fun i => ((k i : ℝ) : EReal)) (fun i => ((kc i : ℝ) : EReal)) i = ((logit q k kc b n hd h j : ℝ) : EReal) := by
  subst hb hn hh hj
  rw [val_main_v7_apply, scale_at, val_main_v4_apply, val_main_v3_apply]
  have hs : Real.sqrt 128 ≠ 0 := by positivity
  show Ideal.div _ _ = _
  rw [Ideal.div_coe hs]
  unfold logit
  rw [EReal.coe_mul, ← sum_real]
  refine congrArg (· * _) (Finset.sum_congr rfl fun e _ => ?_)
  rw [keys_at, val_main_v2_apply, EReal.coe_mul]
  refine congrArg₂ (· * ·) (cat_real kc k _ _ _ _) ?_
  have h0 : (i 0 : ℕ) < 2 := (i 0).isLt
  have h1 : (i 1 : ℕ) < 4 := (i 1).isLt
  have h2 : (i 2 : ℕ) < 3 := (i 2).isLt
  have h3 : (i 3 : ℕ) < 16384 := (i 3).isLt
  have he : (e : ℕ) < 128 := e.isLt
  refine congrArg (fun z => ((q z : ℝ) : EReal)) ?_
  funext a
  refine Fin.ext ?_
  match a with
  | ⟨0, _⟩ => show (((((i 0 : ℕ) * 16384 + (i 3 : ℕ)) * 4 + (i 1 : ℕ)) * 3 + (i 2 : ℕ)) * 128 + (e : ℕ)) / 25165824 = (i 0 : ℕ); omega
  | ⟨1, _⟩ => show (((((i 0 : ℕ) * 16384 + (i 3 : ℕ)) * 4 + (i 1 : ℕ)) * 3 + (i 2 : ℕ)) * 128 + (e : ℕ)) / 1536 % 16384 = (i 3 : ℕ); omega
  | ⟨2, _⟩ => show (((((i 0 : ℕ) * 16384 + (i 3 : ℕ)) * 4 + (i 1 : ℕ)) * 3 + (i 2 : ℕ)) * 128 + (e : ℕ)) / 128 % 12 = (hd : ℕ); omega
  | ⟨3, _⟩ => show (((((i 0 : ℕ) * 16384 + (i 3 : ℕ)) * 4 + (i 1 : ℕ)) * 3 + (i 2 : ℕ)) * 128 + (e : ℕ)) % 128 = (e : ℕ); omega

/-- The greatest logit of a row is a real number. -/
theorem max_real (q : S2x16384x12x128.Idx → ℝ) (k : S2x16384x4x128.Idx → ℝ) (kc : S2x256x4x128.Idx → ℝ) (i : S2x4x3x16384.Idx) :
    ∃ M : ℝ, val_main_v10 (F := Ideal) (fun i => ((q i : ℝ) : EReal)) (fun i => ((k i : ℝ) : EReal)) (fun i => ((kc i : ℝ) : EReal)) i = ((M : ℝ) : EReal) := by
  rw [val_main_v10_apply, val_main_v9_apply, val_main_cst_1_apply]
  have hbot : Ideal.ofBits .f32 0xFF800000#32 = (⊥ : EReal) := by simp [Ideal.ofBits, Ideal.ieee]
  have hr : ∀ i, ∃ r : ℝ, val_main_v7 (F := Ideal) (fun i => ((q i : ℝ) : EReal)) (fun i => ((k i : ℝ) : EReal)) (fun i => ((kc i : ℝ) : EReal)) i = ((r : ℝ) : EReal) := fun i =>
    ⟨_, logits_at q k kc i (i 0) (i 3) ⟨(i 1 : ℕ) * 3 + (i 2 : ℕ), by have h1 : (i 1 : ℕ) < 4 := (i 1).isLt; have h2 : (i 2 : ℕ) < 3 := (i 2).isLt; omega⟩ (i 1) (i 4) rfl rfl rfl rfl rfl⟩
  unfold val_main_v8
  generalize val_main_v7 (F := Ideal) (fun i => ((q i : ℝ) : EReal)) (fun i => ((k i : ℝ) : EReal)) (fun i => ((kc i : ℝ) : EReal)) = z at hr ⊢
  have hf := Host.reduce_eq_fold_single (FloatOps.maximumf (F := Ideal) (φ := .f32)) z (val_main_cst_0 (F := Ideal)) reducesTo_S2x4x3x16384x16640_S2x4x3x16384_d4 (by decide) h_S_ i
  obtain ⟨M, hM⟩ := fold_max_real (Finset.univ : Finset (Fin 16640)) ⟨0, Finset.mem_univ _⟩
    (z ∘ (show S2x4x3x16384x16640.Reduces [4] S2x4x3x16384 by decide).lift i) (fun j => hr _)
  refine ⟨M, ?_⟩
  have hm : Host.reduce (FloatOps.maximumf (F := Ideal) (φ := .f32)) z (val_main_cst_0 (F := Ideal)) reducesTo_S2x4x3x16384x16640_S2x4x3x16384_d4 h_S_ i = ((M : ℝ) : EReal) := by
    refine hf.trans (Eq.trans ?_ hM)
    show Finset.fold max (Ideal.ofBits .f32 0xFF800000#32) _ _ = _
    rw [hbot]
    rfl
  rw [hm]
  show max (Ideal.ofBits .f32 0xFF800000#32) _ = _
  rw [hbot]
  exact bot_sup_eq _

/-- A row's exponential at one position, given the row's greatest logit. -/
theorem exp_at (q : S2x16384x12x128.Idx → ℝ) (k : S2x16384x4x128.Idx → ℝ) (kc : S2x256x4x128.Idx → ℝ) (i : S2x4x3x16384x16640.Idx) (r : S2x4x3x16384.Idx) (M : ℝ)
    (hM : val_main_v10 (F := Ideal) (fun i => ((q i : ℝ) : EReal)) (fun i => ((k i : ℝ) : EReal)) (fun i => ((kc i : ℝ) : EReal)) r = ((M : ℝ) : EReal))
    (h0 : (i 0 : ℕ) = (r 0 : ℕ)) (h1 : (i 1 : ℕ) = (r 1 : ℕ)) (h2 : (i 2 : ℕ) = (r 2 : ℕ)) (h3 : (i 3 : ℕ) = (r 3 : ℕ))
    (b : Fin 2) (n : Fin 16384) (hd : Fin 12) (h : Fin 4) (j : Fin 16640) (hb : (b : ℕ) = (r 0 : ℕ)) (hn : (n : ℕ) = (r 3 : ℕ)) (hhd : (hd : ℕ) = (r 1 : ℕ) * 3 + (r 2 : ℕ)) (hh : (h : ℕ) = (r 1 : ℕ)) (hj : (j : ℕ) = (i 4 : ℕ)) :
    val_main_v14 (F := Ideal) (fun i => ((q i : ℝ) : EReal)) (fun i => ((k i : ℝ) : EReal)) (fun i => ((kc i : ℝ) : EReal)) i = Ideal.exp (((logit q k kc b n hd h j : ℝ) : EReal) - ((M : ℝ) : EReal)) := by
  rw [val_main_v14_apply, val_main_v13_apply, val_main_v12_apply, val_main_v11_apply]
  rw [logits_at q k kc i b n hd h j (Fin.ext (hb.trans h0.symm)) (Fin.ext (hn.trans h3.symm)) (by rw [hhd, h1, h2]) (Fin.ext (hh.trans h1.symm)) (Fin.ext hj)]
  have hr : idx_main_v11 (idx_main_v12 i) = r := funext fun a => Fin.ext (by
    match a with
    | ⟨0, _⟩ => exact h0
    | ⟨1, _⟩ => exact h1
    | ⟨2, _⟩ => exact h2
    | ⟨3, _⟩ => exact h3)
  rw [hr, hM]
  rfl

/-- The averaged values, one of them. -/
theorem mean_at (q : S2x16384x12x128.Idx → ℝ) (k : S2x16384x4x128.Idx → ℝ) (kc : S2x256x4x128.Idx → ℝ) (v : (⟨S2x16384x4x128, .f32⟩ : BufTy).Contents (Elt Ideal)) (vc : (⟨S2x256x4x128, .f32⟩ : BufTy).Contents (Elt Ideal)) (i : S2x4x128x3x16384.Idx)
    (b : Fin 2) (n : Fin 16384) (hd : Fin 12) (h : Fin 4) (d : Fin 128) (hb : (b : ℕ) = (i 0 : ℕ)) (hn : (n : ℕ) = (i 4 : ℕ)) (hhd : (hd : ℕ) = (i 1 : ℕ) * 3 + (i 3 : ℕ)) (hh : (h : ℕ) = (i 1 : ℕ)) (hd' : (d : ℕ) = (i 2 : ℕ)) :
    val_main_v19 (F := Ideal) (fun i => ((q i : ℝ) : EReal)) (fun i => ((k i : ℝ) : EReal)) v (fun i => ((kc i : ℝ) : EReal)) vc i =
      Ideal.div (∑ j : Fin 16640, cat (α := EReal) vc v b j h d * ((Real.exp (logit q k kc b n hd h j) : ℝ) : EReal))
        ((∑ j : Fin 16640, Real.exp (logit q k kc b n hd h j) : ℝ) : EReal) := by
  obtain ⟨M, hM⟩ := max_real q k kc (fun a => match a with
    | ⟨0, _⟩ => ⟨(i 0).val, (i 0).isLt⟩
    | ⟨1, _⟩ => ⟨(i 1).val, (i 1).isLt⟩
    | ⟨2, _⟩ => ⟨(i 3).val, (i 3).isLt⟩
    | ⟨3, _⟩ => ⟨(i 4).val, (i 4).isLt⟩)
  rw [val_main_v19_apply, ← softmax_mean (by decide) (fun j => cat (α := EReal) vc v b j h d) (fun j => logit q k kc b n hd h j) M]
  refine Finset.sum_congr rfl fun j _ => ?_
  refine congrArg₂ (· * ·) ?_ ?_
  · rw [values_at]
    have e0 : b = lidx_main_v19 i j 0 := Fin.ext hb
    have e2 : h = lidx_main_v19 i j 2 := Fin.ext hh
    have e3 : d = lidx_main_v19 i j 3 := Fin.ext hd'
    rw [e0, e2, e3]
    rfl
  · rw [val_main_v18_apply, val_main_v17_apply, val_main_v16_apply, val_main_v15_apply]
    show Ideal.div _ _ = _
    refine congrArg₂ Ideal.div ?_ (congrArg₂ (· + ·) ?_ (Finset.sum_congr rfl fun l _ => ?_))
    · exact exp_at q k kc _ _ M hM rfl rfl rfl rfl b n hd h j hb hn hhd hh rfl
    · show Ideal.ofBits .f32 0x00000000#32 = 0
      simp [Ideal.ofBits, Ideal.ieee]
    · exact exp_at q k kc _ _ M hM rfl rfl rfl rfl b n hd h l hb hn hhd hh rfl

/-- The reference's result at an index. -/
theorem result_at (q : S2x16384x12x128.Idx → ℝ) (k : S2x16384x4x128.Idx → ℝ) (kc : S2x256x4x128.Idx → ℝ) (v : (⟨S2x16384x4x128, .f32⟩ : BufTy).Contents (Elt Ideal)) (vc : (⟨S2x256x4x128, .f32⟩ : BufTy).Contents (Elt Ideal)) (y : S2x16384x1536.Idx)
    (b : Fin 2) (n : Fin 16384) (hd : Fin 12) (h : Fin 4) (d : Fin 128) (hb : (b : ℕ) = (y 0 : ℕ)) (hn : (n : ℕ) = (y 1 : ℕ)) (hhd : (hd : ℕ) = (y 2 : ℕ) / 128) (hh : (h : ℕ) = (y 2 : ℕ) / 384) (hd' : (d : ℕ) = (y 2 : ℕ) % 128) :
    val_main_v22 (F := Ideal) (fun i => ((q i : ℝ) : EReal)) (fun i => ((k i : ℝ) : EReal)) v (fun i => ((kc i : ℝ) : EReal)) vc y =
      Ideal.div (∑ j : Fin 16640, cat (α := EReal) vc v b j h d * ((Real.exp (logit q k kc b n hd h j) : ℝ) : EReal))
        ((∑ j : Fin 16640, Real.exp (logit q k kc b n hd h j) : ℝ) : EReal) := by
  have h0 : (y 0 : ℕ) < 2 := (y 0).isLt
  have h1 : (y 1 : ℕ) < 16384 := (y 1).isLt
  have h2 : (y 2 : ℕ) < 1536 := (y 2).isLt
  rw [val_main_v22_apply, val_main_v21_apply, val_main_v20_apply]
  show val_main_v19 (F := Ideal) (fun i => ((q i : ℝ) : EReal)) (fun i => ((k i : ℝ) : EReal)) v (fun i => ((kc i : ℝ) : EReal)) vc _ = _
  refine mean_at q k kc v vc _ b n hd h d ?_ ?_ ?_ ?_ ?_
  · show (b : ℕ) = (((y 0 : ℕ) * 16384 + (y 1 : ℕ)) * 1536 + (y 2 : ℕ)) / 25165824; omega
  · show (n : ℕ) = (((y 0 : ℕ) * 16384 + (y 1 : ℕ)) * 1536 + (y 2 : ℕ)) / 1536 % 16384; omega
  · show (hd : ℕ) = (((y 0 : ℕ) * 16384 + (y 1 : ℕ)) * 1536 + (y 2 : ℕ)) / 384 % 4 * 3 + (((y 0 : ℕ) * 16384 + (y 1 : ℕ)) * 1536 + (y 2 : ℕ)) / 128 % 3; omega
  · show (h : ℕ) = (((y 0 : ℕ) * 16384 + (y 1 : ℕ)) * 1536 + (y 2 : ℕ)) / 384 % 4; omega
  · show (d : ℕ) = (((y 0 : ℕ) * 16384 + (y 1 : ℕ)) * 1536 + (y 2 : ℕ)) % 128; omega

end Cert.ReferenceIdeal.Attn
-- ==== Proof.Attn.Equation.lean ====
module

public import proofs.«01_k».proof.Proof.Attn.Array
public import proofs.«01_k».proof.Proof.Attn.Ref

@[expose] public section

set_option maxRecDepth 16384
set_option maxHeartbeats 2000000

noncomputable section

namespace Cert.AttnEq

open Cert.KernelIdeal Cert.AttnMath Cert.KernelIdeal.Attn
open Idealize.ShloMosaic Idealize.ShloMosaic.TcCoe Idealize.SL.Sem
open Cert.ReferenceIdeal.Attn (cat logit result_at)

/-- The logit in base two: of real entries, the logit in base e over the logarithm of two. -/
theorem logit2_real (q k : Fin 128 → ℝ) :
    logit2 (fun e => ((q e : ℝ) : EReal)) (fun e => ((k e : ℝ) : EReal)) = (((∑ e : Fin 128, k e * q e) * (1 / Real.sqrt 128) * (Real.log 2)⁻¹ : ℝ) : EReal) := by
  unfold logit2
  simp only [← EReal.coe_mul]
  rw [sum_real]
  refine congrArg _ ?_
  rw [Finset.sum_mul, Finset.sum_mul]
  refine Finset.sum_congr rfl fun e _ => ?_
  rw [one_div]; ring

/-- The weight of a position, in either base. -/
theorem weight_real (q k : Fin 128 → ℝ) :
    Ideal.exp2 (logit2 (fun e => ((q e : ℝ) : EReal)) (fun e => ((k e : ℝ) : EReal))) = ((Real.exp ((∑ e : Fin 128, k e * q e) * (1 / Real.sqrt 128)) : ℝ) : EReal) := by
  rw [logit2_real, exp2_scaled]

theorem cat_ctx {α : Type} (kc : S2x256x4x128.Idx → α) (k : S2x16384x4x128.Idx → α) (b : Fin 2) (j : Fin 256) (h : Fin 4) (e : Fin 128) (l : Fin 16640) (hl : (l : ℕ) = (j : ℕ)) :
    cat kc k b l h e = kc (ix4 b j h e) := by
  unfold cat
  rw [dif_pos (by omega)]
  have : (⟨(l : ℕ), by omega⟩ : Fin 256) = j := Fin.ext hl
  rw [this]

theorem cat_seq {α : Type} (kc : S2x256x4x128.Idx → α) (k : S2x16384x4x128.Idx → α) (b : Fin 2) (j : Fin 16384) (h : Fin 4) (e : Fin 128) (l : Fin 16640) (hl : (l : ℕ) = 256 + (j : ℕ)) :
    cat kc k b l h e = k (ix4 b j h e) := by
  unfold cat
  rw [dif_neg (by omega)]
  have : (⟨(l : ℕ) - 256, by omega⟩ : Fin 16384) = j := Fin.ext (by show (l : ℕ) - 256 = (j : ℕ); omega)
  rw [this]

/-- The two programs' attention at an index, of real queries and keys. -/
theorem at_real (q : S2x16384x12x128.Idx → ℝ) (k : S2x16384x4x128.Idx → ℝ) (kc : S2x256x4x128.Idx → ℝ) (v : S2x16384x4x128.Idx → EReal) (vc : S2x256x4x128.Idx → EReal)
    (b : Fin 2) (n : Fin 16384) (hd : Fin 12) (h : Fin 4) (d : Fin 128) :
    attnAt (fun i => ((q i : ℝ) : EReal)) (fun i => ((k i : ℝ) : EReal)) v (fun i => ((kc i : ℝ) : EReal)) vc b n hd h d =
      Ideal.div (∑ j : Fin 16640, cat (α := EReal) vc v b j h d * ((Real.exp (logit q k kc b n hd h j) : ℝ) : EReal))
        ((∑ j : Fin 16640, Real.exp (logit q k kc b n hd h j) : ℝ) : EReal) := by
  rw [← sum_real]
  unfold attnAt
  rw [Fin.sum_univ_two_halves 256 16384 rfl (fun j : Fin 16640 => cat (α := EReal) vc v b j h d * ((Real.exp (logit q k kc b n hd h j) : ℝ) : EReal)),
    Fin.sum_univ_two_halves 256 16384 rfl (fun j : Fin 16640 => ((Real.exp (logit q k kc b n hd h j) : ℝ) : EReal))]
  have hc : ∀ (j : Fin 256) (l : Fin 16640), (l : ℕ) = (j : ℕ) → Ideal.exp2 (logit2 (fun e => ((q (ix4 b n hd e) : ℝ) : EReal)) (fun e => ((kc (ix4 b j h e) : ℝ) : EReal))) = ((Real.exp (logit q k kc b n hd h l) : ℝ) : EReal) := fun j l hl => by
    rw [weight_real (fun e => q (ix4 b n hd e)) (fun e => kc (ix4 b j h e))]
    unfold logit
    simp only [cat_ctx kc k b j h _ l hl]
  have hs : ∀ (j : Fin 16384) (l : Fin 16640), (l : ℕ) = 256 + (j : ℕ) → Ideal.exp2 (logit2 (fun e => ((q (ix4 b n hd e) : ℝ) : EReal)) (fun e => ((k (ix4 b j h e) : ℝ) : EReal))) = ((Real.exp (logit q k kc b n hd h l) : ℝ) : EReal) := fun j l hl => by
    rw [weight_real (fun e => q (ix4 b n hd e)) (fun e => k (ix4 b j h e))]
    unfold logit
    simp only [cat_seq kc k b j h _ l hl]
  refine congrArg₂ Ideal.div (congrArg₂ (· + ·) (Finset.sum_congr rfl fun j _ => ?_) (Finset.sum_congr rfl fun j _ => ?_))
    (congrArg₂ (· + ·) (Finset.sum_congr rfl fun j _ => ?_) (Finset.sum_congr rfl fun j _ => ?_))
  · exact congrArg₂ (· * ·) (cat_ctx vc v b j h d _ rfl).symm (hc j _ rfl)
  · exact congrArg₂ (· * ·) (cat_seq vc v b j h d _ rfl).symm (hs j _ rfl)
  · exact hc j _ rfl
  · exact hs j _ rfl

/-- The two programs' results, of real queries and keys and any values. -/
theorem arr_eq (q : S2x16384x12x128.Idx → EReal) (k v : S2x16384x4x128.Idx → EReal) (kc vc : S2x256x4x128.Idx → EReal)
    (hq : ∀ i, ∃ r : ℝ, q i = ((r : ℝ) : EReal)) (hk : ∀ i, ∃ r : ℝ, k i = ((r : ℝ) : EReal)) (hkc : ∀ i, ∃ r : ℝ, kc i = ((r : ℝ) : EReal)) :
    attnArr q k v kc vc = Cert.ReferenceIdeal.Read.val_main_v22 (F := Ideal) q k v kc vc := by
  choose q' hq using hq
  choose k' hk using hk
  choose kc' hkc using hkc
  obtain rfl : q = fun i => ((q' i : ℝ) : EReal) := funext hq
  obtain rfl : k = fun i => ((k' i : ℝ) : EReal) := funext hk
  obtain rfl : kc = fun i => ((kc' i : ℝ) : EReal) := funext hkc
  funext y
  exact (at_real q' k' kc' v vc (y 0) (y 1) _ _ _).trans (result_at q' k' kc' v vc y (y 0) (y 1) _ _ _ rfl rfl rfl rfl rfl).symm

end Cert.AttnEq
-- ==== Proof.Attn.Finite.lean ====
module

public import proofs.«01_k».proof.Proof.Gen.Pre_finite
public import Idealize.ShloMosaic.Lib.ReduceAll
public import Idealize.ShloMosaic.Lib.Pointwise

@[expose] public section

set_option maxRecDepth 16384

noncomputable section

namespace Cert.Pre_finite.Attn

open Cert.Pre_finite Cert.Pre_finite.Gen
open Idealize.ShloMosaic Idealize.ShloMosaic.TcCoe Idealize.ShloMosaic.Tactic Idealize.SL.Sem

instance : Subsingleton S_.Idx := ⟨fun x y => funext fun a => a.elim0⟩

/-- An extended real whose absolute value compares below the infinity is a real number. -/
theorem real_of_lt (x : EReal) (h : Ideal.cmp .olt (max x (-x)) (Ideal.ofBits .f32 0x7F800000#32) = 1#1) : ∃ r : ℝ, x = ((r : ℝ) : EReal) := by
  have ht : Ideal.ofBits .f32 0x7F800000#32 = (⊤ : EReal) := by simp [Ideal.ofBits, Ideal.ieee]
  rw [ht] at h
  have hlt : max x (-x) < ⊤ := by
    by_contra hn
    have : Ideal.cmp .olt (max x (-x)) ⊤ = 0#1 := by
      unfold Ideal.cmp
      simp only [decide_eq_false hn]
      rfl
    rw [this] at h
    exact absurd h (by decide)
  have h1 : x ≠ ⊤ := ((le_max_left _ _).trans_lt hlt).ne
  have h2 : x ≠ ⊥ := fun hb => by
    rw [hb] at hlt
    simp at hlt
  exact ⟨x.toReal, (EReal.coe_toReal h1 h2).symm⟩

variable (q : FVec Ideal S2x16384x12x128 .f32) (k v : FVec Ideal S2x16384x4x128 .f32) (kc vc : FVec Ideal S2x256x4x128 .f32)

/-- Where the precondition holds, every query and every key is a real number. -/
theorem real_of_finite (h : Cert.Pre_finite.fn (F := Ideal) q k v kc vc = fun _ => 1#1) :
    (∀ i, ∃ r : ℝ, q i = ((r : ℝ) : EReal)) ∧ (∀ i, ∃ r : ℝ, k i = ((r : ℝ) : EReal)) ∧ (∀ i, ∃ r : ℝ, kc i = ((r : ℝ) : EReal)) := by
  have h := congrFun h (Shape.Idx.first Facts.h_S_)
  dsimp only [Cert.Pre_finite.fn] at h
  obtain ⟨h01, h2⟩ := IntOp.andi_eq_one.1 h
  obtain ⟨h0, h1⟩ := IntOp.andi_eq_one.1 h01
  exact ⟨fun i => real_of_lt _ (Host.reduce_andi_all _ _ _ _ _ h0 i),
    fun i => real_of_lt _ (Host.reduce_andi_all _ _ _ _ _ h1 i),
    fun i => real_of_lt _ (Host.reduce_andi_all _ _ _ _ _ h2 i)⟩

end Cert.Pre_finite.Attn
-- ==== Proof.Up.Frame.lean ====
module

public import proofs.«01_k».proof.Defs
public import proofs.«01_k».proof.Proof.Gen.Up
public import proofs.«01_k».proof.Proof.Gen.UpIdeal
public import proofs.«01_k».proof.Proof.Gen.UpIdeal.Frame
public import Idealize.ShloMosaic.Lib.Claim

@[expose] public section

set_option maxRecDepth 16384
set_option maxHeartbeats 2000000

noncomputable section

namespace Cert.Up.Ffn

open Idealize.ShloMosaic Idealize.SL.Sem

/-- The two readings have the same body. -/
theorem body_eq : Cert.Up.defs₀ (F := Bits) = Cert.UpIdeal.defs₀ (F := Bits) := by
  unfold Cert.Up.defs₀ Cert.UpIdeal.defs₀
  refine congrArg Defs.onTc ?_
  funext l x
  match l, x with
  | 0, (t, s) => rfl
  | ⟨_ + 1, h⟩, _ => exact absurd h (Nat.not_lt.2 (Nat.le_add_left _ _))

/-- So they have the same body table. -/
theorem defs_eq : Cert.Up.defs (F := Bits) = Cert.UpIdeal.defs (F := Bits) := congrArg (Pipeline.defs _) body_eq

/-- The frame at bit level of the gated products, from the run over any float values. -/
theorem frame : Cert.quiescent_Up := by
  intro m g _
  rw [defs_eq]
  exact (θ_run Cert.UpIdeal.defs _ _).mono (fun _ h => h) (Cert.UpIdeal.Gen.frame (F := Bits) m g)

end Cert.Up.Ffn
-- ==== Proof.Up.Block.lean ====
module

public import proofs.«01_k».proof.Proof.Gen.UpIdeal.Value
public import Idealize.ShloMosaic.Lib.Pointwise

@[expose] public section

set_option maxRecDepth 16384
set_option maxHeartbeats 2000000

noncomputable section

namespace Cert.UpIdeal.Ffn

open Cert.UpIdeal Cert.UpIdeal.Gen
open Idealize.ShloMosaic Idealize.ShloMosaic.TcCoe Idealize.ShloMosaic.Tactic Idealize.SL.Sem

variable {F : FTy → Type} [FloatOps F]

theorem hz2 : (![0, 0] : Fin 2 → ℕ) = fun _ => 0 := by decide

theorem hz3 : (![0, 0, 0] : Fin 3 → ℕ) = fun _ => 0 := by decide

section terms

variable (c : Dev nD) (i : grid0.Coords) (arg2 : Memref sig .tc .vmem S1024x2048 .bf16) (harg2 : arg2.IsWhole) (arg3 : Memref sig .tc .vmem S1x2048x512 .f32) (harg3 : arg3.IsWhole)
  (arg4 : Memref sig .tc .vmem S1x2048x512 .f32) (harg4 : arg4.IsWhole) (arg5 : Memref sig .tc .vmem S1024x512 .bf16) (harg5 : arg5.IsWhole) (arg6 : Memref sig .tc .vmem S2048x512 .bf16) (harg6 : arg6.IsWhole)
  (arg7 : Memref sig .tc .vmem S2048x512 .bf16) (harg7 : arg7.IsWhole) (x0 : Vec F S1024x2048 .bf16) (x1 x2 : Vec F S1x2048x512 .f32) (xs0 xs1 : Vec F S2048x512 .bf16)

/-- A point that is the first of its columns stores the product of the rows by the weights it casts there. -/
theorem out_first (hc : cond0_0 i) :
    out0_A_3 c i arg2 harg2 arg3 harg3 arg4 harg4 arg5 harg5 arg6 harg6 arg7 harg7 hc x0 x1 x2 = k0_pay3 x0 (k0_pay1 x1) (k0_pay2 x2) := by
  unfold out0_A_3
  rw [View.read_writes_eq_canon _ _ _ (cover0_A_3 c i arg2 harg2 arg3 harg3 arg4 harg4 arg5 harg5 arg6 harg6 arg7 harg7 hc x0 x1 x2)]
  unfold kernelRun0_A
  dsimp only
  sl_unfold_words
  rw [View.canon_unit_zero (S := S1024x512) hz2]
  simp only [View.readCov_unit_zero (S := S2048x512) _ hz2, View.readAt_eq_ld, harg2.read_unread, harg3.read_unread, harg4.read_unread, View.ld_unit_zero (S := S1024x2048) hz2, View.ld_unit_zero (S := S1x2048x512) hz3]

/-- The gate weights such a point leaves. -/
theorem gate_first (hc : cond0_0 i) :
    sout0_A_0 c i arg2 harg2 arg3 harg3 arg4 harg4 arg5 harg5 arg6 harg6 arg7 harg7 hc x0 x1 x2 = k0_pay1 x1 := by
  unfold sout0_A_0
  rw [View.read_writes_eq_canon _ _ _ (scover0_A_0 c i arg2 harg2 arg3 harg3 arg4 harg4 arg5 harg5 arg6 harg6 arg7 harg7 hc x0 x1 x2)]
  unfold kernelRun0_A
  dsimp only
  sl_unfold_words
  rw [View.canon_unit_zero (S := S2048x512) hz2]
  simp only [View.readAt_eq_ld, harg3.read_unread, View.ld_unit_zero (S := S1x2048x512) hz3]

/-- The other weights such a point leaves. -/
theorem up_first (hc : cond0_0 i) :
    sout0_A_1 c i arg2 harg2 arg3 harg3 arg4 harg4 arg5 harg5 arg6 harg6 arg7 harg7 hc x0 x1 x2 = k0_pay2 x2 := by
  unfold sout0_A_1
  rw [View.read_writes_eq_canon _ _ _ (scover0_A_1 c i arg2 harg2 arg3 harg3 arg4 harg4 arg5 harg5 arg6 harg6 arg7 harg7 hc x0 x1 x2)]
  unfold kernelRun0_A
  dsimp only
  sl_unfold_words
  rw [View.canon_unit_zero (S := S2048x512) hz2]
  simp only [View.readAt_eq_ld, harg4.read_unread, View.ld_unit_zero (S := S1x2048x512) hz3]

/-- Every other point stores the product of the rows by the weights it finds. -/
theorem out_next (hc : ¬cond0_0 i) :
    out0_B_3 c i arg2 harg2 arg3 harg3 arg4 harg4 arg5 harg5 arg6 harg6 arg7 harg7 hc x0 x1 x2 xs0 xs1 = k0_pay3 x0 xs0 xs1 := by
  unfold out0_B_3
  rw [View.read_writes_eq_canon _ _ _ (cover0_B_3 c i arg2 harg2 arg3 harg3 arg4 harg4 arg5 harg5 arg6 harg6 arg7 harg7 hc x0 x1 x2 xs0 xs1)]
  unfold kernelRun0_B
  dsimp only
  rw [View.canon_unit_zero (S := S1024x512) hz2]
  simp only [View.readAt_eq_ld, harg2.read_unread, harg6.read_unread, harg7.read_unread, View.ld_unit_zero (S := S1024x2048) hz2, View.ld_unit_zero (S := S2048x512) hz2]

end terms

end Cert.UpIdeal.Ffn
-- ==== Proof.Up.Array.lean ====
module

public import proofs.«01_k».proof.Proof.Up.Block
public import Idealize.ShloMosaic.Lib.Pipeline.ValueKit
public import Idealize.ShloMosaic.Lib.Claim

@[expose] public section

set_option maxRecDepth 16384
set_option maxHeartbeats 2000000

noncomputable section

namespace Cert.UpIdeal.Ffn

open Cert.UpIdeal Cert.UpIdeal.Gen
open Idealize.ShloMosaic Idealize.ShloMosaic.TcCoe Idealize.ShloMosaic.Tactic Idealize.SL.Sem

variable (m : (ℓ : Loc nD τ sig) → Buf (Elt Ideal) ℓ)

/-- Where each window's block lies: the points run over the row blocks of one block of columns, then of the next. -/
theorem idx : ∀ t : Fin grid0.N,
    win0_0.index t = ![t.val % 32, 0] ∧ win0_1.index t = ![1, 0, t.val / 32] ∧
    win0_2.index t = ![1, 0, t.val / 32] ∧ win0_3.index t = ![t.val % 32, t.val / 32] := by
  decide +kernel

/-- The block of rows, read off the argument. -/
theorem blk0 (c : Dev nD) (t : Fin cfg0.N) (r : Fin 1024) (k : Fin 2048) (b : Fin 2) (n : Fin 16384)
    (hn : (b : ℕ) * 16384 + n = (t.val % 32) * 1024 + r) :
    iblk m c 0 t (ix2 r k) = m ((c : Thread nD τ).loc main_arg0) (ix3 b n k) := by
  have hi := (idx t).1
  have he : (win0_0.blk t).view.emb (ix2 r k) = ix2 (⟨(b : ℕ) * 16384 + n, by omega⟩ : Fin 32768) k := by
    blk_ext [hi]
  show V m c main_v1 ((win0_0.blk t).view.emb (ix2 r k)) = _
  rw [he]
  entry_read
  pointwise

/-- The block of gate weights, read off the argument. -/
theorem blk1 (c : Dev nD) (t : Fin cfg0.N) (k : Fin 2048) (q : Fin 512) (w : Fin 5632) (hw : (w : ℕ) = t.val / 32 * 512 + q) :
    iblk m c 1 t (ix3 0 k q) = m ((c : Thread nD τ).loc main_arg1) (ix3 1 k w) := by
  have hi := (idx t).2.1
  have he : (win0_1.blk t).view.emb (ix3 0 k q) = ix3 1 k w := by
    blk_ext [hi]
  show V m c main_arg1 ((win0_1.blk t).view.emb (ix3 0 k q)) = _
  rw [he]
  exact congrFun (V_main_arg1 m c) _

/-- The block of the other weights, read off the argument. -/
theorem blk2 (c : Dev nD) (t : Fin cfg0.N) (k : Fin 2048) (q : Fin 512) (w : Fin 5632) (hw : (w : ℕ) = t.val / 32 * 512 + q) :
    iblk m c 2 t (ix3 0 k q) = m ((c : Thread nD τ).loc main_arg2) (ix3 1 k w) := by
  have hi := (idx t).2.2.1
  have he : (win0_2.blk t).view.emb (ix3 0 k q) = ix3 1 k w := by
    blk_ext [hi]
  show V m c main_arg2 ((win0_2.blk t).view.emb (ix3 0 k q)) = _
  rw [he]
  exact congrFun (V_main_arg2 m c) _

/-- After every point the two kept blocks are the weights of the point's columns. -/
theorem kept (c : Dev nD) : ∀ (n : ℕ) (hn : n < cfg0.N) (k : Fin 2048) (q : Fin 512) (w : Fin 5632), (w : ℕ) = n / 32 * 512 + q →
    (outsAt0 m c n hn).2.1 (ix2 k q) = m ((c : Thread nD τ).loc main_arg1) (ix3 1 k w) ∧
    (outsAt0 m c n hn).2.2 (ix2 k q) = m ((c : Thread nD τ).loc main_arg2) (ix3 1 k w) := by
  intro n
  induction n with
  | zero =>
    intro hn k q w hw
    rw [outsAt0_A m c ⟨0, hn⟩ rfl]
    dsimp only
    rw [gate_first, up_first]
    unfold k0_pay1 k0_pay2
    pointwise
    exact ⟨blk1 m c _ _ _ w hw, blk2 m c _ _ _ w hw⟩
  | succ n ih =>
    intro hn k q w hw
    by_cases h0 : (n + 1) % 32 = 0
    · rw [outsAt0_A m c ⟨n + 1, hn⟩ h0]
      dsimp only
      rw [gate_first, up_first]
      unfold k0_pay1 k0_pay2
      pointwise
      exact ⟨blk1 m c _ _ _ w hw, blk2 m c _ _ _ w hw⟩
    · rw [outsAt0_B m c ⟨n + 1, hn⟩ h0]
      exact ih (by omega) k q w (by omega)

/-- What a point stores at an index, of the rows and weights it has. -/
def gated (x : Fin 2048 → EReal) (g u : Fin 2048 → EReal) : EReal :=
  Ideal.div (∑ k, x k * g k) (1 + Ideal.exp (0 - ∑ k, x k * g k)) * ∑ k, x k * u k

theorem product_at (x0 : Vec Ideal S1024x2048 .bf16) (x1 x2 : Vec Ideal S2048x512 .bf16) (r : Fin 1024) (q : Fin 512) :
    k0_pay3 (F := Ideal) x0 x1 x2 (ix2 r q) = gated (fun k => x0 (ix2 r k)) (fun k => x1 (ix2 k q)) (fun k => x2 (ix2 k q)) := by
  unfold k0_pay3 gated
  pointwise

/-- What the program leaves at an index: row `n` of batch `b`, column `w`. -/
def upAt (h : S2x16384x2048.Idx → EReal) (g u : S2x2048x5632.Idx → EReal) (b : Fin 2) (n : Fin 16384) (w : Fin 5632) : EReal :=
  gated (fun k => h (ix3 b n k)) (fun k => g (ix3 1 k w)) (fun k => u (ix3 1 k w))

/-- What the program leaves, over the whole output. -/
def upArr (h : S2x16384x2048.Idx → EReal) (g u : S2x2048x5632.Idx → EReal) : S32768x5632.Idx → EReal := fun y =>
  upAt h g u ⟨(y 0 : ℕ) / 16384, by have h0 : (y 0 : ℕ) < 32768 := (y 0).isLt; omega⟩ ⟨(y 0 : ℕ) % 16384, Nat.mod_lt _ (by decide)⟩ (y 1)

/-- What point `t` stores at an index of its block. -/
theorem stored (c : Dev nD) (t : Fin cfg0.N) (r : Fin 1024) (q : Fin 512) (b : Fin 2) (n : Fin 16384) (w : Fin 5632)
    (hn : (b : ℕ) * 16384 + n = (t.val % 32) * 1024 + r) (hw : (w : ℕ) = t.val / 32 * 512 + q) :
    (outsAt0 m c t.val t.isLt).1 (ix2 r q) =
      upAt (m ((c : Thread nD τ).loc main_arg0)) (m ((c : Thread nD τ).loc main_arg1)) (m ((c : Thread nD τ).loc main_arg2)) b n w := by
  have hx : (fun k => iblk m c 0 t (ix2 r k)) = fun k => m ((c : Thread nD τ).loc main_arg0) (ix3 b n k) := funext fun k => blk0 m c t r k b n hn
  unfold upAt
  rw [← hx]
  by_cases h0 : t.val % 32 = 0
  · have hg : (fun k => k0_pay1 (F := Ideal) (iblk m c 1 t) (ix2 k q)) = fun k => m ((c : Thread nD τ).loc main_arg1) (ix3 1 k w) := funext fun k => by
      unfold k0_pay1
      pointwise
      exact blk1 m c t k q w hw
    have hu : (fun k => k0_pay2 (F := Ideal) (iblk m c 2 t) (ix2 k q)) = fun k => m ((c : Thread nD τ).loc main_arg2) (ix3 1 k w) := funext fun k => by
      unfold k0_pay2
      pointwise
      exact blk2 m c t k q w hw
    rw [outsAt0_A m c t h0]
    dsimp only
    rw [out_first, product_at, hg, hu]
  · have hp : t.val - 1 < cfg0.N := by omega
    have hk := fun k => kept m c (t.val - 1) hp k q w (by omega)
    have hg : (fun k => (outsAt0 m c (t.val - 1) hp).2.1 (ix2 k q)) = fun k => m ((c : Thread nD τ).loc main_arg1) (ix3 1 k w) := funext fun k => (hk k).1
    have hu : (fun k => (outsAt0 m c (t.val - 1) hp).2.2 (ix2 k q)) = fun k => m ((c : Thread nD τ).loc main_arg2) (ix3 1 k w) := funext fun k => (hk k).2
    rw [outsAt0_B m c t h0]
    dsimp only
    rw [out_next, product_at, hg, hu]

/-- The output array after the run. -/
theorem out_eq (c : Dev nD) : (dats m 0 c).arrAt 3 cfg0.N =
    upArr (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  have hi := (idx t).2.2.2
  have y0 : (y 0 : ℕ) < 1024 := (y 0).isLt
  have y1 : (y 1 : ℕ) < 512 := (y 1).isLt
  have ht : t.val < 352 := lt_of_lt_of_eq t.isLt N_0
  have e0 : ((win0_3.blk t).view.emb y 0 : ℕ) = t.val % 32 * 1024 + (y 0 : ℕ) := by
    blk_simp [hi]
  have e1 : ((win0_3.blk t).view.emb y 1 : ℕ) = t.val / 32 * 512 + (y 1 : ℕ) := by
    blk_simp [hi]
  unfold upArr
  generalize (win0_3.blk t).view.emb y = z at e0 e1
  refine Eq.trans (congrArg (outsAt0 m c t.val t.isLt).1 ?_) (stored m c t ⟨(y 0 : ℕ), y0⟩ ⟨(y 1 : ℕ), y1⟩ _ _ _ ?_ e1)
  · funext a
    match a with
    | ⟨0, _⟩ => rfl
    | ⟨1, _⟩ => rfl
  · show (z 0 : ℕ) / 16384 * 16384 + (z 0 : ℕ) % 16384 = t.val % 32 * 1024 + (y 0 : ℕ)
    omega

end Cert.UpIdeal.Ffn
-- ==== Proof.Up.Equation.lean ====
module

public import proofs.«01_k».proof.Proof.Up.Array
public import proofs.«01_k».proof.Proof.Gen.UpReferenceIdeal.Read

@[expose] public section

set_option maxRecDepth 16384
set_option maxHeartbeats 2000000

noncomputable section

namespace Cert.UpEq

open Cert.UpReferenceIdeal Cert.UpReferenceIdeal.Gen Cert.UpReferenceIdeal.Read Cert.UpIdeal.Ffn
open Idealize.ShloMosaic Idealize.ShloMosaic.TcCoe Idealize.ShloMosaic.Tactic Idealize.SL.Sem

/-- The word of the number one. -/
theorem one_word : Ideal.ofBits .f32 0x3F800000#32 = 1 := by
  have h : Ideal.ofBits .f32 0x3F800000#32 = ((1 : ℝ) : EReal) := by
    simp [Ideal.ofBits, Ideal.ieee, -EReal.coe_mul]; norm_num
  rw [h]; rfl

theorem exp_nonneg (x : EReal) : 0 ≤ Ideal.exp x := by
  induction x with
  | bot => exact le_refl _
  | top => exact le_top
  | coe r => exact EReal.coe_nonneg.mpr (Real.exp_pos r).le

/-- A number over one plus an exponential, in either order of the division and the product. -/
theorem silu_eq (x z : EReal) : Ideal.div x (1 + Ideal.exp z) = x * Ideal.div 1 (1 + Ideal.exp z) := by
  have h : (1 + Ideal.exp z : EReal) ≠ 0 := by
    have h1 : (1 : EReal) ≤ 1 + Ideal.exp z := le_add_of_nonneg_right (exp_nonneg z)
    exact (lt_of_lt_of_le zero_lt_one h1).ne'
  unfold Ideal.div
  rw [if_neg h, if_neg h, one_mul]

/-- A product of a row of the argument by a column of the second layer's weights. -/
theorem gate_at (h : S2x16384x2048.Idx → EReal) (g : S2x2048x5632.Idx → EReal) (b : Fin 2) (n : Fin 16384) (w : Fin 5632) :
    val_main_v2 (F := Ideal) h g (ix3 b n w) = ∑ k : Fin 2048, h (ix3 b n k) * g (ix3 1 k w) := by
  rw [val_main_v2_apply]
  refine Finset.sum_congr rfl fun k _ => ?_
  rw [val_main_v1_apply, val_main_v0_apply]
  have hw : (w : ℕ) < 5632 := w.isLt
  have hk : (k : ℕ) < 2048 := k.isLt
  refine congrArg₂ (· * ·) (congrArg h ?_) (congrArg g ?_)
  · funext a
    match a with
    | ⟨0, _⟩ => rfl
    | ⟨1, _⟩ => rfl
    | ⟨2, _⟩ => rfl
  · funext a
    refine Fin.ext ?_
    match a with
    | ⟨0, _⟩ => rfl
    | ⟨1, _⟩ => show ((k : ℕ) * 5632 + w) / 5632 % 2048 = k; omega
    | ⟨2, _⟩ => show ((k : ℕ) * 5632 + w) % 5632 = w; omega

theorem up_at (h : S2x16384x2048.Idx → EReal) (u : S2x2048x5632.Idx → EReal) (b : Fin 2) (n : Fin 16384) (w : Fin 5632) :
    val_main_v6 (F := Ideal) h u (ix3 b n w) = ∑ k : Fin 2048, h (ix3 b n k) * u (ix3 1 k w) := gate_at h u b n w

/-- The two programs' results. -/
theorem arr_eq (h : S2x16384x2048.Idx → EReal) (g u : S2x2048x5632.Idx → EReal) : upArr h g u = val_main_v9 (F := Ideal) h g u := by
  funext y
  have h0 : (y 0 : ℕ) < 32768 := (y 0).isLt
  have h1 : (y 1 : ℕ) < 5632 := (y 1).isLt
  have hy : idx_main_v8 y = ix3 (⟨(y 0 : ℕ) / 16384, by omega⟩ : Fin 2) (⟨(y 0 : ℕ) % 16384, by omega⟩ : Fin 16384) (⟨(y 1 : ℕ), h1⟩ : Fin 5632) := by
    funext a
    refine Fin.ext ?_
    match a with
    | ⟨0, _⟩ => show ((y 0 : ℕ) * 5632 + y 1) / 92274688 = (y 0 : ℕ) / 16384; omega
    | ⟨1, _⟩ => show ((y 0 : ℕ) * 5632 + y 1) / 5632 % 16384 = (y 0 : ℕ) % 16384; omega
    | ⟨2, _⟩ => show ((y 0 : ℕ) * 5632 + y 1) % 5632 = (y 1 : ℕ); omega
  rw [val_main_v9_apply, val_main_v8_apply, hy, val_main_v7_apply, val_main_v3_apply, val_main_call0_v5_apply, val_main_call0_v3_apply, val_main_call0_v4_apply,
    val_main_call0_cst_0_apply, val_main_call0_v2_apply, val_main_call0_cst_apply, val_main_call0_v1_apply, val_main_call0_v0_apply, gate_at, up_at]
  unfold upArr upAt gated
  show _ = (∑ k : Fin 2048, _) * Ideal.div (Ideal.ofBits .f32 0x3F800000#32) (Ideal.ofBits .f32 0x3F800000#32 + Ideal.exp (-(∑ k : Fin 2048, _))) * (∑ k : Fin 2048, _)
  rw [one_word, ← silu_eq, ← zero_sub]
  rfl

end Cert.UpEq
-- ==== Proof.Down.Frame.lean ====
module

public import proofs.«01_k».proof.Defs
public import proofs.«01_k».proof.Proof.Gen.Down
public import proofs.«01_k».proof.Proof.Gen.DownIdeal
public import proofs.«01_k».proof.Proof.Gen.DownIdeal.Frame
public import Idealize.ShloMosaic.Lib.Claim

@[expose] public section

set_option maxRecDepth 16384
set_option maxHeartbeats 2000000

noncomputable section

namespace Cert.Down.Ffn

open Idealize.ShloMosaic Idealize.SL.Sem

/-- The two readings have the same body. -/
theorem body_eq : Cert.Down.defs₀ (F := Bits) = Cert.DownIdeal.defs₀ (F := Bits) := by
  unfold Cert.Down.defs₀ Cert.DownIdeal.defs₀
  refine congrArg Defs.onTc ?_
  funext l x
  match l, x with
  | 0, (t, s) => rfl
  | ⟨_ + 1, h⟩, _ => exact absurd h (Nat.not_lt.2 (Nat.le_add_left _ _))

/-- So they have the same body table. -/
theorem defs_eq : Cert.Down.defs (F := Bits) = Cert.DownIdeal.defs (F := Bits) := congrArg (Pipeline.defs _) body_eq

/-- The frame at bit level of the last call, from the run over any float values. -/
theorem frame : Cert.quiescent_Down := by
  intro m g _
  rw [defs_eq]
  exact (θ_run Cert.DownIdeal.defs _ _).mono (fun _ h => h) (Cert.DownIdeal.Gen.frame (F := Bits) m g)

end Cert.Down.Ffn
-- ==== Proof.Down.Block.lean ====
module

public import proofs.«01_k».proof.Proof.Gen.DownIdeal.Value
public import Idealize.ShloMosaic.Lib.Pointwise
public import Idealize.ShloMosaic.Lib.Pipeline.ValueKit
public import Idealize.ShloMosaic.Lib.Claim

@[expose] public section

set_option maxRecDepth 16384
set_option maxHeartbeats 2000000

noncomputable section

namespace Cert.DownIdeal.Ffn

open Cert.DownIdeal Cert.DownIdeal.Gen
open Idealize.ShloMosaic Idealize.ShloMosaic.TcCoe Idealize.ShloMosaic.Tactic Idealize.SL.Sem

/-- A row of the residual stream after the feed-forward part: the row `x`, and the row `a` of gated products by the weights `w`, by the gate. -/
def rowOf (x : Fin 2048 → EReal) (gt : Fin 2048 → EReal) (a : Fin 5632 → EReal) (w : Fin 5632 → Fin 2048 → EReal) (e : Fin 2048) : EReal :=
  x e + gt e * ∑ k, a k * w k e

/-- A row divided by the root of its mean square. -/
def normed (y : Fin 2048 → EReal) (e : Fin 2048) : EReal :=
  y e * Ideal.rsqrt (Ideal.div (∑ k, y k * y k) (Ideal.ofBits .f32 0x45000000#32) + Ideal.ofBits .f32 0x358637BD#32)

/-- A normalised row, scaled and shifted. -/
def modulated (y g sh sc : Fin 2048 → EReal) (e : Fin 2048) : EReal :=
  normed y e * (g e * (1 + sc e)) + sh e

/-- The first half of a block's rows. -/
theorem first_at (v0 : Vec Ideal S1x256x2048 .f32) (v2 : Vec Ideal S1x256x5632 .bf16) (v4 : Vec Ideal S5632x2048 .bf16) (v7 : Vec Ideal S1x1x2048 .f32) (v9 : Vec Ideal S1x2048 .f32)
    (v13 v11 : Vec Ideal S1x1x2048 .f32) (r : Fin 256) (e : Fin 2048) :
    k0_pay4 (F := Ideal) (k0_pay2 v0 v2 v4 v7 v9 v13) (k0_pay3 v11) (ix3 0 r e) =
      modulated (rowOf (fun k => v0 (ix3 0 r k)) (fun k => v7 (ix3 0 0 k)) (fun k => v2 (ix3 0 r k)) (fun k j => v4 (ix2 k j)))
        (fun k => v9 (ix2 0 k)) (fun k => v11 (ix3 0 0 k)) (fun k => v13 (ix3 0 0 k)) e := by
  unfold k0_pay4 k0_pay2 k0_pay3 modulated normed rowOf
  pointwise

/-- The second half. -/
theorem second_at (v0 : Vec Ideal S1x256x2048 .f32) (v2 : Vec Ideal S1x256x5632 .bf16) (v4 : Vec Ideal S5632x2048 .bf16) (v7 : Vec Ideal S1x1x2048 .f32) (v9 : Vec Ideal S1x2048 .f32)
    (v13 v11 : Vec Ideal S1x1x2048 .f32) (r : Fin 256) (e : Fin 2048) :
    k0_pay1 (F := Ideal) (k0_pay5 v11) (k0_pay6 v0 v2 v4 v7) (k0_pay7 v9 v13) (k0_pay8 v0 v2 v4 v7) (ix3 0 r e) =
      modulated (rowOf (fun k => v0 (ix3 0 r k)) (fun k => v7 (ix3 0 0 k)) (fun k => v2 (ix3 0 r k)) (fun k j => v4 (ix2 k j)))
        (fun k => v9 (ix2 0 k)) (fun k => v11 (ix3 0 0 k)) (fun k => v13 (ix3 0 0 k)) e := by
  unfold k0_pay1 k0_pay5 k0_pay7 k0_pay8 k0_pay6 modulated normed rowOf
  pointwise

theorem hz2 : (![0, 0] : Fin 2 → ℕ) = fun _ => 0 := by decide

theorem hz3 : (![0, 0, 0] : Fin 3 → ℕ) = fun _ => 0 := by decide

/-- The block one grid point stores, at an index. -/
theorem block_at (x0 : Vec Ideal S1x512x5632 .bf16) (x1 : Vec Ideal S5632x2048 .bf16) (x2 : Vec Ideal S1x512x2048 .f32) (x3 : Vec Ideal S1x1x2048 .f32) (x4 : Vec Ideal S1x2048 .f32)
    (x5 x6 : Vec Ideal S1x1x2048 .f32) (y : S1x512x2048.Idx) :
    out0_7 x0 x1 x2 x3 x4 x5 x6 y =
      modulated (rowOf (fun k => x2 (ix3 0 (y 1) k)) (fun k => x3 (ix3 0 0 k)) (fun k => x0 (ix3 0 (y 1) k)) (fun k j => x1 (ix2 k j)))
        (fun k => x4 (ix2 0 k)) (fun k => x5 (ix3 0 0 k)) (fun k => x6 (ix3 0 0 k)) (y 2) := by
  unfold out0_7
  simp only [View.ld_unit_zero (S := S5632x2048) hz2, View.ld_unit_zero (S := S1x1x2048) hz3, View.ld_unit_zero (S := S1x2048) hz2]
  have key : ∀ (ra : Fin 2048 → EReal) (rb : Fin 5632 → EReal) (e : Fin 2048), (fun k => x2 (ix3 0 (y 1) k)) = ra → (fun k => x0 (ix3 0 (y 1) k)) = rb → y 2 = e →
      modulated (rowOf ra (fun k => x3 (ix3 0 0 k)) rb (fun k j => x1 (ix2 k j))) (fun k => x4 (ix2 0 k)) (fun k => x5 (ix3 0 0 k)) (fun k => x6 (ix3 0 0 k)) e =
      modulated (rowOf (fun k => x2 (ix3 0 (y 1) k)) (fun k => x3 (ix3 0 0 k)) (fun k => x0 (ix3 0 (y 1) k)) (fun k j => x1 (ix2 k j)))
        (fun k => x4 (ix2 0 k)) (fun k => x5 (ix3 0 0 k)) (fun k => x6 (ix3 0 0 k)) (y 2) := fun ra rb e ha hb he => by
    rw [ha, hb, he]
  canon_tiles x h using (cover0_7 _ _ y)
  · have hx : x = ix3 (0 : Fin 1) (⟨(x 1 : ℕ), x1_lt⟩ : Fin 256) (⟨(x 2 : ℕ), x2_lt⟩ : Fin 2048) := by
      funext a
      match a with
      | ⟨0, _⟩ => exact Fin.ext (by show (x 0 : ℕ) = 0; omega)
      | ⟨1, _⟩ => rfl
      | ⟨2, _⟩ => rfl
    rw [hx, second_at]
    refine key _ _ _ ?_ ?_ (Fin.ext h2)
    · funext k
      refine congrArg x2 (funext fun a => Fin.ext ?_)
      match a with
      | ⟨0, _⟩ => rfl
      | ⟨1, _⟩ => show (y 1 : ℕ) = 256 + 1 * (x 1 : ℕ); omega
      | ⟨2, _⟩ => show (k : ℕ) = 0 + 1 * (k : ℕ); omega
    · funext k
      refine congrArg x0 (funext fun a => Fin.ext ?_)
      match a with
      | ⟨0, _⟩ => rfl
      | ⟨1, _⟩ => show (y 1 : ℕ) = 256 + 1 * (x 1 : ℕ); omega
      | ⟨2, _⟩ => show (k : ℕ) = 0 + 1 * (k : ℕ); omega
  · have hx : x = ix3 (0 : Fin 1) (⟨(x 1 : ℕ), x1_lt⟩ : Fin 256) (⟨(x 2 : ℕ), x2_lt⟩ : Fin 2048) := by
      funext a
      match a with
      | ⟨0, _⟩ => exact Fin.ext (by show (x 0 : ℕ) = 0; omega)
      | ⟨1, _⟩ => rfl
      | ⟨2, _⟩ => rfl
    rw [hx, first_at]
    refine key _ _ _ ?_ ?_ (Fin.ext h2)
    · funext k
      refine congrArg x2 (funext fun a => Fin.ext ?_)
      match a with
      | ⟨0, _⟩ => rfl
      | ⟨1, _⟩ => show (y 1 : ℕ) = 0 + 1 * (x 1 : ℕ); omega
      | ⟨2, _⟩ => show (k : ℕ) = 0 + 1 * (k : ℕ); omega
    · funext k
      refine congrArg x0 (funext fun a => Fin.ext ?_)
      match a with
      | ⟨0, _⟩ => rfl
      | ⟨1, _⟩ => show (y 1 : ℕ) = 0 + 1 * (x 1 : ℕ); omega
      | ⟨2, _⟩ => show (k : ℕ) = 0 + 1 * (k : ℕ); omega

end Cert.DownIdeal.Ffn
-- ==== Proof.Down.Array.lean ====
module

public import proofs.«01_k».proof.Proof.Down.Block

@[expose] public section

set_option maxRecDepth 16384
set_option maxHeartbeats 2000000

noncomputable section

namespace Cert.DownIdeal.Ffn

open Cert.DownIdeal Cert.DownIdeal.Gen
open Idealize.ShloMosaic Idealize.ShloMosaic.TcCoe Idealize.ShloMosaic.Tactic Idealize.SL.Sem

variable (m : (ℓ : Loc nD τ sig) → Buf (Elt Ideal) ℓ)

/-- Where each window's block lies: the points run over the row blocks of one batch, then of the next. -/
theorem idx : ∀ t : Fin grid0.N,
    win0_0.index t = ![t.val / 32, t.val % 32, 0] ∧ win0_1.index t = ![0, 0] ∧ win0_2.index t = ![t.val / 32, t.val % 32, 0] ∧
    win0_3.index t = ![t.val / 32, 0, 0] ∧ win0_4.index t = ![0, 0] ∧ win0_5.index t = ![t.val / 32, 0, 0] ∧
    win0_6.index t = ![t.val / 32, 0, 0] ∧ win0_7.index t = ![t.val / 32, t.val % 32, 0] := by
  decide +kernel

/-- The block of gated products, read off the argument. -/
theorem blk0 (c : Dev nD) (t : Fin cfg0.N) (r : Fin 512) (k : Fin 5632) (b : Fin 2) (n : Fin 16384)
    (hb : (b : ℕ) = t.val / 32) (hn : (n : ℕ) = t.val % 32 * 512 + r) :
    iblk m c 0 t (ix3 0 r k) = m ((c : Thread nD τ).loc main_arg0) (ix3 b n k) := by
  have hi := (idx t).1
  have he : (win0_0.blk t).view.emb (ix3 0 r k) = ix3 b n k := by
    blk_ext [hi]
  show V m c main_v1 ((win0_0.blk t).view.emb (ix3 0 r k)) = _
  rw [he]
  entry_read
  pointwise

/-- The weights, the second layer's of the argument. -/
theorem blk1 (c : Dev nD) (t : Fin cfg0.N) (k : Fin 5632) (e : Fin 2048) :
    iblk m c 1 t (ix2 k e) = m ((c : Thread nD τ).loc main_arg1) (ix3 1 k e) := by
  have hi := (idx t).2.1
  have he : (win0_1.blk t).view.emb (ix2 k e) = ix2 k e := by
    blk_ext [hi]
  show V m c main_v4 ((win0_1.blk t).view.emb (ix2 k e)) = _
  rw [he]
  entry_read
  pointwise

/-- The block of the residual stream. -/
theorem blk2 (c : Dev nD) (t : Fin cfg0.N) (r : Fin 512) (k : Fin 2048) (b : Fin 2) (n : Fin 16384)
    (hb : (b : ℕ) = t.val / 32) (hn : (n : ℕ) = t.val % 32 * 512 + r) :
    iblk m c 2 t (ix3 0 r k) = m ((c : Thread nD τ).loc main_arg2) (ix3 b n k) := by
  have hi := (idx t).2.2.1
  have he : (win0_2.blk t).view.emb (ix3 0 r k) = ix3 b n k := by
    blk_ext [hi]
  show V m c main_arg2 ((win0_2.blk t).view.emb (ix3 0 r k)) = _
  rw [he]
  exact congrFun (V_main_arg2 m c) _

/-- The gate of the batch. -/
theorem blk3 (c : Dev nD) (t : Fin cfg0.N) (k : Fin 2048) (b : Fin 2) (hb : (b : ℕ) = t.val / 32) :
    iblk m c 3 t (ix3 0 0 k) = m ((c : Thread nD τ).loc main_arg3) (ix3 b 0 k) := by
  have hi := (idx t).2.2.2.1
  have he : (win0_3.blk t).view.emb (ix3 0 0 k) = ix3 b 0 k := by
    blk_ext [hi]
  show V m c main_arg3 ((win0_3.blk t).view.emb (ix3 0 0 k)) = _
  rw [he]
  exact congrFun (V_main_arg3 m c) _

/-- The final norm's gain. -/
theorem blk4 (c : Dev nD) (t : Fin cfg0.N) (k : Fin 2048) :
    iblk m c 4 t (ix2 0 k) = m ((c : Thread nD τ).loc main_arg4) (ix1 k) := by
  have hi := (idx t).2.2.2.2.1
  have he : (win0_4.blk t).view.emb (ix2 0 k) = ix2 0 k := by
    blk_ext [hi]
  show V m c main_v5 ((win0_4.blk t).view.emb (ix2 0 k)) = _
  rw [he]
  entry_read
  pointwise

/-- The shift is zero. -/
theorem blk5 (c : Dev nD) (t : Fin cfg0.N) (k : Fin 2048) (b : Fin 2) (hb : (b : ℕ) = t.val / 32) : iblk m c 5 t (ix3 0 0 k) = (0 : EReal) := by
  have hi := (idx t).2.2.2.2.2.1
  have he : (win0_5.blk t).view.emb (ix3 0 0 k) = ix3 b 0 k := by
    blk_ext [hi]
  show V m c main_v0 ((win0_5.blk t).view.emb (ix3 0 0 k)) = _
  rw [he]
  entry_read
  pointwise

/-- So is what the scale adds to one. -/
theorem blk6 (c : Dev nD) (t : Fin cfg0.N) (k : Fin 2048) (b : Fin 2) (hb : (b : ℕ) = t.val / 32) : iblk m c 6 t (ix3 0 0 k) = (0 : EReal) := by
  have hi := (idx t).2.2.2.2.2.2.1
  have he : (win0_6.blk t).view.emb (ix3 0 0 k) = ix3 b 0 k := by
    blk_ext [hi]
  show V m c main_v0 ((win0_6.blk t).view.emb (ix3 0 0 k)) = _
  rw [he]
  entry_read
  pointwise

/-- What the program leaves for row `n` of batch `b` at column `e`. -/
def downAt (a : S2x16384x5632.Idx → EReal) (w : S2x5632x2048.Idx → EReal) (x : S2x16384x2048.Idx → EReal) (gt : S2x1x2048.Idx → EReal) (g : S2048.Idx → EReal)
    (b : Fin 2) (n : Fin 16384) (e : Fin 2048) : EReal :=
  normed (rowOf (fun k => x (ix3 b n k)) (fun k => gt (ix3 b 0 k)) (fun k => a (ix3 b n k)) (fun k j => w (ix3 1 k j))) e * g (ix1 e)

/-- What the program leaves, over the whole output. -/
def downArr (a : S2x16384x5632.Idx → EReal) (w : S2x5632x2048.Idx → EReal) (x : S2x16384x2048.Idx → EReal) (gt : S2x1x2048.Idx → EReal) (g : S2048.Idx → EReal) : S2x16384x2048.Idx → EReal := fun y =>
  downAt a w x gt g (y 0) (y 1) (y 2)

/-- What one point computes, at row `r` of its block. -/
theorem point_at (c : Dev nD) (t : Fin cfg0.N) (r : Fin 512) (e : Fin 2048) (b : Fin 2) (n : Fin 16384)
    (hb : (b : ℕ) = t.val / 32) (hn : (n : ℕ) = t.val % 32 * 512 + r) :
    modulated (rowOf (fun k => iblk m c 2 t (ix3 0 r k)) (fun k => iblk m c 3 t (ix3 0 0 k)) (fun k => iblk m c 0 t (ix3 0 r k)) (fun k j => iblk m c 1 t (ix2 k j)))
      (fun k => iblk m c 4 t (ix2 0 k)) (fun k => iblk m c 5 t (ix3 0 0 k)) (fun k => iblk m c 6 t (ix3 0 0 k)) e =
    downAt (m ((c : Thread nD τ).loc main_arg0)) (m ((c : Thread nD τ).loc main_arg1)) (m ((c : Thread nD τ).loc main_arg2))
      (m ((c : Thread nD τ).loc main_arg3)) (m ((c : Thread nD τ).loc main_arg4)) b n e := by
  have h0 : (fun k => iblk m c 0 t (ix3 0 r k)) = fun k => m ((c : Thread nD τ).loc main_arg0) (ix3 b n k) := funext fun k => blk0 m c t r k b n hb hn
  have h1 : (fun k j => iblk m c 1 t (ix2 k j)) = fun k j => m ((c : Thread nD τ).loc main_arg1) (ix3 1 k j) := funext fun k => funext fun j => blk1 m c t k j
  have h2 : (fun k => iblk m c 2 t (ix3 0 r k)) = fun k => m ((c : Thread nD τ).loc main_arg2) (ix3 b n k) := funext fun k => blk2 m c t r k b n hb hn
  have h3 : (fun k => iblk m c 3 t (ix3 0 0 k)) = fun k => m ((c : Thread nD τ).loc main_arg3) (ix3 b 0 k) := funext fun k => blk3 m c t k b hb
  have h4 : (fun k => iblk m c 4 t (ix2 0 k)) = fun k => m ((c : Thread nD τ).loc main_arg4) (ix1 k) := funext fun k => blk4 m c t k
  have h5 : (fun k => iblk m c 5 t (ix3 0 0 k)) = fun _ => (0 : EReal) := funext fun k => blk5 m c t k b hb
  have h6 : (fun k => iblk m c 6 t (ix3 0 0 k)) = fun _ => (0 : EReal) := funext fun k => blk6 m c t k b hb
  refine (congrArg (fun f => modulated (rowOf f _ _ _) _ _ _ e) h2).trans ((congrArg (fun f => modulated (rowOf _ f _ _) _ _ _ e) h3).trans
    ((congrArg (fun f => modulated (rowOf _ _ f _) _ _ _ e) h0).trans ((congrArg (fun f => modulated (rowOf _ _ _ f) _ _ _ e) h1).trans
    ((congrArg (fun f => modulated _ f _ _ e) h4).trans ((congrArg (fun f => modulated _ _ f _ e) h5).trans ((congrArg (fun f => modulated _ _ _ f e) h6).trans ?_))))))
  unfold modulated downAt
  rw [add_zero, add_zero, mul_one]

/-- The output array after the run. -/
theorem out_eq (c : Dev nD) : (dats m 0 c).arrAt 7 cfg0.N =
    downArr (m ((c : Thread nD τ).loc main_arg0)) (m ((c : Thread nD τ).loc main_arg1)) (m ((c : Thread nD τ).loc main_arg2))
      (m ((c : Thread nD τ).loc main_arg3)) (m ((c : Thread nD τ).loc main_arg4)) := by
  refine (dats m 0 c).arrAt_eq_of_covers 7 _ (by decide +kernel) fun t hf y => ?_
  blk_simp
  rw [after0_7]
  have hi := (idx t).2.2.2.2.2.2.2
  have y0 : (y 0 : ℕ) < 1 := (y 0).isLt
  have y1 : (y 1 : ℕ) < 512 := (y 1).isLt
  have y2 : (y 2 : ℕ) < 2048 := (y 2).isLt
  have e0 : ((win0_7.blk t).view.emb y 0 : ℕ) = t.val / 32 := by
    blk_simp [hi]
  have e1 : ((win0_7.blk t).view.emb y 1 : ℕ) = t.val % 32 * 512 + (y 1 : ℕ) := by
    blk_simp [hi]
  have e2 : ((win0_7.blk t).view.emb y 2 : ℕ) = (y 2 : ℕ) := by
    blk_simp [hi]
  unfold downArr
  generalize (win0_7.blk t).view.emb y = z at e0 e1 e2
  have hz : y 2 = z 2 := Fin.ext e2.symm
  refine (block_at _ _ _ _ _ _ _ y).trans ?_
  exact (point_at m c t (y 1) (y 2) (z 0) (z 1) e0 e1).trans (congrArg (downAt _ _ _ _ _ (z 0) (z 1)) hz)

end Cert.DownIdeal.Ffn
-- ==== Proof.Down.Equation.lean ====
module

public import proofs.«01_k».proof.Proof.Down.Array
public import proofs.«01_k».proof.Proof.Gen.DownReferenceIdeal.Read

@[expose] public section

set_option maxRecDepth 16384
set_option maxHeartbeats 2000000

noncomputable section

namespace Cert.DownEq

open Cert.DownReferenceIdeal Cert.DownReferenceIdeal.Gen Cert.DownReferenceIdeal.Read Cert.DownIdeal.Ffn
open Idealize.ShloMosaic Idealize.ShloMosaic.TcCoe Idealize.ShloMosaic.Tactic Idealize.SL.Sem

variable (a : S2x16384x5632.Idx → EReal) (w : S2x5632x2048.Idx → EReal) (x : S2x16384x2048.Idx → EReal) (gt : S2x1x2048.Idx → EReal) (g : S2048.Idx → EReal)

/-- The product of a row of gated products by the second layer's weights. -/
theorem product_at (b : Fin 2) (n : Fin 16384) (e : Fin 2048) :
    val_main_v2 (F := Ideal) a w (ix3 b n e) = ∑ k : Fin 5632, a (ix3 b n k) * w (ix3 1 k e) := by
  rw [val_main_v2_apply]
  refine Finset.sum_congr rfl fun k _ => ?_
  rw [val_main_v1_apply, val_main_v0_apply]
  have he : (e : ℕ) < 2048 := e.isLt
  have hk : (k : ℕ) < 5632 := k.isLt
  refine congrArg₂ (· * ·) (congrArg a ?_) (congrArg w ?_)
  · funext d
    match d with
    | ⟨0, _⟩ => rfl
    | ⟨1, _⟩ => rfl
    | ⟨2, _⟩ => rfl
  · funext d
    refine Fin.ext ?_
    match d with
    | ⟨0, _⟩ => rfl
    | ⟨1, _⟩ => show ((k : ℕ) * 2048 + e) / 2048 % 5632 = k; omega
    | ⟨2, _⟩ => show ((k : ℕ) * 2048 + e) % 2048 = e; omega

/-- The residual stream after the feed-forward part. -/
theorem row_at (b : Fin 2) (n : Fin 16384) (e : Fin 2048) :
    val_main_v5 (F := Ideal) a w x gt (ix3 b n e) = rowOf (fun k => x (ix3 b n k)) (fun k => gt (ix3 b 0 k)) (fun k => a (ix3 b n k)) (fun k j => w (ix3 1 k j)) e := by
  rw [val_main_v5_apply, val_main_v4_apply, val_main_v3_apply, product_at]
  have hi : idx_main_v3 (ix3 b n e) = ix3 b 0 e := by
    funext d
    match d with
    | ⟨0, _⟩ => rfl
    | ⟨1, _⟩ => rfl
    | ⟨2, _⟩ => rfl
  rw [hi]
  rfl

theorem zero_word : Ideal.ofBits .f32 0x00000000#32 = 0 := by
  simp [Ideal.ofBits, Ideal.ieee]

/-- The two programs' results. -/
theorem arr_eq : downArr a w x gt g = val_main_v18 (F := Ideal) a w x gt g := by
  funext y
  obtain ⟨b, hb⟩ : ∃ b : Fin 2, b = y 0 := ⟨_, rfl⟩
  obtain ⟨n, hn⟩ : ∃ n : Fin 16384, n = y 1 := ⟨_, rfl⟩
  obtain ⟨e, he⟩ : ∃ e : Fin 2048, e = y 2 := ⟨_, rfl⟩
  have hy : y = ix3 b n e := by
    funext d
    match d with
    | ⟨0, _⟩ => exact hb.symm
    | ⟨1, _⟩ => exact hn.symm
    | ⟨2, _⟩ => exact he.symm
  subst hy
  have hs : ∀ k : Fin 2048, idx_main_v7 (idx_main_v8 (idx_main_v14 (ix3 b n e))) k = ix3 b n k := fun k => by
    funext d
    match d with
    | ⟨0, _⟩ => rfl
    | ⟨1, _⟩ => rfl
    | ⟨2, _⟩ => rfl
  have hg : idx_main_v16 (idx_main_v17 (ix3 b n e)) = ix1 e := by
    funext d
    match d with
    | ⟨0, _⟩ => rfl
  rw [val_main_v18_apply, val_main_v15_apply, val_main_v14_apply, val_main_v13_apply, val_main_v12_apply, val_main_v11_apply, val_main_cst_1_apply,
    val_main_v10_apply, val_main_v9_apply, val_main_cst_0_apply, val_main_v8_apply, val_main_v7_apply, val_main_cst_apply, val_main_v17_apply, val_main_v16_apply, hg, row_at]
  simp only [hs, val_main_v6_apply, row_at]
  show downAt a w x gt g b n e = _ * Ideal.rsqrt (Ideal.div (Ideal.ofBits .f32 0x00000000#32 + ∑ k : Fin 2048, _) (Ideal.ofBits .f32 0x45000000#32) + Ideal.ofBits .f32 0x358637BD#32) * _
  rw [zero_word, zero_add]
  rfl

end Cert.DownEq
-- ==== Proof.Mid.Frame.lean ====
module

public import proofs.«01_k».proof.Defs
public import proofs.«01_k».proof.Proof.Gen.Mid
public import proofs.«01_k».proof.Proof.Gen.MidIdeal
public import proofs.«01_k».proof.Proof.Gen.MidIdeal.Frame
public import Idealize.ShloMosaic.Lib.Claim

@[expose] public section

set_option maxRecDepth 16384
set_option maxHeartbeats 2000000

noncomputable section

namespace Cert.Mid.Ffn

open Idealize.ShloMosaic Idealize.SL.Sem

/-- The two readings have the same body. -/
theorem body_eq : Cert.Mid.defs₀ (F := Bits) = Cert.MidIdeal.defs₀ (F := Bits) := by
  unfold Cert.Mid.defs₀ Cert.MidIdeal.defs₀
  refine congrArg Defs.onTc ?_
  funext l x
  match l, x with
  | 0, (t, s) => rfl
  | ⟨_ + 1, h⟩, _ => exact absurd h (Nat.not_lt.2 (Nat.le_add_left _ _))

/-- So they have the same body table. -/
theorem defs_eq : Cert.Mid.defs (F := Bits) = Cert.MidIdeal.defs (F := Bits) := congrArg (Pipeline.defs _) body_eq

/-- The frame at bit level of the first layer's down call, from the run over any float values. -/
theorem frame : Cert.quiescent_Mid := by
  intro m g _
  rw [defs_eq]
  exact (θ_run Cert.MidIdeal.defs _ _).mono (fun _ h => h) (Cert.MidIdeal.Gen.frame (F := Bits) m g)

end Cert.Mid.Ffn
-- ==== Proof.Mid.Block.lean ====
module

public import proofs.«01_k».proof.Proof.Gen.MidIdeal.Value
public import proofs.«01_k».proof.Proof.Down.Block

@[expose] public section

set_option maxRecDepth 16384
set_option maxHeartbeats 2000000

noncomputable section

namespace Cert.MidIdeal.Ffn

open Cert.MidIdeal Cert.MidIdeal.Gen
open Cert.DownIdeal.Ffn (rowOf normed modulated hz2 hz3)
open Idealize.ShloMosaic Idealize.ShloMosaic.TcCoe Idealize.ShloMosaic.Tactic Idealize.SL.Sem

section payloads

variable (v0 : Vec Ideal S1x256x2048 .f32) (v2 : Vec Ideal S1x256x5632 .bf16) (v4 : Vec Ideal S5632x2048 .bf16) (v7 : Vec Ideal S1x1x2048 .f32) (v9 : Vec Ideal S1x2048 .f32)
  (v13 v11 : Vec Ideal S1x1x2048 .f32) (r : Fin 256) (e : Fin 2048)

/-- The residual stream in the first half of a block's rows. -/
theorem stream_first : k0_pay6 (F := Ideal) (k0_pay3 v0 v2 v4 v7) (ix3 0 r e) =
    rowOf (fun k => v0 (ix3 0 r k)) (fun k => v7 (ix3 0 0 k)) (fun k => v2 (ix3 0 r k)) (fun k j => v4 (ix2 k j)) e := by
  unfold k0_pay6 k0_pay3 rowOf
  pointwise

/-- In the second half. -/
theorem stream_second : k0_pay1 (F := Ideal) (k0_pay9 v0 v2 v4 v7) (ix3 0 r e) =
    rowOf (fun k => v0 (ix3 0 r k)) (fun k => v7 (ix3 0 0 k)) (fun k => v2 (ix3 0 r k)) (fun k j => v4 (ix2 k j)) e := by
  unfold k0_pay1 k0_pay9 rowOf
  pointwise

/-- The modulated norm in the first half. -/
theorem norm_first : k0_pay7 (F := Ideal) (k0_pay4 v0 v2 v4 v7 v9 v13) (k0_pay5 v11) (ix3 0 r e) =
    modulated (rowOf (fun k => v0 (ix3 0 r k)) (fun k => v7 (ix3 0 0 k)) (fun k => v2 (ix3 0 r k)) (fun k j => v4 (ix2 k j)))
      (fun k => v9 (ix2 0 k)) (fun k => v11 (ix3 0 0 k)) (fun k => v13 (ix3 0 0 k)) e := by
  unfold k0_pay7 k0_pay4 k0_pay5 k0_pay3 modulated normed rowOf
  pointwise

/-- In the second half. -/
theorem norm_second : k0_pay2 (F := Ideal) (k0_pay8 v11) (k0_pay9 v0 v2 v4 v7) (k0_pay10 v9 v13) (k0_pay11 v0 v2 v4 v7) (ix3 0 r e) =
    modulated (rowOf (fun k => v0 (ix3 0 r k)) (fun k => v7 (ix3 0 0 k)) (fun k => v2 (ix3 0 r k)) (fun k j => v4 (ix2 k j)))
      (fun k => v9 (ix2 0 k)) (fun k => v11 (ix3 0 0 k)) (fun k => v13 (ix3 0 0 k)) e := by
  unfold k0_pay2 k0_pay8 k0_pay10 k0_pay11 k0_pay9 modulated normed rowOf
  pointwise

end payloads

section halves

variable (x0 : Vec Ideal S1x512x5632 .bf16) (x2 : Vec Ideal S1x512x2048 .f32) (n : Fin 512) (r : Fin 256)

theorem second_x (h : (n : ℕ) = 256 + r) : (fun k : Fin 2048 => x2 (ix3 0 n k)) = fun k => View.ld x2 r0_5 (ix3 0 r k) := by
  funext k
  refine congrArg x2 (funext fun a => Fin.ext ?_)
  match a with
  | ⟨0, _⟩ => rfl
  | ⟨1, _⟩ => show (n : ℕ) = 256 + 1 * (r : ℕ); omega
  | ⟨2, _⟩ => show (k : ℕ) = 0 + 1 * (k : ℕ); omega

theorem second_a (h : (n : ℕ) = 256 + r) : (fun k : Fin 5632 => x0 (ix3 0 n k)) = fun k => View.ld x0 r0_6 (ix3 0 r k) := by
  funext k
  refine congrArg x0 (funext fun a => Fin.ext ?_)
  match a with
  | ⟨0, _⟩ => rfl
  | ⟨1, _⟩ => show (n : ℕ) = 256 + 1 * (r : ℕ); omega
  | ⟨2, _⟩ => show (k : ℕ) = 0 + 1 * (k : ℕ); omega

theorem first_x (h : (n : ℕ) = r) : (fun k : Fin 2048 => x2 (ix3 0 n k)) = fun k => View.ld x2 r0_0 (ix3 0 r k) := by
  funext k
  refine congrArg x2 (funext fun a => Fin.ext ?_)
  match a with
  | ⟨0, _⟩ => rfl
  | ⟨1, _⟩ => show (n : ℕ) = 0 + 1 * (r : ℕ); omega
  | ⟨2, _⟩ => show (k : ℕ) = 0 + 1 * (k : ℕ); omega

theorem first_a (h : (n : ℕ) = r) : (fun k : Fin 5632 => x0 (ix3 0 n k)) = fun k => View.ld x0 r0_1 (ix3 0 r k) := by
  funext k
  refine congrArg x0 (funext fun a => Fin.ext ?_)
  match a with
  | ⟨0, _⟩ => rfl
  | ⟨1, _⟩ => show (n : ℕ) = 0 + 1 * (r : ℕ); omega
  | ⟨2, _⟩ => show (k : ℕ) = 0 + 1 * (k : ℕ); omega

end halves

/-- A value that depends on one row of the two blocks, with both rows and the column replaced by equal ones. -/
theorem swap_rows (G : (Fin 2048 → EReal) → (Fin 5632 → EReal) → Fin 2048 → EReal) {ra ra' : Fin 2048 → EReal} {rb rb' : Fin 5632 → EReal} {e e' : Fin 2048}
    (ha : ra = ra') (hb : rb = rb') (he : e = e') : G ra' rb' e' = G ra rb e := by
  rw [ha, hb, he]

variable (x0 : Vec Ideal S1x512x5632 .bf16) (x1 : Vec Ideal S5632x2048 .bf16) (x2 : Vec Ideal S1x512x2048 .f32) (x3 : Vec Ideal S1x1x2048 .f32) (x4 : Vec Ideal S1x2048 .f32)
  (x5 x6 : Vec Ideal S1x1x2048 .f32) (y : S1x512x2048.Idx)

/-- The block of the residual stream that one grid point stores, at an index. -/
theorem stream_block : out0_7 x0 x1 x2 x3 x4 x5 x6 y =
    rowOf (fun k => x2 (ix3 0 (y 1) k)) (fun k => x3 (ix3 0 0 k)) (fun k => x0 (ix3 0 (y 1) k)) (fun k j => x1 (ix2 k j)) (y 2) := by
  unfold out0_7 k0_pay12
  simp only [View.ld_unit_zero (S := S5632x2048) hz2, View.ld_unit_zero (S := S1x1x2048) hz3, View.ld_unit_zero (S := S1x2048) hz2]
  canon_tiles x h using (cover0_7 _ _ y)
  · have hx : x = ix3 (0 : Fin 1) (⟨(x 1 : ℕ), x1_lt⟩ : Fin 256) (⟨(x 2 : ℕ), x2_lt⟩ : Fin 2048) := by
      funext a
      match a with
      | ⟨0, _⟩ => exact Fin.ext (by show (x 0 : ℕ) = 0; omega)
      | ⟨1, _⟩ => rfl
      | ⟨2, _⟩ => rfl
    rw [hx, stream_second]
    exact swap_rows (fun ra rb => rowOf ra (fun k => x3 (ix3 0 0 k)) rb (fun k j => x1 (ix2 k j)))
      (second_x x2 (y 1) ⟨(x 1 : ℕ), x1_lt⟩ (by omega)) (second_a x0 (y 1) ⟨(x 1 : ℕ), x1_lt⟩ (by omega)) (Fin.ext h2)
  · have hx : x = ix3 (0 : Fin 1) (⟨(x 1 : ℕ), x1_lt⟩ : Fin 256) (⟨(x 2 : ℕ), x2_lt⟩ : Fin 2048) := by
      funext a
      match a with
      | ⟨0, _⟩ => exact Fin.ext (by show (x 0 : ℕ) = 0; omega)
      | ⟨1, _⟩ => rfl
      | ⟨2, _⟩ => rfl
    rw [hx, stream_first]
    exact swap_rows (fun ra rb => rowOf ra (fun k => x3 (ix3 0 0 k)) rb (fun k j => x1 (ix2 k j)))
      (first_x x2 (y 1) ⟨(x 1 : ℕ), x1_lt⟩ (by omega)) (first_a x0 (y 1) ⟨(x 1 : ℕ), x1_lt⟩ (by omega)) (Fin.ext h2)

/-- The block of the modulated norm. -/
theorem norm_block : out0_8 x0 x1 x2 x3 x4 x5 x6 y =
    modulated (rowOf (fun k => x2 (ix3 0 (y 1) k)) (fun k => x3 (ix3 0 0 k)) (fun k => x0 (ix3 0 (y 1) k)) (fun k j => x1 (ix2 k j)))
      (fun k => x4 (ix2 0 k)) (fun k => x5 (ix3 0 0 k)) (fun k => x6 (ix3 0 0 k)) (y 2) := by
  unfold out0_8 k0_pay12
  simp only [View.ld_unit_zero (S := S5632x2048) hz2, View.ld_unit_zero (S := S1x1x2048) hz3, View.ld_unit_zero (S := S1x2048) hz2]
  canon_tiles x h using (cover0_8 _ _ y)
  · have hx : x = ix3 (0 : Fin 1) (⟨(x 1 : ℕ), x1_lt⟩ : Fin 256) (⟨(x 2 : ℕ), x2_lt⟩ : Fin 2048) := by
      funext a
      match a with
      | ⟨0, _⟩ => exact Fin.ext (by show (x 0 : ℕ) = 0; omega)
      | ⟨1, _⟩ => rfl
      | ⟨2, _⟩ => rfl
    rw [hx, norm_second]
    exact swap_rows (fun ra rb => modulated (rowOf ra (fun k => x3 (ix3 0 0 k)) rb (fun k j => x1 (ix2 k j))) (fun k => x4 (ix2 0 k)) (fun k => x5 (ix3 0 0 k)) (fun k => x6 (ix3 0 0 k)))
      (second_x x2 (y 1) ⟨(x 1 : ℕ), x1_lt⟩ (by omega)) (second_a x0 (y 1) ⟨(x 1 : ℕ), x1_lt⟩ (by omega)) (Fin.ext h2)
  · have hx : x = ix3 (0 : Fin 1) (⟨(x 1 : ℕ), x1_lt⟩ : Fin 256) (⟨(x 2 : ℕ), x2_lt⟩ : Fin 2048) := by
      funext a
      match a with
      | ⟨0, _⟩ => exact Fin.ext (by show (x 0 : ℕ) = 0; omega)
      | ⟨1, _⟩ => rfl
      | ⟨2, _⟩ => rfl
    rw [hx, norm_first]
    exact swap_rows (fun ra rb => modulated (rowOf ra (fun k => x3 (ix3 0 0 k)) rb (fun k j => x1 (ix2 k j))) (fun k => x4 (ix2 0 k)) (fun k => x5 (ix3 0 0 k)) (fun k => x6 (ix3 0 0 k)))
      (first_x x2 (y 1) ⟨(x 1 : ℕ), x1_lt⟩ (by omega)) (first_a x0 (y 1) ⟨(x 1 : ℕ), x1_lt⟩ (by omega)) (Fin.ext h2)

end Cert.MidIdeal.Ffn
-- ==== Proof.Mid.Array.lean ====
module

public import proofs.«01_k».proof.Proof.Mid.Block

@[expose] public section

set_option maxRecDepth 16384
set_option maxHeartbeats 2000000

noncomputable section

namespace Cert.MidIdeal.Ffn

open Cert.MidIdeal Cert.MidIdeal.Gen
open Cert.DownIdeal.Ffn (rowOf normed modulated)
open Idealize.ShloMosaic Idealize.ShloMosaic.TcCoe Idealize.ShloMosaic.Tactic Idealize.SL.Sem

variable (m : (ℓ : Loc nD τ sig) → Buf (Elt Ideal) ℓ)

/-- Where each window's block lies: the points run over the row blocks of one batch, then of the next. -/
theorem idx : ∀ t : Fin grid0.N,
    win0_0.index t = ![t.val / 32, t.val % 32, 0] ∧ win0_1.index t = ![0, 0] ∧ win0_2.index t = ![t.val / 32, t.val % 32, 0] ∧
    win0_3.index t = ![t.val / 32, 0, 0] ∧ win0_4.index t = ![0, 0] ∧ win0_5.index t = ![t.val / 32, 0, 0] ∧
    win0_6.index t = ![t.val / 32, 0, 0] ∧ win0_7.index t = ![t.val / 32, t.val % 32, 0] ∧ win0_8.index t = ![t.val / 32, t.val % 32, 0] := by
  decide +kernel

section blocks

variable (c : Dev nD) (t : Fin cfg0.N) (b : Fin 2) (hb : (b : ℕ) = t.val / 32)

include hb

/-- The block of gated products, read off the argument. -/
theorem blk0 (r : Fin 512) (k : Fin 5632) (n : Fin 16384) (hn : (n : ℕ) = t.val % 32 * 512 + r) :
    iblk m c 0 t (ix3 0 r k) = m ((c : Thread nD τ).loc main_arg0) (ix3 b n k) := by
  have hi := (idx t).1
  have he : (win0_0.blk t).view.emb (ix3 0 r k) = ix3 b n k := by
    blk_ext [hi]
  show V m c main_v0 ((win0_0.blk t).view.emb (ix3 0 r k)) = _
  rw [he]
  entry_read
  pointwise

omit hb in
/-- The weights, the first layer's of the argument. -/
theorem blk1 (k : Fin 5632) (e : Fin 2048) : iblk m c 1 t (ix2 k e) = m ((c : Thread nD τ).loc main_arg1) (ix3 0 k e) := by
  have hi := (idx t).2.1
  have he : (win0_1.blk t).view.emb (ix2 k e) = ix2 k e := by
    blk_ext [hi]
  show V m c main_v3 ((win0_1.blk t).view.emb (ix2 k e)) = _
  rw [he]
  entry_read
  pointwise

/-- The block of the residual stream. -/
theorem blk2 (r : Fin 512) (k : Fin 2048) (n : Fin 16384) (hn : (n : ℕ) = t.val % 32 * 512 + r) :
    iblk m c 2 t (ix3 0 r k) = m ((c : Thread nD τ).loc main_arg2) (ix3 b n k) := by
  have hi := (idx t).2.2.1
  have he : (win0_2.blk t).view.emb (ix3 0 r k) = ix3 b n k := by
    blk_ext [hi]
  show V m c main_arg2 ((win0_2.blk t).view.emb (ix3 0 r k)) = _
  rw [he]
  exact congrFun (V_main_arg2 m c) _

/-- The gate of the batch. -/
theorem blk3 (k : Fin 2048) : iblk m c 3 t (ix3 0 0 k) = m ((c : Thread nD τ).loc main_arg3) (ix3 b 0 k) := by
  have hi := (idx t).2.2.2.1
  have he : (win0_3.blk t).view.emb (ix3 0 0 k) = ix3 b 0 k := by
    blk_ext [hi]
  show V m c main_arg3 ((win0_3.blk t).view.emb (ix3 0 0 k)) = _
  rw [he]
  exact congrFun (V_main_arg3 m c) _

omit hb in
/-- The gain of the next layer's first norm. -/
theorem blk4 (k : Fin 2048) : iblk m c 4 t (ix2 0 k) = m ((c : Thread nD τ).loc main_arg4) (ix3 1 0 k) := by
  have hi := (idx t).2.2.2.2.1
  have he : (win0_4.blk t).view.emb (ix2 0 k) = ix2 0 k := by
    blk_ext [hi]
  show V m c main_v6 ((win0_4.blk t).view.emb (ix2 0 k)) = _
  rw [he]
  entry_read
  pointwise

/-- The shift of the batch. -/
theorem blk5 (k : Fin 2048) : iblk m c 5 t (ix3 0 0 k) = m ((c : Thread nD τ).loc main_arg5) (ix3 b 0 k) := by
  have hi := (idx t).2.2.2.2.2.1
  have he : (win0_5.blk t).view.emb (ix3 0 0 k) = ix3 b 0 k := by
    blk_ext [hi]
  show V m c main_arg5 ((win0_5.blk t).view.emb (ix3 0 0 k)) = _
  rw [he]
  exact congrFun (V_main_arg5 m c) _

/-- The scale of the batch. -/
theorem blk6 (k : Fin 2048) : iblk m c 6 t (ix3 0 0 k) = m ((c : Thread nD τ).loc main_arg6) (ix3 b 0 k) := by
  have hi := (idx t).2.2.2.2.2.2.1
  have he : (win0_6.blk t).view.emb (ix3 0 0 k) = ix3 b 0 k := by
    blk_ext [hi]
  show V m c main_arg6 ((win0_6.blk t).view.emb (ix3 0 0 k)) = _
  rw [he]
  exact congrFun (V_main_arg6 m c) _

end blocks

/-- A row of the residual stream that the program leaves. -/
def streamRow (a : S2x16384x5632.Idx → EReal) (w : S2x5632x2048.Idx → EReal) (x : S2x16384x2048.Idx → EReal) (gt : S2x1x2048.Idx → EReal)
    (b : Fin 2) (n : Fin 16384) : Fin 2048 → EReal :=
  rowOf (fun k => x (ix3 b n k)) (fun k => gt (ix3 b 0 k)) (fun k => a (ix3 b n k)) (fun k j => w (ix3 0 k j))

/-- A row of the modulated norm that it leaves. -/
def normRow (a : S2x16384x5632.Idx → EReal) (w : S2x5632x2048.Idx → EReal) (x : S2x16384x2048.Idx → EReal) (gt : S2x1x2048.Idx → EReal) (g : S2x2x2048.Idx → EReal)
    (sh sc : S2x1x2048.Idx → EReal) (b : Fin 2) (n : Fin 16384) : Fin 2048 → EReal :=
  modulated (streamRow a w x gt b n) (fun k => g (ix3 1 0 k)) (fun k => sh (ix3 b 0 k)) (fun k => sc (ix3 b 0 k))

/-- The first result, over the whole output. -/
def streamArr (a : S2x16384x5632.Idx → EReal) (w : S2x5632x2048.Idx → EReal) (x : S2x16384x2048.Idx → EReal) (gt : S2x1x2048.Idx → EReal) : S2x16384x2048.Idx → EReal := fun y =>
  streamRow a w x gt (y 0) (y 1) (y 2)

/-- The second. -/
def normArr (a : S2x16384x5632.Idx → EReal) (w : S2x5632x2048.Idx → EReal) (x : S2x16384x2048.Idx → EReal) (gt : S2x1x2048.Idx → EReal) (g : S2x2x2048.Idx → EReal)
    (sh sc : S2x1x2048.Idx → EReal) : S2x16384x2048.Idx → EReal := fun y =>
  normRow a w x gt g sh sc (y 0) (y 1) (y 2)

/-- What one point computes for the stream, at row `r` of its block. -/
theorem stream_point (c : Dev nD) (t : Fin cfg0.N) (r : Fin 512) (b : Fin 2) (n : Fin 16384) (hb : (b : ℕ) = t.val / 32) (hn : (n : ℕ) = t.val % 32 * 512 + r) :
    rowOf (fun k => iblk m c 2 t (ix3 0 r k)) (fun k => iblk m c 3 t (ix3 0 0 k)) (fun k => iblk m c 0 t (ix3 0 r k)) (fun k j => iblk m c 1 t (ix2 k j)) =
    streamRow (m ((c : Thread nD τ).loc main_arg0)) (m ((c : Thread nD τ).loc main_arg1)) (m ((c : Thread nD τ).loc main_arg2))
      (m ((c : Thread nD τ).loc main_arg3)) b n := by
  have h0 : (fun k => iblk m c 0 t (ix3 0 r k)) = fun k => m ((c : Thread nD τ).loc main_arg0) (ix3 b n k) := funext fun k => blk0 m c t b hb r k n hn
  have h1 : (fun k j => iblk m c 1 t (ix2 k j)) = fun k j => m ((c : Thread nD τ).loc main_arg1) (ix3 0 k j) := funext fun k => funext fun j => blk1 m c t k j
  have h2 : (fun k => iblk m c 2 t (ix3 0 r k)) = fun k => m ((c : Thread nD τ).loc main_arg2) (ix3 b n k) := funext fun k => blk2 m c t b hb r k n hn
  have h3 : (fun k => iblk m c 3 t (ix3 0 0 k)) = fun k => m ((c : Thread nD τ).loc main_arg3) (ix3 b 0 k) := funext fun k => blk3 m c t b hb k
  exact (congrArg (fun f => rowOf f _ _ _) h2).trans ((congrArg (fun f => rowOf _ f _ _) h3).trans ((congrArg (fun f => rowOf _ _ f _) h0).trans (congrArg (fun f => rowOf _ _ _ f) h1)))

/-- And for the norm. -/
theorem norm_point (c : Dev nD) (t : Fin cfg0.N) (r : Fin 512) (b : Fin 2) (n : Fin 16384) (hb : (b : ℕ) = t.val / 32) (hn : (n : ℕ) = t.val % 32 * 512 + r) :
    modulated (rowOf (fun k => iblk m c 2 t (ix3 0 r k)) (fun k => iblk m c 3 t (ix3 0 0 k)) (fun k => iblk m c 0 t (ix3 0 r k)) (fun k j => iblk m c 1 t (ix2 k j)))
      (fun k => iblk m c 4 t (ix2 0 k)) (fun k => iblk m c 5 t (ix3 0 0 k)) (fun k => iblk m c 6 t (ix3 0 0 k)) =
    normRow (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) (m ((c : Thread nD τ).loc main_arg6)) b n := by
  have h4 : (fun k => iblk m c 4 t (ix2 0 k)) = fun k => m ((c : Thread nD τ).loc main_arg4) (ix3 1 0 k) := funext fun k => blk4 m c t k
  have h5 : (fun k => iblk m c 5 t (ix3 0 0 k)) = fun k => m ((c : Thread nD τ).loc main_arg5) (ix3 b 0 k) := funext fun k => blk5 m c t b hb k
  have h6 : (fun k => iblk m c 6 t (ix3 0 0 k)) = fun k => m ((c : Thread nD τ).loc main_arg6) (ix3 b 0 k) := funext fun k => blk6 m c t b hb k
  exact (congrArg (fun f => modulated f _ _ _) (stream_point m c t r b n hb hn)).trans ((congrArg (fun f => modulated _ f _ _) h4).trans
    ((congrArg (fun f => modulated _ _ f _) h5).trans (congrArg (fun f => modulated _ _ _ f) h6)))

/-- The stream after the run. -/
theorem stream_eq (c : Dev nD) : (dats m 0 c).arrAt 7 cfg0.N =
    streamArr (m ((c : Thread nD τ).loc main_arg0)) (m ((c : Thread nD τ).loc main_arg1)) (m ((c : Thread nD τ).loc main_arg2)) (m ((c : Thread nD τ).loc main_arg3)) := by
  refine (dats m 0 c).arrAt_eq_of_covers 7 _ (by decide +kernel) fun t hf y => ?_
  blk_simp
  rw [after0_7]
  have hi := (idx t).2.2.2.2.2.2.2.1
  have y0 : (y 0 : ℕ) < 1 := (y 0).isLt
  have y1 : (y 1 : ℕ) < 512 := (y 1).isLt
  have y2 : (y 2 : ℕ) < 2048 := (y 2).isLt
  have e0 : ((win0_7.blk t).view.emb y 0 : ℕ) = t.val / 32 := by
    blk_simp [hi]
  have e1 : ((win0_7.blk t).view.emb y 1 : ℕ) = t.val % 32 * 512 + (y 1 : ℕ) := by
    blk_simp [hi]
  have e2 : ((win0_7.blk t).view.emb y 2 : ℕ) = (y 2 : ℕ) := by
    blk_simp [hi]
  unfold streamArr
  generalize (win0_7.blk t).view.emb y = z at e0 e1 e2
  have hz : y 2 = z 2 := Fin.ext e2.symm
  refine (stream_block _ _ _ _ _ _ _ y).trans ?_
  exact (congrFun (stream_point m c t (y 1) (z 0) (z 1) e0 e1) (y 2)).trans (congrArg (streamRow _ _ _ _ (z 0) (z 1)) hz)

/-- The norm after the run. -/
theorem norm_eq (c : Dev nD) : (dats m 0 c).arrAt 8 cfg0.N =
    normArr (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) (m ((c : Thread nD τ).loc main_arg6)) := by
  refine (dats m 0 c).arrAt_eq_of_covers 8 _ (by decide +kernel) fun t hf y => ?_
  blk_simp
  rw [after0_8]
  have hi := (idx t).2.2.2.2.2.2.2.2
  have y0 : (y 0 : ℕ) < 1 := (y 0).isLt
  have y1 : (y 1 : ℕ) < 512 := (y 1).isLt
  have y2 : (y 2 : ℕ) < 2048 := (y 2).isLt
  have e0 : ((win0_8.blk t).view.emb y 0 : ℕ) = t.val / 32 := by
    blk_simp [hi]
  have e1 : ((win0_8.blk t).view.emb y 1 : ℕ) = t.val % 32 * 512 + (y 1 : ℕ) := by
    blk_simp [hi]
  have e2 : ((win0_8.blk t).view.emb y 2 : ℕ) = (y 2 : ℕ) := by
    blk_simp [hi]
  unfold normArr
  generalize (win0_8.blk t).view.emb y = z at e0 e1 e2
  have hz : y 2 = z 2 := Fin.ext e2.symm
  refine (norm_block _ _ _ _ _ _ _ y).trans ?_
  exact (congrFun (norm_point m c t (y 1) (z 0) (z 1) e0 e1) (y 2)).trans (congrArg (normRow _ _ _ _ _ _ _ (z 0) (z 1)) hz)

end Cert.MidIdeal.Ffn
-- ==== Proof.Mid.Equation.lean ====
module

public import proofs.«01_k».proof.Proof.Mid.Array
public import proofs.«01_k».proof.Proof.Down.Equation
public import proofs.«01_k».proof.Proof.Up.Equation
public import proofs.«01_k».proof.Proof.Gen.MidReferenceIdeal.Read

@[expose] public section

set_option maxRecDepth 16384
set_option maxHeartbeats 2000000

noncomputable section

namespace Cert.MidEq

open Cert.MidReferenceIdeal Cert.MidReferenceIdeal.Gen Cert.MidReferenceIdeal.Read Cert.MidIdeal.Ffn
open Cert.DownIdeal.Ffn (rowOf normed modulated)
open Idealize.ShloMosaic Idealize.ShloMosaic.TcCoe Idealize.ShloMosaic.Tactic Idealize.SL.Sem

variable (a : S2x16384x5632.Idx → EReal) (w : S2x5632x2048.Idx → EReal) (x : S2x16384x2048.Idx → EReal) (gt : S2x1x2048.Idx → EReal) (g : S2x2x2048.Idx → EReal) (sh sc : S2x1x2048.Idx → EReal)

/-- The product of a row of gated products by the first layer's weights. -/
theorem product_at (b : Fin 2) (n : Fin 16384) (e : Fin 2048) :
    val_main_v2 (F := Ideal) a w (ix3 b n e) = ∑ k : Fin 5632, a (ix3 b n k) * w (ix3 0 k e) := by
  rw [val_main_v2_apply]
  refine Finset.sum_congr rfl fun k _ => ?_
  rw [val_main_v1_apply, val_main_v0_apply]
  have he : (e : ℕ) < 2048 := e.isLt
  have hk : (k : ℕ) < 5632 := k.isLt
  refine congrArg₂ (· * ·) (congrArg a ?_) (congrArg w ?_)
  · funext d
    match d with
    | ⟨0, _⟩ => rfl
    | ⟨1, _⟩ => rfl
    | ⟨2, _⟩ => rfl
  · funext d
    refine Fin.ext ?_
    match d with
    | ⟨0, _⟩ => rfl
    | ⟨1, _⟩ => show ((k : ℕ) * 2048 + e) / 2048 % 5632 = k; omega
    | ⟨2, _⟩ => show ((k : ℕ) * 2048 + e) % 2048 = e; omega

/-- The residual stream after the feed-forward part. -/
theorem row_at (b : Fin 2) (n : Fin 16384) (e : Fin 2048) :
    val_main_v5 (F := Ideal) a w x gt (ix3 b n e) = rowOf (fun k => x (ix3 b n k)) (fun k => gt (ix3 b 0 k)) (fun k => a (ix3 b n k)) (fun k j => w (ix3 0 k j)) e := by
  rw [val_main_v5_apply, val_main_v4_apply, val_main_v3_apply, product_at]
  have hi : idx_main_v3 (ix3 b n e) = ix3 b 0 e := by
    funext d
    match d with
    | ⟨0, _⟩ => rfl
    | ⟨1, _⟩ => rfl
    | ⟨2, _⟩ => rfl
  rw [hi]
  rfl

/-- The first results. -/
theorem stream_arr : streamArr a w x gt = val_main_v5 (F := Ideal) a w x gt := by
  funext y
  have hy : y = ix3 (y 0) (y 1) (y 2) := by
    funext d
    match d with
    | ⟨0, _⟩ => rfl
    | ⟨1, _⟩ => rfl
    | ⟨2, _⟩ => rfl
  rw [hy]
  exact (row_at a w x gt (y 0) (y 1) (y 2)).symm

/-- The gain, read through its slice and its reshapes. -/
theorem gain_at (b : Fin 2) (n : Fin 16384) (e : Fin 2048) : val_main_v19 (F := Ideal) g (ix3 b n e) = g (ix3 1 0 e) := by
  rw [val_main_v19_apply, val_main_v18_apply, val_main_v17_apply, val_main_v16_apply]
  have he : (e : ℕ) < 2048 := e.isLt
  refine congrArg g (funext fun d => Fin.ext ?_)
  match d with
  | ⟨0, _⟩ => rfl
  | ⟨1, _⟩ => rfl
  | ⟨2, _⟩ => show (e : ℕ) % 2048 = e; omega

/-- The second results at a place. -/
theorem norm_at (b : Fin 2) (n : Fin 16384) (e : Fin 2048) : val_main_v27 (F := Ideal) a w x gt g sh sc (ix3 b n e) = normRow a w x gt g sh sc b n e := by
  have hs : ∀ k : Fin 2048, idx_main_v7 (idx_main_v8 (idx_main_v14 (ix3 b n e))) k = ix3 b n k := fun k => by
    funext d
    match d with
    | ⟨0, _⟩ => rfl
    | ⟨1, _⟩ => rfl
    | ⟨2, _⟩ => rfl
  have h23 : idx_main_v23 (ix3 b n e) = ix3 b 0 e := by
    funext d
    match d with
    | ⟨0, _⟩ => rfl
    | ⟨1, _⟩ => rfl
    | ⟨2, _⟩ => rfl
  have h25 : idx_main_v25 (ix3 b n e) = ix3 b 0 e := by
    funext d
    match d with
    | ⟨0, _⟩ => rfl
    | ⟨1, _⟩ => rfl
    | ⟨2, _⟩ => rfl
  rw [val_main_v27_apply, val_main_v26_apply, val_main_v25_apply, val_main_v24_apply, val_main_v23_apply, val_main_v22_apply, val_main_v21_apply, val_main_cst_2_apply,
    val_main_v20_apply, gain_at, val_main_v15_apply, val_main_v14_apply, val_main_v13_apply, val_main_v12_apply, val_main_v11_apply, val_main_cst_1_apply,
    val_main_v10_apply, val_main_v9_apply, val_main_cst_0_apply, val_main_v8_apply, val_main_v7_apply, val_main_cst_apply, row_at, h23, h25]
  simp only [hs, val_main_v6_apply, row_at]
  show (_ * Ideal.rsqrt (Ideal.div (Ideal.ofBits .f32 0x00000000#32 + ∑ k : Fin 2048, _) (Ideal.ofBits .f32 0x45000000#32) + Ideal.ofBits .f32 0x358637BD#32)) * g (ix3 1 0 e) *
    (Ideal.ofBits .f32 0x3F800000#32 + sc (ix3 b 0 e)) + sh (ix3 b 0 e) = _
  rw [Cert.DownEq.zero_word, zero_add, Cert.UpEq.one_word, mul_assoc]
  rfl

/-- The second results. -/
theorem norm_arr : normArr a w x gt g sh sc = val_main_v27 (F := Ideal) a w x gt g sh sc := by
  funext y
  have hy : y = ix3 (y 0) (y 1) (y 2) := by
    funext d
    match d with
    | ⟨0, _⟩ => rfl
    | ⟨1, _⟩ => rfl
    | ⟨2, _⟩ => rfl
  rw [hy]
  exact (norm_at a w x gt g sh sc (y 0) (y 1) (y 2)).symm

end Cert.MidEq
-- ==== Proof.Odd.Frame.lean ====
module

public import proofs.«01_k».proof.Defs
public import proofs.«01_k».proof.Proof.Gen.Odd
public import proofs.«01_k».proof.Proof.Gen.OddIdeal
public import proofs.«01_k».proof.Proof.Gen.OddIdeal.Frame
public import Idealize.ShloMosaic.Lib.Claim

@[expose] public section

set_option maxRecDepth 16384
set_option maxHeartbeats 2000000

noncomputable section

namespace Cert.Odd.Conv

open Idealize.ShloMosaic Idealize.SL.Sem

/-- The two readings have the same body. -/
theorem body_eq : Cert.Odd.defs₀ (F := Bits) = Cert.OddIdeal.defs₀ (F := Bits) := by
  unfold Cert.Odd.defs₀ Cert.OddIdeal.defs₀
  refine congrArg Defs.onTc ?_
  funext l x
  match l, x with
  | 0, (t, s) => rfl
  | ⟨_ + 1, h⟩, _ => exact absurd h (Nat.not_lt.2 (Nat.le_add_left _ _))

/-- So they have the same body table. -/
theorem defs_eq : Cert.Odd.defs (F := Bits) = Cert.OddIdeal.defs (F := Bits) := congrArg (Pipeline.defs _) body_eq

/-- The frame at bit level of the odd layer's output projection, from the run over any float values. -/
theorem frame : Cert.quiescent_Odd := by
  intro m g _
  rw [defs_eq]
  exact (θ_run Cert.OddIdeal.defs _ _).mono (fun _ h => h) (Cert.OddIdeal.Gen.frame (F := Bits) m g)

end Cert.Odd.Conv
-- ==== Proof.Odd.Term.lean ====
module

public import proofs.«01_k».proof.Proof.Gen.OddIdeal.Value
public import proofs.«01_k».proof.Proof.Down.Block

@[expose] public section

set_option maxRecDepth 16384
set_option maxHeartbeats 2000000

noncomputable section

namespace Cert.OddIdeal.Conv

open Cert.OddIdeal Cert.OddIdeal.Gen
open Cert.DownIdeal.Ffn (normed modulated hz2 hz3)
open Idealize.ShloMosaic Idealize.ShloMosaic.TcCoe Idealize.ShloMosaic.Tactic Idealize.SL.Sem

variable {F : FTy → Type} [FloatOps F]

/-- A load of what stores into a scratch array left, through the contents alone. -/
theorem readCov_ld {Val : EltTy → Type} [∀ e, Nonempty (Val e)] {sg : RefSig} {κ : Kind} {sp : Space} {s : Shape} {e : EltTy} (v : View sg κ sp s e)
    (L : List (View.Piece Val s e)) (r : Rect s) : v.readCov L r.toLoadRect = View.ld (View.canon L) r :=
  View.readCov_eq_canon' v L r.toLoadRect

/-- The window of rows with its halos, as the body leaves it in the first scratch array. -/
def window (i : grid0.Coords) (x1 : Vec F S1x8x1024 .f32) (x2 : Vec F S1x512x1024 .f32) (x3 : Vec F S1x8x1024 .f32) : Vec F S528x1024 .f32 :=
  View.canon (Val := Elt F) (e := .f32)
    [⟨Rect.unit (s := S528x1024) ![520, 0] S8x1024.size inb_S528x1024_S8x1024_520_0, k0_pay6 i x3⟩,
     ⟨Rect.unit (s := S528x1024) ![8, 0] S512x1024.size inb_S528x1024_S512x1024_8_0, k0_pay5 x2⟩,
     ⟨Rect.unit (s := S528x1024) ![0, 0] S8x1024.size inb_S528x1024_S8x1024_0_0, k0_pay4 i x1⟩]

/-- The mixed rows, as the body leaves them in the second scratch array, of the window `w`. -/
def mixed (x0 : Vec F S1x512x1024 .bf16) (w : Vec F S528x1024 .f32) (x4 : Vec F S1x512x1024 .f32) (x5 : Vec F S3x1024 .f32) : Vec F S512x2048 .bf16 :=
  View.canon (Val := Elt F) (e := .bf16)
    [⟨Rect.unit (s := S512x2048) ![256, 1024] S256x1024.size inb_S512x2048_S256x1024_256_1024,
        k0_pay12
          (k0_pay10 (View.ld w (Rect.unit (s := S528x1024) ![263, 0] S256x1024.size inb_S528x1024_S256x1024_263_0))
            (View.ld x5 (Rect.unit (s := S3x1024) ![0, 0] S1x1024.size inb_S3x1024_S1x1024_0_0))
            (View.ld w (Rect.unit (s := S528x1024) ![264, 0] S256x1024.size inb_S528x1024_S256x1024_264_0))
            (View.ld x5 (Rect.unit (s := S3x1024) ![1, 0] S1x1024.size inb_S3x1024_S1x1024_1_0)))
          (View.ld w (Rect.unit (s := S528x1024) ![265, 0] S256x1024.size inb_S528x1024_S256x1024_265_0))
          (View.ld x5 (Rect.unit (s := S3x1024) ![2, 0] S1x1024.size inb_S3x1024_S1x1024_2_0))
          (View.ld x4 (Rect.unit (s := S1x512x1024) ![0, 256, 0] S1x256x1024.size inb_S1x512x1024_S1x256x1024_0_256_0))⟩,
     ⟨Rect.unit (s := S512x2048) ![256, 0] S256x1024.size inb_S512x2048_S256x1024_256_0,
        k0_pay11 (View.ld x0 (Rect.unit (s := S1x512x1024) ![0, 256, 0] S1x256x1024.size inb_S1x512x1024_S1x256x1024_0_256_0))⟩,
     ⟨Rect.unit (s := S512x2048) ![0, 1024] S256x1024.size inb_S512x2048_S256x1024_0_1024,
        k0_pay9
          (k0_pay7 (View.ld w (Rect.unit (s := S528x1024) ![7, 0] S256x1024.size inb_S528x1024_S256x1024_7_0))
            (View.ld x5 (Rect.unit (s := S3x1024) ![0, 0] S1x1024.size inb_S3x1024_S1x1024_0_0)))
          (View.ld w (Rect.unit (s := S528x1024) ![8, 0] S256x1024.size inb_S528x1024_S256x1024_8_0))
          (View.ld x5 (Rect.unit (s := S3x1024) ![1, 0] S1x1024.size inb_S3x1024_S1x1024_1_0))
          (View.ld w (Rect.unit (s := S528x1024) ![9, 0] S256x1024.size inb_S528x1024_S256x1024_9_0))
          (View.ld x5 (Rect.unit (s := S3x1024) ![2, 0] S1x1024.size inb_S3x1024_S1x1024_2_0))
          (View.ld x4 (Rect.unit (s := S1x512x1024) ![0, 0, 0] S1x256x1024.size inb_S1x512x1024_S1x256x1024_0_0_0))⟩,
     ⟨Rect.unit (s := S512x2048) ![0, 0] S256x1024.size inb_S512x2048_S256x1024_0_0,
        k0_pay8 (View.ld x0 (Rect.unit (s := S1x512x1024) ![0, 0, 0] S1x256x1024.size inb_S1x512x1024_S1x256x1024_0_0_0))⟩]

/-- The block of the residual stream, of the mixed rows `u`. -/
def streamBlk (u : Vec F S512x2048 .bf16) (x6 : Vec F S2048x2048 .bf16) (x7 : Vec F S1x512x2048 .f32) (x8 : Vec F S1x1x2048 .f32) : Vec F S1x512x2048 .f32 :=
  View.canon (Val := Elt F) (e := .f32)
    [⟨Rect.unit (s := S1x512x2048) ![0, 256, 0] S1x256x2048.size inb_S1x512x2048_S1x256x2048_0_256_0,
        k0_pay2 (k0_pay14 (View.ld u (Rect.unit (s := S512x2048) ![256, 0] S256x2048.size inb_S512x2048_S256x2048_256_0)) x6)
          (k0_pay20 (View.ld x7 (Rect.unit (s := S1x512x2048) ![0, 256, 0] S1x256x2048.size inb_S1x512x2048_S1x256x2048_0_256_0))) x8⟩,
     ⟨Rect.unit (s := S1x512x2048) ![0, 0, 0] S1x256x2048.size inb_S1x512x2048_S1x256x2048_0_0_0,
        k0_pay18 (k0_pay13 (View.ld u (Rect.unit (s := S512x2048) ![0, 0] S256x2048.size inb_S512x2048_S256x2048_0_0)) x6)
          (k0_pay15 (View.ld x7 (Rect.unit (s := S1x512x2048) ![0, 0, 0] S1x256x2048.size inb_S1x512x2048_S1x256x2048_0_0_0))) (k0_pay16 x8)⟩]

/-- The block of the modulated norm. -/
def normBlk (u : Vec F S512x2048 .bf16) (x6 : Vec F S2048x2048 .bf16) (x7 : Vec F S1x512x2048 .f32) (x8 : Vec F S1x1x2048 .f32) (x9 : Vec F S1x2048 .f32)
    (x10 x11 : Vec F S1x1x2048 .f32) : Vec F S1x512x2048 .bf16 :=
  View.canon (Val := Elt F) (e := .bf16)
    [⟨Rect.unit (s := S1x512x2048) ![0, 256, 0] S1x256x2048.size inb_S1x512x2048_S1x256x2048_0_256_0,
        k0_pay3 (k0_pay14 (View.ld u (Rect.unit (s := S512x2048) ![256, 0] S256x2048.size inb_S512x2048_S256x2048_256_0)) x6)
          (k0_pay20 (View.ld x7 (Rect.unit (s := S1x512x2048) ![0, 256, 0] S1x256x2048.size inb_S1x512x2048_S1x256x2048_0_256_0))) x8 x9 x10 x11⟩,
     ⟨Rect.unit (s := S1x512x2048) ![0, 0, 0] S1x256x2048.size inb_S1x512x2048_S1x256x2048_0_0_0,
        k0_pay19 (k0_pay13 (View.ld u (Rect.unit (s := S512x2048) ![0, 0] S256x2048.size inb_S512x2048_S256x2048_0_0)) x6)
          (k0_pay15 (View.ld x7 (Rect.unit (s := S1x512x2048) ![0, 0, 0] S1x256x2048.size inb_S1x512x2048_S1x256x2048_0_0_0))) (k0_pay16 x8) x9 x10 x11⟩]

section terms

variable (c : Dev nD) (i : grid0.Coords) (arg2 : Memref sig .tc .vmem S1x512x1024 .bf16) (harg2 : arg2.IsWhole) (arg3 : Memref sig .tc .vmem S1x8x1024 .f32) (harg3 : arg3.IsWhole) (arg4 : Memref sig .tc .vmem S1x512x1024 .f32) (harg4 : arg4.IsWhole) (arg5 : Memref sig .tc .vmem S1x8x1024 .f32) (harg5 : arg5.IsWhole) (arg6 : Memref sig .tc .vmem S1x512x1024 .f32) (harg6 : arg6.IsWhole) (arg7 : Memref sig .tc .vmem S3x1024 .f32) (harg7 : arg7.IsWhole) (arg8 : Memref sig .tc .vmem S2048x2048 .bf16) (harg8 : arg8.IsWhole) (arg9 : Memref sig .tc .vmem S1x512x2048 .f32) (harg9 : arg9.IsWhole) (arg10 : Memref sig .tc .vmem S1x1x2048 .f32) (harg10 : arg10.IsWhole) (arg11 : Memref sig .tc .vmem S1x2048 .f32) (harg11 : arg11.IsWhole) (arg12 : Memref sig .tc .vmem S1x1x2048 .f32) (harg12 : arg12.IsWhole) (arg13 : Memref sig .tc .vmem S1x1x2048 .f32) (harg13 : arg13.IsWhole) (arg14 : Memref sig .tc .vmem S1x512x2048 .f32) (harg14 : arg14.IsWhole) (arg15 : Memref sig .tc .vmem S1x512x2048 .bf16) (harg15 : arg15.IsWhole) (arg16 : Memref sig .tc .vmem S528x1024 .f32) (harg16 : arg16.IsWhole) (arg17 : Memref sig .tc .vmem S512x2048 .bf16) (harg17 : arg17.IsWhole)
  (x0 : Vec F S1x512x1024 .bf16) (x1 : Vec F S1x8x1024 .f32) (x2 : Vec F S1x512x1024 .f32) (x3 : Vec F S1x8x1024 .f32) (x4 : Vec F S1x512x1024 .f32) (x5 : Vec F S3x1024 .f32) (x6 : Vec F S2048x2048 .bf16) (x7 : Vec F S1x512x2048 .f32) (x8 : Vec F S1x1x2048 .f32) (x9 : Vec F S1x2048 .f32) (x10 : Vec F S1x1x2048 .f32) (x11 : Vec F S1x1x2048 .f32)

/-- What a point stores of the residual stream. -/
theorem stream_term : out0_A_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 x10 x11 =
    streamBlk (mixed x0 (window i x1 x2 x3) x4 x5) x6 x7 x8 := by
  unfold out0_A_12
  rw [View.read_writes_eq_canon _ _ _ (cover0_A_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 x10 x11)]
  unfold kernelRun0_A
  dsimp only
  sl_unfold_words
  simp only [readCov_ld, View.readAt_eq_ld, harg2.read_unread, harg3.read_unread, harg4.read_unread, harg5.read_unread, harg6.read_unread, harg7.read_unread, harg8.read_unread, harg9.read_unread, harg10.read_unread, harg11.read_unread, harg12.read_unread, harg13.read_unread, View.ld_unit_zero (S := S2048x2048) hz2, View.ld_unit_zero (S := S1x1x2048) hz3, View.ld_unit_zero (S := S1x2048) hz2,
    View.ld_unit_zero (S := S1x8x1024) hz3, View.ld_unit_zero (S := S1x512x1024) hz3]
  rfl

/-- And of the modulated norm. -/
theorem norm_term : out0_A_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 x10 x11 =
    normBlk (mixed x0 (window i x1 x2 x3) x4 x5) x6 x7 x8 x9 x10 x11 := by
  unfold out0_A_13
  rw [View.read_writes_eq_canon _ _ _ (cover0_A_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 x10 x11)]
  unfold kernelRun0_A
  dsimp only
  sl_unfold_words
  simp only [readCov_ld, View.readAt_eq_ld, harg2.read_unread, harg3.read_unread, harg4.read_unread, harg5.read_unread, harg6.read_unread, harg7.read_unread, harg8.read_unread, harg9.read_unread, harg10.read_unread, harg11.read_unread, harg12.read_unread, harg13.read_unread, View.ld_unit_zero (S := S2048x2048) hz2, View.ld_unit_zero (S := S1x1x2048) hz3, View.ld_unit_zero (S := S1x2048) hz2,
    View.ld_unit_zero (S := S1x8x1024) hz3, View.ld_unit_zero (S := S1x512x1024) hz3]
  rfl

end terms

end Cert.OddIdeal.Conv
-- ==== Proof.Odd.Block.lean ====
module

public import proofs.«01_k».proof.Proof.Odd.Term

@[expose] public section

set_option maxRecDepth 16384
set_option maxHeartbeats 2000000

noncomputable section

namespace Cert.OddIdeal.Conv

open Cert.OddIdeal Cert.OddIdeal.Gen
open Cert.DownIdeal.Ffn (normed modulated hz2 hz3)
open Idealize.ShloMosaic Idealize.ShloMosaic.TcCoe Idealize.ShloMosaic.Tactic Idealize.SL.Sem

/-- A row of the residual stream after the mixer: the row `x`, and the mixed row `u` by the weights `w`, by the gate. -/
def rowOf (x gt u : Fin 2048 → EReal) (w : Fin 2048 → Fin 2048 → EReal) (e : Fin 2048) : EReal :=
  x e + gt e * ∑ k, u k * w k e

section products

variable (u : Vec Ideal S256x2048 .bf16) (w : Vec Ideal S2048x2048 .bf16) (v : Vec Ideal S1x256x2048 .f32) (gt : Vec Ideal S1x1x2048 .f32) (ng : Vec Ideal S1x2048 .f32)
  (sh sc : Vec Ideal S1x1x2048 .f32) (r : Fin 256) (e : Fin 2048)

/-- The residual stream in the first half of a block's rows. -/
theorem stream_first : k0_pay18 (F := Ideal) (k0_pay13 u w) (k0_pay15 v) (k0_pay16 gt) (ix3 0 r e) =
    rowOf (fun k => v (ix3 0 r k)) (fun k => gt (ix3 0 0 k)) (fun k => u (ix2 r k)) (fun k j => w (ix2 k j)) e := by
  unfold k0_pay18 k0_pay17 k0_pay13 k0_pay15 k0_pay16 rowOf
  pointwise

/-- In the second half. -/
theorem stream_second : k0_pay2 (F := Ideal) (k0_pay14 u w) (k0_pay20 v) gt (ix3 0 r e) =
    rowOf (fun k => v (ix3 0 r k)) (fun k => gt (ix3 0 0 k)) (fun k => u (ix2 r k)) (fun k j => w (ix2 k j)) e := by
  unfold k0_pay2 k0_pay1 k0_pay14 k0_pay20 rowOf
  pointwise

/-- The modulated norm in the first half. -/
theorem norm_first : k0_pay19 (F := Ideal) (k0_pay13 u w) (k0_pay15 v) (k0_pay16 gt) ng sh sc (ix3 0 r e) =
    modulated (rowOf (fun k => v (ix3 0 r k)) (fun k => gt (ix3 0 0 k)) (fun k => u (ix2 r k)) (fun k j => w (ix2 k j)))
      (fun k => ng (ix2 0 k)) (fun k => sh (ix3 0 0 k)) (fun k => sc (ix3 0 0 k)) e := by
  unfold k0_pay19 k0_pay17 k0_pay13 k0_pay15 k0_pay16 modulated normed rowOf
  pointwise

/-- In the second half. -/
theorem norm_second : k0_pay3 (F := Ideal) (k0_pay14 u w) (k0_pay20 v) gt ng sh sc (ix3 0 r e) =
    modulated (rowOf (fun k => v (ix3 0 r k)) (fun k => gt (ix3 0 0 k)) (fun k => u (ix2 r k)) (fun k j => w (ix2 k j)))
      (fun k => ng (ix2 0 k)) (fun k => sh (ix3 0 0 k)) (fun k => sc (ix3 0 0 k)) e := by
  unfold k0_pay3 k0_pay1 k0_pay14 k0_pay20 modulated normed rowOf
  pointwise

end products

section gates

variable (a b c : Vec Ideal S256x1024 .f32) (p q s : Vec Ideal S1x1024 .f32) (g : Vec Ideal S1x256x1024 .f32) (f : Vec Ideal S1x256x1024 .bf16) (r : Fin 256) (k : Fin 1024)

/-- The gated convolution in the first half of a block's rows. -/
theorem gated_first : k0_pay9 (F := Ideal) (k0_pay7 a p) b q c s g (ix2 r k) =
    g (ix3 0 r k) * (a (ix2 r k) * p (ix2 0 k) + b (ix2 r k) * q (ix2 0 k) + c (ix2 r k) * s (ix2 0 k)) := by
  unfold k0_pay9 k0_pay7
  pointwise

/-- In the second half. -/
theorem gated_second : k0_pay12 (F := Ideal) (k0_pay10 a p b q) c s g (ix2 r k) =
    g (ix3 0 r k) * (a (ix2 r k) * p (ix2 0 k) + b (ix2 r k) * q (ix2 0 k) + c (ix2 r k) * s (ix2 0 k)) := by
  unfold k0_pay12 k0_pay10
  pointwise

/-- The other mixer's rows in the first half. -/
theorem other_first : k0_pay8 (F := Ideal) f (ix2 r k) = f (ix3 0 r k) := by
  unfold k0_pay8
  pointwise

/-- In the second half. -/
theorem other_second : k0_pay11 (F := Ideal) f (ix2 r k) = f (ix3 0 r k) := by
  unfold k0_pay11
  pointwise

end gates

section rows

theorem sgt_word : ∀ q : Fin 32, (Scalar.cmpi .sgt (BitVec.ofNat 32 q.val) 0#32 = 1) ↔ 0 < q.val := by decide

theorem slt_word : ∀ q : Fin 32, (Scalar.cmpi .slt (BitVec.ofNat 32 q.val) 31#32 = 1) ↔ q.val < 31 := by decide

variable (i : grid0.Coords) (x1 x3 : Vec Ideal S1x8x1024 .f32) (x2 : Vec Ideal S1x512x1024 .f32) (k : Fin 1024)

/-- The halo before a block's rows: zero at the first block. -/
theorem before_at (r : Fin 8) : k0_pay4 (F := Ideal) i x1 (ix2 r k) = if 0 < (i 1).val then x1 (ix3 0 r k) else 0 := by
  unfold k0_pay4
  have h := sgt_word (i 1)
  by_cases hq : 0 < (i 1).val
  · rw [if_pos hq]
    simp only [Scalar.select, h.2 hq, if_true]
    pointwise
  · rw [if_neg hq]
    have hn := mt h.1 hq
    simp only [Scalar.select]
    rw [if_neg hn]
    pointwise

/-- The halo after them: zero at the last block. -/
theorem after_at (r : Fin 8) : k0_pay6 (F := Ideal) i x3 (ix2 r k) = if (i 1).val < 31 then x3 (ix3 0 r k) else 0 := by
  unfold k0_pay6
  have h := slt_word (i 1)
  by_cases hq : (i 1).val < 31
  · rw [if_pos hq]
    simp only [Scalar.select, h.2 hq, if_true]
    pointwise
  · rw [if_neg hq]
    have hn := mt h.1 hq
    simp only [Scalar.select]
    rw [if_neg hn]
    pointwise

theorem middle_at (r : Fin 512) : k0_pay5 (F := Ideal) x2 (ix2 r k) = x2 (ix3 0 r k) := by
  unfold k0_pay5
  pointwise

end rows

/-- The window of rows at a place, the block's number in its batch `q`. -/
def windowVal (q : ℕ) (x1 : Vec Ideal S1x8x1024 .f32) (x2 : Vec Ideal S1x512x1024 .f32) (x3 : Vec Ideal S1x8x1024 .f32) (p : Fin 528) (k : Fin 1024) : EReal :=
  if h : (p : ℕ) < 8 then if 0 < q then x1 (ix3 0 ⟨p, h⟩ k) else 0
  else if h' : (p : ℕ) < 520 then x2 (ix3 0 ⟨(p : ℕ) - 8, by omega⟩ k)
  else if q < 31 then x3 (ix3 0 ⟨(p : ℕ) - 520, by have := p.isLt; omega⟩ k) else 0

/-- The window at a place. -/
theorem window_at (i : grid0.Coords) (x1 : Vec Ideal S1x8x1024 .f32) (x2 : Vec Ideal S1x512x1024 .f32) (x3 : Vec Ideal S1x8x1024 .f32) (p : Fin 528) (k : Fin 1024) :
    window (F := Ideal) i x1 x2 x3 (ix2 p k) = windowVal (i 1).val x1 x2 x3 p k := by
  have hp : (p : ℕ) < 528 := p.isLt
  have hk : (k : ℕ) < 1024 := k.isLt
  unfold window
  refine View.canon_eq_of_allAt (Val := Elt Ideal) _ _ _ ?_ ?_
  · by_cases h : (p : ℕ) < 8
    · refine ⟨_, List.Mem.tail _ (List.Mem.tail _ (List.Mem.head _)), ?_⟩
      refine (Rect.mem_set_unit (inb := inb_S528x1024_S8x1024_0_0)).mpr fun a => ?_
      match a with
      | ⟨0, _⟩ => show 0 ≤ (p : ℕ) ∧ (p : ℕ) < 0 + 8; omega
      | ⟨1, _⟩ => show 0 ≤ (k : ℕ) ∧ (k : ℕ) < 0 + 1024; omega
    · by_cases h' : (p : ℕ) < 520
      · refine ⟨_, List.Mem.tail _ (List.Mem.head _), ?_⟩
        refine (Rect.mem_set_unit (inb := inb_S528x1024_S512x1024_8_0)).mpr fun a => ?_
        match a with
        | ⟨0, _⟩ => show 8 ≤ (p : ℕ) ∧ (p : ℕ) < 8 + 512; omega
        | ⟨1, _⟩ => show 0 ≤ (k : ℕ) ∧ (k : ℕ) < 0 + 1024; omega
      · refine ⟨_, List.Mem.head _, ?_⟩
        refine (Rect.mem_set_unit (inb := inb_S528x1024_S8x1024_520_0)).mpr fun a => ?_
        match a with
        | ⟨0, _⟩ => show 520 ≤ (p : ℕ) ∧ (p : ℕ) < 520 + 8; omega
        | ⟨1, _⟩ => show 0 ≤ (k : ℕ) ∧ (k : ℕ) < 0 + 1024; omega
  · refine View.allAt_cons_unit _ _ _ _ _ (fun x hx => ?_) (View.allAt_cons_unit _ _ _ _ _ (fun x hx => ?_) (View.allAt_cons_unit _ _ _ _ _ (fun x hx => ?_) (View.allAt_nil _ _)))
    · have h0 : (p : ℕ) = 520 + (x 0 : ℕ) := hx 0
      have h1 : (k : ℕ) = 0 + (x 1 : ℕ) := hx 1
      have l0 : (x 0 : ℕ) < 8 := (x 0).isLt
      have hxe : x = ix2 (⟨(p : ℕ) - 520, by omega⟩ : Fin 8) k := by
        funext a
        match a with
        | ⟨0, _⟩ => exact Fin.ext (by show (x 0 : ℕ) = (p : ℕ) - 520; omega)
        | ⟨1, _⟩ => exact Fin.ext (by show (x 1 : ℕ) = (k : ℕ); omega)
      rw [hxe]
      refine (after_at i x3 k _).trans ?_
      unfold windowVal
      rw [dif_neg (by omega), dif_neg (by omega)]
    · have h0 : (p : ℕ) = 8 + (x 0 : ℕ) := hx 0
      have h1 : (k : ℕ) = 0 + (x 1 : ℕ) := hx 1
      have l0 : (x 0 : ℕ) < 512 := (x 0).isLt
      have hxe : x = ix2 (⟨(p : ℕ) - 8, by omega⟩ : Fin 512) k := by
        funext a
        match a with
        | ⟨0, _⟩ => exact Fin.ext (by show (x 0 : ℕ) = (p : ℕ) - 8; omega)
        | ⟨1, _⟩ => exact Fin.ext (by show (x 1 : ℕ) = (k : ℕ); omega)
      rw [hxe]
      refine (middle_at x2 k _).trans ?_
      unfold windowVal
      rw [dif_neg (by omega), dif_pos (by omega)]
    · have h0 : (p : ℕ) = 0 + (x 0 : ℕ) := hx 0
      have h1 : (k : ℕ) = 0 + (x 1 : ℕ) := hx 1
      have l0 : (x 0 : ℕ) < 8 := (x 0).isLt
      have hxe : x = ix2 (⟨(p : ℕ), by omega⟩ : Fin 8) k := by
        funext a
        match a with
        | ⟨0, _⟩ => exact Fin.ext (by show (x 0 : ℕ) = (p : ℕ); omega)
        | ⟨1, _⟩ => exact Fin.ext (by show (x 1 : ℕ) = (k : ℕ); omega)
      rw [hxe]
      refine (before_at i x1 k _).trans ?_
      unfold windowVal
      rw [dif_pos (by omega)]

/-- The gated convolution at a place: three rows of the window by the taps. -/
def gatedVal (w : Fin 528 → Fin 1024 → EReal) (g : EReal) (t0 t1 t2 : EReal) (r : Fin 512) (k : Fin 1024) : EReal :=
  g * (w ⟨(r : ℕ) + 7, by have := r.isLt; omega⟩ k * t0 + w ⟨(r : ℕ) + 8, by have := r.isLt; omega⟩ k * t1 + w ⟨(r : ℕ) + 9, by have := r.isLt; omega⟩ k * t2)

section loads

theorem ld_window (w : Vec Ideal S528x1024 .f32) (o : ℕ) (inb) (x : Fin 256) (p : Fin 528) (k : Fin 1024) (h : (p : ℕ) = o + x) :
    View.ld w (Rect.unit (s := S528x1024) ![o, 0] S256x1024.size inb) (ix2 x k) = w (ix2 p k) :=
  View.ld_unit_apply_of _ _ _ _ _ _ fun a => by
    match a with
    | ⟨0, _⟩ => exact h
    | ⟨1, _⟩ => exact (Nat.zero_add (k : ℕ)).symm

theorem ld_tap (w : Vec Ideal S3x1024 .f32) (o : ℕ) (inb) (j : Fin 3) (k : Fin 1024) (h : (j : ℕ) = o) :
    View.ld w (Rect.unit (s := S3x1024) ![o, 0] S1x1024.size inb) (ix2 0 k) = w (ix2 j k) :=
  View.ld_unit_apply_of _ _ _ _ _ _ fun a => by
    match a with
    | ⟨0, _⟩ => exact h
    | ⟨1, _⟩ => exact (Nat.zero_add (k : ℕ)).symm

theorem ld_gate (w : Vec Ideal S1x512x1024 .f32) (o : ℕ) (inb) (x : Fin 256) (r : Fin 512) (k : Fin 1024) (h : (r : ℕ) = o + x) :
    View.ld w (Rect.unit (s := S1x512x1024) ![0, o, 0] S1x256x1024.size inb) (ix3 0 x k) = w (ix3 0 r k) :=
  View.ld_unit_apply_of _ _ _ _ _ _ fun a => by
    match a with
    | ⟨0, _⟩ => rfl
    | ⟨1, _⟩ => exact h
    | ⟨2, _⟩ => exact (Nat.zero_add (k : ℕ)).symm

theorem ld_rows (w : Vec Ideal S1x512x2048 .f32) (o : ℕ) (inb) (x : Fin 256) (r : Fin 512) (k : Fin 2048) (h : (r : ℕ) = o + x) :
    View.ld w (Rect.unit (s := S1x512x2048) ![0, o, 0] S1x256x2048.size inb) (ix3 0 x k) = w (ix3 0 r k) :=
  View.ld_unit_apply_of _ _ _ _ _ _ fun a => by
    match a with
    | ⟨0, _⟩ => rfl
    | ⟨1, _⟩ => exact h
    | ⟨2, _⟩ => exact (Nat.zero_add (k : ℕ)).symm

theorem ld_mixed (w : Vec Ideal S512x2048 .bf16) (o : ℕ) (inb) (x : Fin 256) (r : Fin 512) (k : Fin 2048) (h : (r : ℕ) = o + x) :
    View.ld w (Rect.unit (s := S512x2048) ![o, 0] S256x2048.size inb) (ix2 x k) = w (ix2 r k) :=
  View.ld_unit_apply_of _ _ _ _ _ _ fun a => by
    match a with
    | ⟨0, _⟩ => exact h
    | ⟨1, _⟩ => exact (Nat.zero_add (k : ℕ)).symm

end loads

section mixed

variable (x0 : Vec Ideal S1x512x1024 .bf16) (w : Vec Ideal S528x1024 .f32) (x4 : Vec Ideal S1x512x1024 .f32) (x5 : Vec Ideal S3x1024 .f32) (r : Fin 512) (k : Fin 1024)

/-- The mixed rows at a place of the first columns. -/
theorem mixed_left : mixed (F := Ideal) x0 w x4 x5 (ix2 r (⟨k, by have := k.isLt; omega⟩ : Fin 2048)) = x0 (ix3 0 r k) := by
  have hr : (r : ℕ) < 512 := r.isLt
  have hk : (k : ℕ) < 1024 := k.isLt
  unfold mixed
  canon_tiles x h
  all_goals first
    | (exfalso; change (k : ℕ) = _ at h1; omega)
    | skip
  · change (r : ℕ) = _ at h0
    change (k : ℕ) = _ at h1
    have hx : x = ix2 (⟨(x 0 : ℕ), x0_lt⟩ : Fin 256) k := by
      funext a
      match a with
      | ⟨0, _⟩ => rfl
      | ⟨1, _⟩ => exact Fin.ext h1.symm
    rw [hx]
    refine (other_second _ _ _).trans (View.ld_unit_apply_of _ _ _ _ _ _ fun a => ?_)
    match a with
    | ⟨0, _⟩ => rfl
    | ⟨1, _⟩ => exact h0
    | ⟨2, _⟩ => show (k : ℕ) = 0 + (k : ℕ); omega
  · change (r : ℕ) = _ at h0
    change (k : ℕ) = _ at h1
    have hx : x = ix2 (⟨(x 0 : ℕ), x0_lt⟩ : Fin 256) k := by
      funext a
      match a with
      | ⟨0, _⟩ => rfl
      | ⟨1, _⟩ => exact Fin.ext h1.symm
    rw [hx]
    refine (other_first _ _ _).trans (View.ld_unit_apply_of _ _ _ _ _ _ fun a => ?_)
    match a with
    | ⟨0, _⟩ => rfl
    | ⟨1, _⟩ => show (r : ℕ) = 0 + (x 0 : ℕ); omega
    | ⟨2, _⟩ => show (k : ℕ) = 0 + (k : ℕ); omega

/-- And of the last. -/
theorem mixed_right : mixed (F := Ideal) x0 w x4 x5 (ix2 r (⟨1024 + (k : ℕ), by have := k.isLt; omega⟩ : Fin 2048)) =
    gatedVal (fun p j => w (ix2 p j)) (x4 (ix3 0 r k)) (x5 (ix2 0 k)) (x5 (ix2 1 k)) (x5 (ix2 2 k)) r k := by
  have hr : (r : ℕ) < 512 := r.isLt
  have hk : (k : ℕ) < 1024 := k.isLt
  unfold mixed
  canon_tiles x h
  all_goals first
    | (exfalso; change 1024 + (k : ℕ) = _ at h1; omega)
    | skip
  all_goals
    change (r : ℕ) = _ at h0
    change 1024 + (k : ℕ) = _ at h1
    have hx : x = ix2 (⟨(x 0 : ℕ), x0_lt⟩ : Fin 256) k := by
      funext a
      match a with
      | ⟨0, _⟩ => rfl
      | ⟨1, _⟩ => exact Fin.ext (by show (x 1 : ℕ) = (k : ℕ); omega)
    rw [hx]
    first
      | refine (gated_second _ _ _ _ _ _ _ _ _).trans ?_
      | refine (gated_first _ _ _ _ _ _ _ _ _).trans ?_
    unfold gatedVal
    exact congrArg₂ (· * ·) (ld_gate x4 _ _ ⟨(x 0 : ℕ), x0_lt⟩ r k (by show (r : ℕ) = _ + (x 0 : ℕ); omega)) (congrArg₂ (· + ·) (congrArg₂ (· + ·)
      (congrArg₂ (· * ·) (ld_window w _ _ ⟨(x 0 : ℕ), x0_lt⟩ _ k (by show (r : ℕ) + 7 = _ + (x 0 : ℕ); omega)) (ld_tap x5 _ _ 0 k rfl))
      (congrArg₂ (· * ·) (ld_window w _ _ ⟨(x 0 : ℕ), x0_lt⟩ _ k (by show (r : ℕ) + 8 = _ + (x 0 : ℕ); omega)) (ld_tap x5 _ _ 1 k rfl)))
      (congrArg₂ (· * ·) (ld_window w _ _ ⟨(x 0 : ℕ), x0_lt⟩ _ k (by show (r : ℕ) + 9 = _ + (x 0 : ℕ); omega)) (ld_tap x5 _ _ 2 k rfl)))

end mixed

section blocks

variable (u : Vec Ideal S512x2048 .bf16) (x6 : Vec Ideal S2048x2048 .bf16) (x7 : Vec Ideal S1x512x2048 .f32) (x8 : Vec Ideal S1x1x2048 .f32) (x9 : Vec Ideal S1x2048 .f32)
  (x10 x11 : Vec Ideal S1x1x2048 .f32) (y : S1x512x2048.Idx)

/-- A value that depends on one row of two blocks, with both rows and the column replaced by equal ones. -/
theorem swap_rows (G : (Fin 2048 → EReal) → (Fin 2048 → EReal) → Fin 2048 → EReal) {ra ra' : Fin 2048 → EReal} {rb rb' : Fin 2048 → EReal} {e e' : Fin 2048}
    (ha : ra = ra') (hb : rb = rb') (he : e = e') : G ra rb e = G ra' rb' e' := by
  rw [ha, hb, he]

/-- The block of the residual stream that one grid point stores, at an index. -/
theorem stream_block : streamBlk (F := Ideal) u x6 x7 x8 y =
    rowOf (fun k => x7 (ix3 0 (y 1) k)) (fun k => x8 (ix3 0 0 k)) (fun k => u (ix2 (y 1) k)) (fun k j => x6 (ix2 k j)) (y 2) := by
  unfold streamBlk
  canon_tiles x h
  all_goals
    have hx : x = ix3 (0 : Fin 1) (⟨(x 1 : ℕ), x1_lt⟩ : Fin 256) (⟨(x 2 : ℕ), x2_lt⟩ : Fin 2048) := by
      funext a
      match a with
      | ⟨0, _⟩ => exact Fin.ext (by show (x 0 : ℕ) = 0; omega)
      | ⟨1, _⟩ => rfl
      | ⟨2, _⟩ => rfl
    rw [hx]
    first
      | refine (stream_second _ _ _ _ _ _).trans ?_
      | refine (stream_first _ _ _ _ _ _).trans ?_
    exact swap_rows (fun ra rb => rowOf ra (fun k => x8 (ix3 0 0 k)) rb (fun k j => x6 (ix2 k j)))
      (funext fun k => ld_rows x7 _ _ ⟨(x 1 : ℕ), x1_lt⟩ (y 1) k (by show (y 1 : ℕ) = _ + (x 1 : ℕ); omega)) (funext fun k => ld_mixed u _ _ ⟨(x 1 : ℕ), x1_lt⟩ (y 1) k (by show (y 1 : ℕ) = _ + (x 1 : ℕ); omega)) (Fin.ext h2.symm)

/-- The block of the modulated norm. -/
theorem norm_block : normBlk (F := Ideal) u x6 x7 x8 x9 x10 x11 y =
    modulated (rowOf (fun k => x7 (ix3 0 (y 1) k)) (fun k => x8 (ix3 0 0 k)) (fun k => u (ix2 (y 1) k)) (fun k j => x6 (ix2 k j)))
      (fun k => x9 (ix2 0 k)) (fun k => x10 (ix3 0 0 k)) (fun k => x11 (ix3 0 0 k)) (y 2) := by
  unfold normBlk
  canon_tiles x h
  all_goals
    have hx : x = ix3 (0 : Fin 1) (⟨(x 1 : ℕ), x1_lt⟩ : Fin 256) (⟨(x 2 : ℕ), x2_lt⟩ : Fin 2048) := by
      funext a
      match a with
      | ⟨0, _⟩ => exact Fin.ext (by show (x 0 : ℕ) = 0; omega)
      | ⟨1, _⟩ => rfl
      | ⟨2, _⟩ => rfl
    rw [hx]
    first
      | refine (norm_second _ _ _ _ _ _ _ _ _).trans ?_
      | refine (norm_first _ _ _ _ _ _ _ _ _).trans ?_
    exact swap_rows (fun ra rb => modulated (rowOf ra (fun k => x8 (ix3 0 0 k)) rb (fun k j => x6 (ix2 k j))) (fun k => x9 (ix2 0 k)) (fun k => x10 (ix3 0 0 k)) (fun k => x11 (ix3 0 0 k)))
      (funext fun k => ld_rows x7 _ _ ⟨(x 1 : ℕ), x1_lt⟩ (y 1) k (by show (y 1 : ℕ) = _ + (x 1 : ℕ); omega)) (funext fun k => ld_mixed u _ _ ⟨(x 1 : ℕ), x1_lt⟩ (y 1) k (by show (y 1 : ℕ) = _ + (x 1 : ℕ); omega)) (Fin.ext h2.symm)

end blocks

end Cert.OddIdeal.Conv
-- ==== Proof.Odd.Array.lean ====
module

public import proofs.«01_k».proof.Proof.Odd.Block

@[expose] public section

set_option maxRecDepth 16384
set_option maxHeartbeats 2000000

noncomputable section

namespace Cert.OddIdeal.Conv

open Cert.OddIdeal Cert.OddIdeal.Gen
open Cert.DownIdeal.Ffn (normed modulated hz2 hz3)
open Idealize.ShloMosaic Idealize.ShloMosaic.TcCoe Idealize.ShloMosaic.Tactic Idealize.SL.Sem

/-- The convolution's input at a place. -/
def prodAt (u v : S2x16384x1024.Idx → EReal) (b : Fin 2) (n : Fin 16384) (k : Fin 1024) : EReal :=
  u (ix3 b n k) * v (ix3 b n k)

/-- The same with a row of zeros on either side. -/
def padded (u v : S2x16384x1024.Idx → EReal) (b : Fin 2) (p : ℕ) (k : Fin 1024) : EReal :=
  if h : 1 ≤ p ∧ p < 16385 then prodAt u v b ⟨p - 1, by omega⟩ k else 0

/-- The gated convolution at a place. -/
def gatedAt (bg u v : S2x16384x1024.Idx → EReal) (cw : S1x3x1024.Idx → EReal) (b : Fin 2) (n : Fin 16384) (k : Fin 1024) : EReal :=
  bg (ix3 b n k) * (padded u v b n k * cw (ix3 0 0 k) + padded u v b ((n : ℕ) + 1) k * cw (ix3 0 1 k) + padded u v b ((n : ℕ) + 2) k * cw (ix3 0 2 k))

/-- A mixed row: the other mixer's, then the gated convolution. -/
def mixRow (f bg u v : S2x16384x1024.Idx → EReal) (cw : S1x3x1024.Idx → EReal) (b : Fin 2) (n : Fin 16384) (k : Fin 2048) : EReal :=
  if h : (k : ℕ) < 1024 then f (ix3 b n ⟨k, h⟩) else gatedAt bg u v cw b n ⟨(k : ℕ) - 1024, by have := k.isLt; omega⟩

variable (m : (ℓ : Loc nD τ sig) → Buf (Elt Ideal) ℓ)

/-- Where each window's block lies: the points run over the row blocks of one batch, then of the next. -/
theorem idx : ∀ t : Fin grid0.N,
    win0_0.index t = ![t.val / 32, t.val % 32, 0] ∧
    win0_1.index t = ![t.val / 32, t.val % 32 * 64 - 1, 0] ∧
    win0_2.index t = ![t.val / 32, t.val % 32, 0] ∧
    win0_3.index t = ![t.val / 32, min (t.val % 32 * 64 + 64) 2047, 0] ∧
    win0_4.index t = ![t.val / 32, t.val % 32, 0] ∧
    win0_5.index t = ![0, 0] ∧
    win0_6.index t = ![0, 0] ∧
    win0_7.index t = ![t.val / 32, t.val % 32, 0] ∧
    win0_8.index t = ![t.val / 32, 0, 0] ∧
    win0_9.index t = ![0, 0] ∧
    win0_10.index t = ![t.val / 32, 0, 0] ∧
    win0_11.index t = ![t.val / 32, 0, 0] ∧
    win0_12.index t = ![t.val / 32, t.val % 32, 0] ∧
    win0_13.index t = ![t.val / 32, t.val % 32, 0] := by
  decide +kernel

/-- A point's number in its batch. -/
theorem place : ∀ t : Fin grid0.N, ((grid0.coords t) 1).val = t.val % 32 := by
  decide +kernel

section blocks

variable (c : Dev nD) (t : Fin cfg0.N) (b : Fin 2) (hb : (b : ℕ) = t.val / 32)

include hb

/-- The other mixer's rows. -/
theorem blk0 (r : Fin 512) (k : Fin 1024) (n : Fin 16384) (hn : (n : ℕ) = t.val % 32 * 512 + r) : iblk m c 0 t (ix3 0 r k) = m ((c : Thread nD τ).loc main_arg0) (ix3 b n k) := by
  have hi := (idx t).1
  have he : (win0_0.blk t).view.emb (ix3 0 r k) = ix3 b n k := by
    blk_ext [hi]
  show V m c main_v0 ((win0_0.blk t).view.emb (ix3 0 r k)) = _
  rw [he]
  entry_read
  pointwise

/-- The rows before the block's. -/
theorem blk1 (r : Fin 8) (k : Fin 1024) (n : Fin 16384) (hn : (n : ℕ) = (t.val % 32 * 64 - 1) * 8 + r) : iblk m c 1 t (ix3 0 r k) = prodAt (m ((c : Thread nD τ).loc main_arg2)) (m ((c : Thread nD τ).loc main_arg3)) b n k := by
  have hi := (idx t).2.1
  have he : (win0_1.blk t).view.emb (ix3 0 r k) = ix3 b n k := by
    blk_ext [hi]
  show V m c main_v1 ((win0_1.blk t).view.emb (ix3 0 r k)) = _
  rw [he]
  unfold prodAt
  entry_read
  pointwise

/-- The block's own rows. -/
theorem blk2 (r : Fin 512) (k : Fin 1024) (n : Fin 16384) (hn : (n : ℕ) = t.val % 32 * 512 + r) : iblk m c 2 t (ix3 0 r k) = prodAt (m ((c : Thread nD τ).loc main_arg2)) (m ((c : Thread nD τ).loc main_arg3)) b n k := by
  have hi := (idx t).2.2.1
  have he : (win0_2.blk t).view.emb (ix3 0 r k) = ix3 b n k := by
    blk_ext [hi]
  show V m c main_v1 ((win0_2.blk t).view.emb (ix3 0 r k)) = _
  rw [he]
  unfold prodAt
  entry_read
  pointwise

/-- The rows after them. -/
theorem blk3 (r : Fin 8) (k : Fin 1024) (n : Fin 16384) (hn : (n : ℕ) = (min (t.val % 32 * 64 + 64) 2047) * 8 + r) : iblk m c 3 t (ix3 0 r k) = prodAt (m ((c : Thread nD τ).loc main_arg2)) (m ((c : Thread nD τ).loc main_arg3)) b n k := by
  have hi := (idx t).2.2.2.1
  have he : (win0_3.blk t).view.emb (ix3 0 r k) = ix3 b n k := by
    blk_ext [hi]
  show V m c main_v1 ((win0_3.blk t).view.emb (ix3 0 r k)) = _
  rw [he]
  unfold prodAt
  entry_read
  pointwise

/-- The gates of the convolution. -/
theorem blk4 (r : Fin 512) (k : Fin 1024) (n : Fin 16384) (hn : (n : ℕ) = t.val % 32 * 512 + r) : iblk m c 4 t (ix3 0 r k) = m ((c : Thread nD τ).loc main_arg1) (ix3 b n k) := by
  have hi := (idx t).2.2.2.2.1
  have he : (win0_4.blk t).view.emb (ix3 0 r k) = ix3 b n k := by
    blk_ext [hi]
  show V m c main_arg1 ((win0_4.blk t).view.emb (ix3 0 r k)) = _
  rw [he]
  exact congrFun (V_main_arg1 m c) _

omit hb in
/-- The taps. -/
theorem blk5 (j : Fin 3) (k : Fin 1024) : iblk m c 5 t (ix2 j k) = m ((c : Thread nD τ).loc main_arg4) (ix3 0 j k) := by
  have hi := (idx t).2.2.2.2.2.1
  have he : (win0_5.blk t).view.emb (ix2 j k) = ix2 j k := by
    blk_ext [hi]
  show V m c main_v2 ((win0_5.blk t).view.emb (ix2 j k)) = _
  rw [he]
  entry_read
  pointwise

omit hb in
/-- The weights. -/
theorem blk6 (k : Fin 2048) (e : Fin 2048) : iblk m c 6 t (ix2 k e) = m ((c : Thread nD τ).loc main_arg5) (ix3 0 k e) := by
  have hi := (idx t).2.2.2.2.2.2.1
  have he : (win0_6.blk t).view.emb (ix2 k e) = ix2 k e := by
    blk_ext [hi]
  show V m c main_v4 ((win0_6.blk t).view.emb (ix2 k e)) = _
  rw [he]
  entry_read
  pointwise

/-- The block of the residual stream. -/
theorem blk7 (r : Fin 512) (k : Fin 2048) (n : Fin 16384) (hn : (n : ℕ) = t.val % 32 * 512 + r) : iblk m c 7 t (ix3 0 r k) = m ((c : Thread nD τ).loc main_arg6) (ix3 b n k) := by
  have hi := (idx t).2.2.2.2.2.2.2.1
  have he : (win0_7.blk t).view.emb (ix3 0 r k) = ix3 b n k := by
    blk_ext [hi]
  show V m c main_arg6 ((win0_7.blk t).view.emb (ix3 0 r k)) = _
  rw [he]
  exact congrFun (V_main_arg6 m c) _

/-- The gate of the batch. -/
theorem blk8 (k : Fin 2048) : iblk m c 8 t (ix3 0 0 k) = m ((c : Thread nD τ).loc main_arg7) (ix3 b 0 k) := by
  have hi := (idx t).2.2.2.2.2.2.2.2.1
  have he : (win0_8.blk t).view.emb (ix3 0 0 k) = ix3 b 0 k := by
    blk_ext [hi]
  show V m c main_arg7 ((win0_8.blk t).view.emb (ix3 0 0 k)) = _
  rw [he]
  exact congrFun (V_main_arg7 m c) _

omit hb in
/-- The gain of the last layer's second norm. -/
theorem blk9 (k : Fin 2048) : iblk m c 9 t (ix2 0 k) = m ((c : Thread nD τ).loc main_arg8) (ix3 1 1 k) := by
  have hi := (idx t).2.2.2.2.2.2.2.2.2.1
  have he : (win0_9.blk t).view.emb (ix2 0 k) = ix2 0 k := by
    blk_ext [hi]
  show V m c main_v7 ((win0_9.blk t).view.emb (ix2 0 k)) = _
  rw [he]
  entry_read
  pointwise

/-- The shift of the batch. -/
theorem blk10 (k : Fin 2048) : iblk m c 10 t (ix3 0 0 k) = m ((c : Thread nD τ).loc main_arg9) (ix3 b 0 k) := by
  have hi := (idx t).2.2.2.2.2.2.2.2.2.2.1
  have he : (win0_10.blk t).view.emb (ix3 0 0 k) = ix3 b 0 k := by
    blk_ext [hi]
  show V m c main_arg9 ((win0_10.blk t).view.emb (ix3 0 0 k)) = _
  rw [he]
  exact congrFun (V_main_arg9 m c) _

/-- The scale of the batch. -/
theorem blk11 (k : Fin 2048) : iblk m c 11 t (ix3 0 0 k) = m ((c : Thread nD τ).loc main_arg10) (ix3 b 0 k) := by
  have hi := (idx t).2.2.2.2.2.2.2.2.2.2.2.1
  have he : (win0_11.blk t).view.emb (ix3 0 0 k) = ix3 b 0 k := by
    blk_ext [hi]
  show V m c main_arg10 ((win0_11.blk t).view.emb (ix3 0 0 k)) = _
  rw [he]
  exact congrFun (V_main_arg10 m c) _

end blocks

/-- The window of rows at a point is the padded input. -/
theorem window_point (c : Dev nD) (t : Fin cfg0.N) (b : Fin 2) (hb : (b : ℕ) = t.val / 32) (p : Fin 528) (k : Fin 1024) (P : ℕ)
    (hP : P + 7 = t.val % 32 * 512 + p) (h7 : 7 ≤ (p : ℕ)) (h8 : (p : ℕ) < 521) :
    windowVal ((grid0.coords t) 1).val (iblk m c 1 t) (iblk m c 2 t) (iblk m c 3 t) p k = padded (m ((c : Thread nD τ).loc main_arg2)) (m ((c : Thread nD τ).loc main_arg3)) b P k := by
  rw [place]
  have ht : t.val % 32 < 32 := Nat.mod_lt _ (by decide)
  unfold windowVal padded
  by_cases hp : (p : ℕ) < 8
  · rw [dif_pos hp]
    by_cases hq : 0 < t.val % 32
    · rw [if_pos hq, dif_pos ⟨by omega, by omega⟩]
      exact blk1 m c t b hb _ k _ (by show P - 1 = (t.val % 32 * 64 - 1) * 8 + (p : ℕ); omega)
    · rw [if_neg hq, dif_neg (by omega)]
  · rw [dif_neg hp]
    by_cases hp' : (p : ℕ) < 520
    · rw [dif_pos hp', dif_pos ⟨by omega, by omega⟩]
      exact blk2 m c t b hb _ k _ (by show P - 1 = t.val % 32 * 512 + ((p : ℕ) - 8); omega)
    · rw [dif_neg hp']
      by_cases hq : t.val % 32 < 31
      · rw [if_pos hq, dif_pos ⟨by omega, by omega⟩]
        exact blk3 m c t b hb _ k _ (by show P - 1 = (min (t.val % 32 * 64 + 64) 2047) * 8 + ((p : ℕ) - 520); omega)
      · rw [if_neg hq, dif_neg (by omega)]

/-- The mixed rows at a point. -/
theorem mix_point (c : Dev nD) (t : Fin cfg0.N) (r : Fin 512) (b : Fin 2) (n : Fin 16384) (hb : (b : ℕ) = t.val / 32) (hn : (n : ℕ) = t.val % 32 * 512 + r) (k : Fin 2048) :
    mixed (F := Ideal) (iblk m c 0 t) (window (grid0.coords t) (iblk m c 1 t) (iblk m c 2 t) (iblk m c 3 t)) (iblk m c 4 t) (iblk m c 5 t) (ix2 r k) =
    mixRow (m ((c : Thread nD τ).loc main_arg0)) (m ((c : Thread nD τ).loc main_arg1)) (m ((c : Thread nD τ).loc main_arg2)) (m ((c : Thread nD τ).loc main_arg3)) (m ((c : Thread nD τ).loc main_arg4)) b n k := by
  have hr : (r : ℕ) < 512 := r.isLt
  unfold mixRow
  by_cases hk : (k : ℕ) < 1024
  · rw [dif_pos hk]
    exact (mixed_left _ _ _ _ r ⟨k, hk⟩).trans (blk0 m c t b hb r ⟨k, hk⟩ n hn)
  · rw [dif_neg hk]
    have hlt : (k : ℕ) - 1024 < 1024 := by have := k.isLt; omega
    have hke : k = (⟨1024 + ((⟨(k : ℕ) - 1024, hlt⟩ : Fin 1024) : ℕ), by show 1024 + ((k : ℕ) - 1024) < 2048; omega⟩ : Fin 2048) := Fin.ext (by show (k : ℕ) = 1024 + ((k : ℕ) - 1024); omega)
    refine (congrArg (fun j => mixed (F := Ideal) (iblk m c 0 t) (window (grid0.coords t) (iblk m c 1 t) (iblk m c 2 t) (iblk m c 3 t)) (iblk m c 4 t) (iblk m c 5 t) (ix2 r j)) hke).trans ?_
    refine (mixed_right _ _ _ _ r ⟨(k : ℕ) - 1024, hlt⟩).trans ?_
    unfold gatedVal gatedAt
    have hw : ∀ (p : Fin 528) (P : ℕ), P + 7 = t.val % 32 * 512 + p → 7 ≤ (p : ℕ) → (p : ℕ) < 521 →
        window (F := Ideal) (grid0.coords t) (iblk m c 1 t) (iblk m c 2 t) (iblk m c 3 t) (ix2 p ⟨(k : ℕ) - 1024, hlt⟩) = padded (m ((c : Thread nD τ).loc main_arg2)) (m ((c : Thread nD τ).loc main_arg3)) b P ⟨(k : ℕ) - 1024, hlt⟩ :=
      fun p P h1 h2 h3 => (window_at _ _ _ _ p _).trans (window_point m c t b hb p _ P h1 h2 h3)
    exact congrArg₂ (· * ·) (blk4 m c t b hb r _ n hn) (congrArg₂ (· + ·) (congrArg₂ (· + ·)
      (congrArg₂ (· * ·) (hw _ _ (by show (n : ℕ) + 7 = t.val % 32 * 512 + ((r : ℕ) + 7); omega) (by show 7 ≤ (r : ℕ) + 7; omega) (by show (r : ℕ) + 7 < 521; omega)) (blk5 m c t 0 _))
      (congrArg₂ (· * ·) (hw _ _ (by show (n : ℕ) + 1 + 7 = t.val % 32 * 512 + ((r : ℕ) + 8); omega) (by show 7 ≤ (r : ℕ) + 8; omega) (by show (r : ℕ) + 8 < 521; omega)) (blk5 m c t 1 _)))
      (congrArg₂ (· * ·) (hw _ _ (by show (n : ℕ) + 2 + 7 = t.val % 32 * 512 + ((r : ℕ) + 9); omega) (by show 7 ≤ (r : ℕ) + 9; omega) (by show (r : ℕ) + 9 < 521; omega)) (blk5 m c t 2 _)))

/-- A row of the residual stream that the program leaves. -/
def streamRow (f bg u v : S2x16384x1024.Idx → EReal) (cw : S1x3x1024.Idx → EReal) (w : S1x2048x2048.Idx → EReal) (x : S2x16384x2048.Idx → EReal) (gt : S2x1x2048.Idx → EReal)
    (b : Fin 2) (n : Fin 16384) : Fin 2048 → EReal :=
  rowOf (fun k => x (ix3 b n k)) (fun k => gt (ix3 b 0 k)) (mixRow f bg u v cw b n) (fun k j => w (ix3 0 k j))

/-- A row of the modulated norm that it leaves. -/
def normRow (f bg u v : S2x16384x1024.Idx → EReal) (cw : S1x3x1024.Idx → EReal) (w : S1x2048x2048.Idx → EReal) (x : S2x16384x2048.Idx → EReal) (gt : S2x1x2048.Idx → EReal) (g : S2x2x2048.Idx → EReal)
    (sh sc : S2x1x2048.Idx → EReal) (b : Fin 2) (n : Fin 16384) : Fin 2048 → EReal :=
  modulated (streamRow f bg u v cw w x gt b n) (fun k => g (ix3 1 1 k)) (fun k => sh (ix3 b 0 k)) (fun k => sc (ix3 b 0 k))

/-- The first result, over the whole output. -/
def streamArr (f bg u v : S2x16384x1024.Idx → EReal) (cw : S1x3x1024.Idx → EReal) (w : S1x2048x2048.Idx → EReal) (x : S2x16384x2048.Idx → EReal) (gt : S2x1x2048.Idx → EReal) :
    S2x16384x2048.Idx → EReal := fun y =>
  streamRow f bg u v cw w x gt (y 0) (y 1) (y 2)

/-- The second. -/
def normArr (f bg u v : S2x16384x1024.Idx → EReal) (cw : S1x3x1024.Idx → EReal) (w : S1x2048x2048.Idx → EReal) (x : S2x16384x2048.Idx → EReal) (gt : S2x1x2048.Idx → EReal) (g : S2x2x2048.Idx → EReal)
    (sh sc : S2x1x2048.Idx → EReal) : S2x16384x2048.Idx → EReal := fun y =>
  normRow f bg u v cw w x gt g sh sc (y 0) (y 1) (y 2)

/-- What one point computes for the stream, at row `r` of its block. -/
theorem stream_point (c : Dev nD) (t : Fin cfg0.N) (r : Fin 512) (b : Fin 2) (n : Fin 16384) (hb : (b : ℕ) = t.val / 32) (hn : (n : ℕ) = t.val % 32 * 512 + r) :
    rowOf (fun k => iblk m c 7 t (ix3 0 r k)) (fun k => iblk m c 8 t (ix3 0 0 k))
      (fun k => mixed (F := Ideal) (iblk m c 0 t) (window (grid0.coords t) (iblk m c 1 t) (iblk m c 2 t) (iblk m c 3 t)) (iblk m c 4 t) (iblk m c 5 t) (ix2 r k))
      (fun k j => iblk m c 6 t (ix2 k j)) =
    streamRow (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
      (m ((c : Thread nD τ).loc main_arg7)) b n := by
  have h0 := funext fun k => mix_point m c t r b n hb hn k
  have h1 : (fun k j => iblk m c 6 t (ix2 k j)) = fun k j => m ((c : Thread nD τ).loc main_arg5) (ix3 0 k j) := funext fun k => funext fun j => blk6 m c t k j
  have h2 : (fun k => iblk m c 7 t (ix3 0 r k)) = fun k => m ((c : Thread nD τ).loc main_arg6) (ix3 b n k) := funext fun k => blk7 m c t b hb r k n hn
  have h3 : (fun k => iblk m c 8 t (ix3 0 0 k)) = fun k => m ((c : Thread nD τ).loc main_arg7) (ix3 b 0 k) := funext fun k => blk8 m c t b hb k
  exact (congrArg (fun f => rowOf f _ _ _) h2).trans ((congrArg (fun f => rowOf _ f _ _) h3).trans ((congrArg (fun f => rowOf _ _ f _) h0).trans (congrArg (fun f => rowOf _ _ _ f) h1)))

/-- And for the norm. -/
theorem norm_point (c : Dev nD) (t : Fin cfg0.N) (r : Fin 512) (b : Fin 2) (n : Fin 16384) (hb : (b : ℕ) = t.val / 32) (hn : (n : ℕ) = t.val % 32 * 512 + r) :
    modulated (rowOf (fun k => iblk m c 7 t (ix3 0 r k)) (fun k => iblk m c 8 t (ix3 0 0 k))
      (fun k => mixed (F := Ideal) (iblk m c 0 t) (window (grid0.coords t) (iblk m c 1 t) (iblk m c 2 t) (iblk m c 3 t)) (iblk m c 4 t) (iblk m c 5 t) (ix2 r k))
      (fun k j => iblk m c 6 t (ix2 k j)))
      (fun k => iblk m c 9 t (ix2 0 k)) (fun k => iblk m c 10 t (ix3 0 0 k)) (fun k => iblk m c 11 t (ix3 0 0 k)) =
    normRow (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
      (m ((c : Thread nD τ).loc main_arg7)) (m ((c : Thread nD τ).loc main_arg8)) (m ((c : Thread nD τ).loc main_arg9)) (m ((c : Thread nD τ).loc main_arg10)) b n := by
  have h4 : (fun k => iblk m c 9 t (ix2 0 k)) = fun k => m ((c : Thread nD τ).loc main_arg8) (ix3 1 1 k) := funext fun k => blk9 m c t k
  have h5 : (fun k => iblk m c 10 t (ix3 0 0 k)) = fun k => m ((c : Thread nD τ).loc main_arg9) (ix3 b 0 k) := funext fun k => blk10 m c t b hb k
  have h6 : (fun k => iblk m c 11 t (ix3 0 0 k)) = fun k => m ((c : Thread nD τ).loc main_arg10) (ix3 b 0 k) := funext fun k => blk11 m c t b hb k
  exact (congrArg (fun f => modulated f _ _ _) (stream_point m c t r b n hb hn)).trans ((congrArg (fun f => modulated _ f _ _) h4).trans
    ((congrArg (fun f => modulated _ _ f _) h5).trans (congrArg (fun f => modulated _ _ _ f) h6)))

/-- The stream after the run. -/
theorem stream_eq (c : Dev nD) : (dats m 0 c).arrAt 12 cfg0.N =
    streamArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (dats m 0 c).arrAt_eq_of_covers 12 _ (by decide +kernel) fun t hf y => ?_
  blk_simp
  rw [after0_12]
  have hi := (idx t).2.2.2.2.2.2.2.2.2.2.2.2.1
  have y0 : (y 0 : ℕ) < 1 := (y 0).isLt
  have y1 : (y 1 : ℕ) < 512 := (y 1).isLt
  have y2 : (y 2 : ℕ) < 2048 := (y 2).isLt
  have e0 : ((win0_12.blk t).view.emb y 0 : ℕ) = t.val / 32 := by
    blk_simp [hi]
  have e1 : ((win0_12.blk t).view.emb y 1 : ℕ) = t.val % 32 * 512 + (y 1 : ℕ) := by
    blk_simp [hi]
  have e2 : ((win0_12.blk t).view.emb y 2 : ℕ) = (y 2 : ℕ) := by
    blk_simp [hi]
  unfold streamArr
  generalize (win0_12.blk t).view.emb y = z at e0 e1 e2
  have hz : y 2 = z 2 := Fin.ext e2.symm
  unfold outsAt0
  dsimp only
  rw [stream_term]
  refine (stream_block _ _ _ _ y).trans ?_
  exact (congrFun (stream_point m c t (y 1) (z 0) (z 1) e0 e1) (y 2)).trans (congrArg (streamRow _ _ _ _ _ _ _ _ (z 0) (z 1)) hz)

/-- The norm after the run. -/
theorem norm_eq (c : Dev nD) : (dats m 0 c).arrAt 13 cfg0.N =
    normArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  refine (dats m 0 c).arrAt_eq_of_covers 13 _ (by decide +kernel) fun t hf y => ?_
  blk_simp
  rw [after0_13]
  have hi := (idx t).2.2.2.2.2.2.2.2.2.2.2.2.2
  have y0 : (y 0 : ℕ) < 1 := (y 0).isLt
  have y1 : (y 1 : ℕ) < 512 := (y 1).isLt
  have y2 : (y 2 : ℕ) < 2048 := (y 2).isLt
  have e0 : ((win0_13.blk t).view.emb y 0 : ℕ) = t.val / 32 := by
    blk_simp [hi]
  have e1 : ((win0_13.blk t).view.emb y 1 : ℕ) = t.val % 32 * 512 + (y 1 : ℕ) := by
    blk_simp [hi]
  have e2 : ((win0_13.blk t).view.emb y 2 : ℕ) = (y 2 : ℕ) := by
    blk_simp [hi]
  unfold normArr
  generalize (win0_13.blk t).view.emb y = z at e0 e1 e2
  have hz : y 2 = z 2 := Fin.ext e2.symm
  unfold outsAt0
  dsimp only
  rw [norm_term]
  refine (norm_block _ _ _ _ _ _ _ y).trans ?_
  exact (congrFun (norm_point m c t (y 1) (z 0) (z 1) e0 e1) (y 2)).trans (congrArg (normRow _ _ _ _ _ _ _ _ _ _ _ (z 0) (z 1)) hz)

end Cert.OddIdeal.Conv
-- ==== Proof.Odd.Equation.lean ====
module

public import proofs.«01_k».proof.Proof.Odd.Array
public import proofs.«01_k».proof.Proof.Down.Equation
public import proofs.«01_k».proof.Proof.Up.Equation
public import proofs.«01_k».proof.Proof.Gen.OddReferenceIdeal.Read
public import Idealize.ShloMosaic.Lib.KernelVsHost

@[expose] public section

set_option maxRecDepth 16384
set_option maxHeartbeats 2000000

noncomputable section

namespace Cert.OddEq

open Cert.OddReferenceIdeal Cert.OddReferenceIdeal.Gen Cert.OddReferenceIdeal.Read Cert.OddIdeal.Conv
open Cert.DownIdeal.Ffn (normed modulated)
open Idealize.ShloMosaic Idealize.ShloMosaic.TcCoe Idealize.ShloMosaic.Tactic Idealize.SL.Sem

variable (f bg u v : S2x16384x1024.Idx → EReal) (cw : S1x3x1024.Idx → EReal) (w : S1x2048x2048.Idx → EReal) (x : S2x16384x2048.Idx → EReal) (gt : S2x1x2048.Idx → EReal)
  (g : S2x2x2048.Idx → EReal) (sh sc : S2x1x2048.Idx → EReal)

/-- The padded input of the convolution. -/
theorem pad_at (b : Fin 2) (p : Fin 16386) (k : Fin 1024) : val_main_v1 (F := Ideal) u v (ix3 b p k) = padded u v b p k := by
  have hp : (p : ℕ) < 16386 := p.isLt
  unfold val_main_v1 padded
  by_cases h : 1 ≤ (p : ℕ) ∧ (p : ℕ) < 16385
  · rw [dif_pos h]
    refine (pad_apply_of_inside _ _ _ _ _ _ _ (ix3 b p k) (ix3 b (⟨(p : ℕ) - 1, by omega⟩ : Fin 16384) k) fun a => ?_).trans ?_
    · match a with
      | ⟨0, _⟩ => show (b : ℕ) = 0 + (b : ℕ) * (0 + 1); omega
      | ⟨1, _⟩ => show (p : ℕ) = 1 + ((p : ℕ) - 1) * (0 + 1); omega
      | ⟨2, _⟩ => show (k : ℕ) = 0 + (k : ℕ) * (0 + 1); omega
    · rfl
  · rw [dif_neg h]
    refine (pad_apply_of_not_inside _ _ _ _ _ _ _ (ix3 b p k) 1 fun hin => h ?_).trans ?_
    · have h1 : 1 ≤ (p : ℕ) := hin.1
      have h2 : ((p : ℕ) - 1) / (0 + 1) < 16384 := hin.2.2
      exact ⟨h1, by omega⟩
    · rw [val_main_call0_v0_apply, val_main_c_apply]
      show (((0#32 : BitVec 32).toInt : ℝ) : EReal) = 0
      simp

/-- The first tap, over all rows. -/
theorem tap0_at (b : Fin 2) (n : Fin 16384) (k : Fin 1024) : val_main_v6 (F := Ideal) cw (ix3 b n k) = cw (ix3 0 0 k) := by
  rw [val_main_v6_apply, val_main_v5_apply, val_main_v4_apply, val_main_v3_apply]
  have hk : (k : ℕ) < 1024 := k.isLt
  refine congrArg cw (funext fun d => Fin.ext ?_)
  match d with
  | ⟨0, _⟩ => rfl
  | ⟨1, _⟩ => rfl
  | ⟨2, _⟩ => show (k : ℕ) % 1024 = k; omega

/-- The second. -/
theorem tap1_at (b : Fin 2) (n : Fin 16384) (k : Fin 1024) : val_main_v14 (F := Ideal) cw (ix3 b n k) = cw (ix3 0 1 k) := by
  rw [val_main_v14_apply, val_main_v13_apply, val_main_v12_apply, val_main_v11_apply]
  have hk : (k : ℕ) < 1024 := k.isLt
  refine congrArg cw (funext fun d => Fin.ext ?_)
  match d with
  | ⟨0, _⟩ => rfl
  | ⟨1, _⟩ => rfl
  | ⟨2, _⟩ => show (k : ℕ) % 1024 = k; omega

/-- The third. -/
theorem tap2_at (b : Fin 2) (n : Fin 16384) (k : Fin 1024) : val_main_v21 (F := Ideal) cw (ix3 b n k) = cw (ix3 0 2 k) := by
  rw [val_main_v21_apply, val_main_v20_apply, val_main_v19_apply, val_main_v18_apply]
  have hk : (k : ℕ) < 1024 := k.isLt
  refine congrArg cw (funext fun d => Fin.ext ?_)
  match d with
  | ⟨0, _⟩ => rfl
  | ⟨1, _⟩ => rfl
  | ⟨2, _⟩ => show (k : ℕ) % 1024 = k; omega

/-- The padded input from its first row on. -/
theorem shift0_at (b : Fin 2) (n : Fin 16384) (k : Fin 1024) : val_main_v2 (F := Ideal) u v (ix3 b n k) = padded u v b ((n : ℕ)) k := by
  have hn : (n : ℕ) < 16384 := n.isLt
  rw [val_main_v2_apply]
  refine (congrArg (val_main_v1 (F := Ideal) u v) (funext fun d => Fin.ext ?_)).trans (pad_at u v b (⟨(n : ℕ), by omega⟩ : Fin 16386) k)
  match d with
  | ⟨0, _⟩ => rfl
  | ⟨1, _⟩ => first | rfl | exact Nat.add_comm _ _
  | ⟨2, _⟩ => rfl

/-- From its second. -/
theorem shift1_at (b : Fin 2) (n : Fin 16384) (k : Fin 1024) : val_main_v10 (F := Ideal) u v (ix3 b n k) = padded u v b ((n : ℕ) + 1) k := by
  have hn : (n : ℕ) < 16384 := n.isLt
  rw [val_main_v10_apply]
  refine (congrArg (val_main_v1 (F := Ideal) u v) (funext fun d => Fin.ext ?_)).trans (pad_at u v b (⟨(n : ℕ) + 1, by omega⟩ : Fin 16386) k)
  match d with
  | ⟨0, _⟩ => rfl
  | ⟨1, _⟩ => first | rfl | exact Nat.add_comm _ _
  | ⟨2, _⟩ => rfl

/-- From its third. -/
theorem shift2_at (b : Fin 2) (n : Fin 16384) (k : Fin 1024) : val_main_v17 (F := Ideal) u v (ix3 b n k) = padded u v b ((n : ℕ) + 2) k := by
  have hn : (n : ℕ) < 16384 := n.isLt
  rw [val_main_v17_apply]
  refine (congrArg (val_main_v1 (F := Ideal) u v) (funext fun d => Fin.ext ?_)).trans (pad_at u v b (⟨(n : ℕ) + 2, by omega⟩ : Fin 16386) k)
  match d with
  | ⟨0, _⟩ => rfl
  | ⟨1, _⟩ => first | rfl | exact Nat.add_comm _ _
  | ⟨2, _⟩ => rfl

/-- The gated convolution. -/
theorem gated_at (b : Fin 2) (n : Fin 16384) (k : Fin 1024) : val_main_v24 (F := Ideal) bg u v cw (ix3 b n k) = gatedAt bg u v cw b n k := by
  rw [val_main_v24_apply, val_main_v23_apply, val_main_v22_apply, val_main_v16_apply, val_main_v15_apply, val_main_v9_apply, val_main_v8_apply, val_main_cst_apply, val_main_v7_apply,
    shift0_at, shift1_at, shift2_at, tap0_at, tap1_at, tap2_at]
  show bg (ix3 b n k) * (Ideal.ofBits .f32 0x00000000#32 + padded u v b n k * cw (ix3 0 0 k) + padded u v b ((n : ℕ) + 1) k * cw (ix3 0 1 k) + padded u v b ((n : ℕ) + 2) k * cw (ix3 0 2 k)) = _
  rw [Cert.DownEq.zero_word, zero_add]
  rfl

/-- The two mixers' rows side by side. -/
theorem mix_at (b : Fin 2) (n : Fin 16384) (k : Fin 2048) : val_main_v25 (F := Ideal) f bg u v cw (ix3 b n k) = mixRow f bg u v cw b n k := by
  have hk : (k : ℕ) < 2048 := k.isLt
  unfold val_main_v25 mixRow
  by_cases h : (k : ℕ) < 1024
  · rw [dif_pos h]
    refine concatenate_pair_apply_left (s₁ := S2x16384x1024) (s₂ := S2x16384x1024) _ _ _ _ (ix3 b n k) rfl (ix3 b n (⟨(k : ℕ), h⟩ : Fin 1024)) fun d => ?_
    match d with
    | ⟨0, _⟩ => rfl
    | ⟨1, _⟩ => rfl
    | ⟨2, _⟩ => rfl
  · rw [dif_neg h]
    refine (concatenate_pair_apply_right (s₁ := S2x16384x1024) (s₂ := S2x16384x1024) _ _ _ _ (ix3 b n k) rfl rfl (ix3 b n (⟨(k : ℕ) - 1024, by omega⟩ : Fin 1024)) (fun d hd => ?_) ?_).trans (gated_at bg u v cw b n _)
    · match d with
      | ⟨0, _⟩ => rfl
      | ⟨1, _⟩ => rfl
      | ⟨2, _⟩ => exact absurd rfl hd
    · show (k : ℕ) - 1024 + 1024 = k; omega

/-- The output projection. -/
theorem product_at (b : Fin 2) (n : Fin 16384) (e : Fin 2048) :
    val_main_v27 (F := Ideal) f bg u v cw w (ix3 b n e) = ∑ k : Fin 2048, mixRow f bg u v cw b n k * w (ix3 0 k e) := by
  rw [val_main_v27_apply]
  refine Finset.sum_congr rfl fun k _ => ?_
  rw [val_main_v26_apply]
  have he : (e : ℕ) < 2048 := e.isLt
  have hk : (k : ℕ) < 2048 := k.isLt
  refine congrArg₂ (· * ·) ((congrArg (val_main_v25 (F := Ideal) f bg u v cw) ?_).trans (mix_at f bg u v cw b n k)) (congrArg w ?_)
  · funext d
    match d with
    | ⟨0, _⟩ => rfl
    | ⟨1, _⟩ => rfl
    | ⟨2, _⟩ => rfl
  · funext d
    refine Fin.ext ?_
    match d with
    | ⟨0, _⟩ => rfl
    | ⟨1, _⟩ => show ((k : ℕ) * 2048 + e) / 2048 % 2048 = k; omega
    | ⟨2, _⟩ => show ((k : ℕ) * 2048 + e) % 2048 = e; omega

/-- The residual stream after the mixer. -/
theorem row_at (b : Fin 2) (n : Fin 16384) (e : Fin 2048) : val_main_v30 (F := Ideal) f bg u v cw w x gt (ix3 b n e) = streamRow f bg u v cw w x gt b n e := by
  rw [val_main_v30_apply, val_main_v29_apply, val_main_v28_apply, product_at]
  have hi : idx_main_v28 (ix3 b n e) = ix3 b 0 e := by
    funext d
    match d with
    | ⟨0, _⟩ => rfl
    | ⟨1, _⟩ => rfl
    | ⟨2, _⟩ => rfl
  rw [hi]
  rfl

/-- The first results. -/
theorem stream_arr : streamArr f bg u v cw w x gt = val_main_v30 (F := Ideal) f bg u v cw w x gt := by
  funext y
  have hy : y = ix3 (y 0) (y 1) (y 2) := by
    funext d
    match d with
    | ⟨0, _⟩ => rfl
    | ⟨1, _⟩ => rfl
    | ⟨2, _⟩ => rfl
  rw [hy]
  exact (row_at f bg u v cw w x gt (y 0) (y 1) (y 2)).symm

/-- The gain, read through its slice and its reshapes. -/
theorem gain_at (b : Fin 2) (n : Fin 16384) (e : Fin 2048) : val_main_v44 (F := Ideal) g (ix3 b n e) = g (ix3 1 1 e) := by
  rw [val_main_v44_apply, val_main_v43_apply, val_main_v42_apply, val_main_v41_apply]
  have he : (e : ℕ) < 2048 := e.isLt
  refine congrArg g (funext fun d => Fin.ext ?_)
  match d with
  | ⟨0, _⟩ => rfl
  | ⟨1, _⟩ => rfl
  | ⟨2, _⟩ => show (e : ℕ) % 2048 = e; omega

/-- The second results at a place. -/
theorem norm_at (b : Fin 2) (n : Fin 16384) (e : Fin 2048) :
    val_main_v52 (F := Ideal) f bg u v cw w x gt g sh sc (ix3 b n e) = normRow f bg u v cw w x gt g sh sc b n e := by
  have hs : ∀ k : Fin 2048, idx_main_v32 (idx_main_v33 (idx_main_v39 (ix3 b n e))) k = ix3 b n k := fun k => by
    funext d
    match d with
    | ⟨0, _⟩ => rfl
    | ⟨1, _⟩ => rfl
    | ⟨2, _⟩ => rfl
  have h48 : idx_main_v48 (ix3 b n e) = ix3 b 0 e := by
    funext d
    match d with
    | ⟨0, _⟩ => rfl
    | ⟨1, _⟩ => rfl
    | ⟨2, _⟩ => rfl
  have h50 : idx_main_v50 (ix3 b n e) = ix3 b 0 e := by
    funext d
    match d with
    | ⟨0, _⟩ => rfl
    | ⟨1, _⟩ => rfl
    | ⟨2, _⟩ => rfl
  rw [val_main_v52_apply, val_main_v51_apply, val_main_v50_apply, val_main_v49_apply, val_main_v48_apply, val_main_v47_apply, val_main_v46_apply, val_main_cst_3_apply,
    val_main_v45_apply, gain_at, val_main_v40_apply, val_main_v39_apply, val_main_v38_apply, val_main_v37_apply, val_main_v36_apply, val_main_cst_2_apply,
    val_main_v35_apply, val_main_v34_apply, val_main_cst_1_apply, val_main_v33_apply, val_main_v32_apply, val_main_cst_0_apply, row_at, h48, h50]
  simp only [hs, val_main_v31_apply, row_at]
  show (_ * Ideal.rsqrt (Ideal.div (Ideal.ofBits .f32 0x00000000#32 + ∑ k : Fin 2048, _) (Ideal.ofBits .f32 0x45000000#32) + Ideal.ofBits .f32 0x358637BD#32)) * g (ix3 1 1 e) *
    (Ideal.ofBits .f32 0x3F800000#32 + sc (ix3 b 0 e)) + sh (ix3 b 0 e) = _
  rw [Cert.DownEq.zero_word, zero_add, Cert.UpEq.one_word, mul_assoc]
  rfl

/-- The second results. -/
theorem norm_arr : normArr f bg u v cw w x gt g sh sc = val_main_v52 (F := Ideal) f bg u v cw w x gt g sh sc := by
  funext y
  have hy : y = ix3 (y 0) (y 1) (y 2) := by
    funext d
    match d with
    | ⟨0, _⟩ => rfl
    | ⟨1, _⟩ => rfl
    | ⟨2, _⟩ => rfl
  rw [hy]
  exact (norm_at f bg u v cw w x gt g sh sc (y 0) (y 1) (y 2)).symm

end Cert.OddEq
-- ==== Proof.InOdd.Frame.lean ====
module

public import proofs.«01_k».proof.Defs
public import proofs.«01_k».proof.Proof.Gen.InOdd
public import proofs.«01_k».proof.Proof.Gen.InOddIdeal
public import proofs.«01_k».proof.Proof.Gen.InOddIdeal.Frame
public import Idealize.ShloMosaic.Lib.Claim

@[expose] public section

set_option maxRecDepth 16384
set_option maxHeartbeats 2000000

noncomputable section

namespace Cert.InOdd.Proj

open Idealize.ShloMosaic Idealize.SL.Sem

/-- The two readings have the same body. -/
theorem body_eq : Cert.InOdd.defs₀ (F := Bits) = Cert.InOddIdeal.defs₀ (F := Bits) := by
  unfold Cert.InOdd.defs₀ Cert.InOddIdeal.defs₀
  refine congrArg Defs.onTc ?_
  funext l x
  match l, x with
  | 0, (t, s) => rfl
  | ⟨_ + 1, h⟩, _ => exact absurd h (Nat.not_lt.2 (Nat.le_add_left _ _))

/-- So they have the same body table. -/
theorem defs_eq : Cert.InOdd.defs (F := Bits) = Cert.InOddIdeal.defs (F := Bits) := congrArg (Pipeline.defs _) body_eq

/-- The frame at bit level of the odd layer's input projection, from the run over any float values. -/
theorem frame : Cert.quiescent_InOdd := by
  intro m g _
  rw [defs_eq]
  exact (θ_run Cert.InOddIdeal.defs _ _).mono (fun _ h => h) (Cert.InOddIdeal.Gen.frame (F := Bits) m g)

end Cert.InOdd.Proj
-- ==== Proof.InOdd.Block.lean ====
module

public import proofs.«01_k».proof.Proof.Gen.InOddIdeal.Value
public import Idealize.ShloMosaic.Lib.Pointwise
public import Idealize.ShloMosaic.Lib.Pipeline.ValueKit
public import Idealize.ShloMosaic.Lib.Claim

@[expose] public section

set_option maxRecDepth 16384
set_option maxHeartbeats 2000000

noncomputable section

namespace Cert.InOddIdeal.Proj

open Cert.InOddIdeal Cert.InOddIdeal.Gen
open Idealize.ShloMosaic Idealize.ShloMosaic.TcCoe Idealize.ShloMosaic.Tactic Idealize.SL.Sem

theorem hz2 : (![0, 0] : Fin 2 → ℕ) = fun _ => 0 := by decide

theorem hz3 : (![0, 0, 0] : Fin 3 → ℕ) = fun _ => 0 := by decide

/-- A row by a column of the weights. -/
def proj (h : Fin 2048 → EReal) (w : Fin 2048 → Fin 4096 → EReal) (e : Fin 4096) : EReal :=
  ∑ k, h k * w k e

/-- The projected channels of group `g` by column `p` of the table. -/
def chan (h : Fin 2048 → EReal) (w : Fin 2048 → Fin 4096 → EReal) (cs : Fin 256 → Fin 512 → EReal) (g : Fin 4) (p : Fin 512) : EReal :=
  ∑ q : Fin 256, proj h w ⟨(g : ℕ) * 256 + q, by have := g.isLt; have := q.isLt; omega⟩ * cs q p

section payloads

variable (v0 : Vec Ideal S1x512x2048 .bf16) (v : Vec Ideal S2048x512 .bf16) (u : Vec Ideal S2048x512 .bf16) (t : Vec Ideal S256x512 .bf16) (r : Fin 512) (j : Fin 256) (e : Fin 512)

/-- The channels of one of the two groups of a block of columns, which begins at `o`, by the column of the table that begins at `d`. -/
def group (h : Fin 2048 → EReal) (v : Vec Ideal S2048x512 .bf16) (t : Vec Ideal S256x512 .bf16) (o d : ℕ) (ho : o + 256 ≤ 512) (hd : d + 256 ≤ 512) (j : Fin 256) : EReal :=
  ∑ q : Fin 256, (∑ k : Fin 2048, h k * v (ix2 k (⟨o + (q : ℕ), by have := q.isLt; omega⟩ : Fin 512))) * t (ix2 q (⟨d + (j : ℕ), by have := j.isLt; omega⟩ : Fin 512))

theorem real0 : k0_pay5 (F := Ideal) v0 v t (ix3 0 r j) = group (fun k => v0 (ix3 0 r k)) v t 0 0 (by decide) (by decide) j := by
  unfold k0_pay5 k0_pay4 k0_pay3 k0_pay2 group
  pointwise

theorem imag0 : k0_pay6 (F := Ideal) v0 v t (ix3 0 r j) = group (fun k => v0 (ix3 0 r k)) v t 0 256 (by decide) (by decide) j := by
  unfold k0_pay6 k0_pay4 k0_pay3 k0_pay2 group
  pointwise

theorem real1 : k0_pay8 (F := Ideal) v0 v t (ix3 0 r j) = group (fun k => v0 (ix3 0 r k)) v t 256 0 (by decide) (by decide) j := by
  unfold k0_pay8 k0_pay7 k0_pay3 k0_pay2 group
  pointwise

theorem imag1 : k0_pay10 (F := Ideal) (k0_pay9 v0 v t) (ix3 0 r j) = group (fun k => v0 (ix3 0 r k)) v t 256 256 (by decide) (by decide) j := by
  unfold k0_pay10 k0_pay9 k0_pay7 k0_pay3 k0_pay2 group
  pointwise

theorem real2 : k0_pay13 (F := Ideal) (k0_pay2 v0) v t (ix3 0 r j) = group (fun k => v0 (ix3 0 r k)) v t 0 0 (by decide) (by decide) j := by
  unfold k0_pay13 k0_pay12 k0_pay11 k0_pay2 group
  pointwise

theorem imag2 : k0_pay14 (F := Ideal) (k0_pay2 v0) v t (ix3 0 r j) = group (fun k => v0 (ix3 0 r k)) v t 0 256 (by decide) (by decide) j := by
  unfold k0_pay14 k0_pay12 k0_pay11 k0_pay2 group
  pointwise

theorem real3 : k0_pay16 (F := Ideal) (k0_pay2 v0) v t (ix3 0 r j) = group (fun k => v0 (ix3 0 r k)) v t 256 0 (by decide) (by decide) j := by
  unfold k0_pay16 k0_pay15 k0_pay11 k0_pay2 group
  pointwise

theorem imag3 : k0_pay17 (F := Ideal) (k0_pay2 v0) v t (ix3 0 r j) = group (fun k => v0 (ix3 0 r k)) v t 256 256 (by decide) (by decide) j := by
  unfold k0_pay17 k0_pay15 k0_pay11 k0_pay2 group
  pointwise

/-- The gates in the first half of the columns. -/
theorem gate0 : k0_pay18 (F := Ideal) (k0_pay2 v0) v (ix3 0 r e) = ∑ k : Fin 2048, v0 (ix3 0 r k) * v (ix2 k e) := by
  unfold k0_pay18 k0_pay2
  pointwise

/-- In the second. -/
theorem gate1 : k0_pay20 (F := Ideal) (k0_pay2 v0) v (ix3 0 r e) = ∑ k : Fin 2048, v0 (ix3 0 r k) * v (ix2 k e) := by
  unfold k0_pay20 k0_pay2
  pointwise

/-- The products in the first half. -/
theorem prod0 : k0_pay19 (F := Ideal) (k0_pay2 v0) v u (ix3 0 r e) = (∑ k : Fin 2048, v0 (ix3 0 r k) * v (ix2 k e)) * ∑ k : Fin 2048, v0 (ix3 0 r k) * u (ix2 k e) := by
  unfold k0_pay19 k0_pay2
  pointwise

/-- In the second. -/
theorem prod1 : k0_pay1 (F := Ideal) (k0_pay21 (k0_pay2 v0) v u) (ix3 0 r e) = (∑ k : Fin 2048, v0 (ix3 0 r k) * v (ix2 k e)) * ∑ k : Fin 2048, v0 (ix3 0 r k) * u (ix2 k e) := by
  unfold k0_pay1 k0_pay21 k0_pay2
  pointwise

end payloads

section loads

variable (w : Vec Ideal S2048x4096 .bf16)

/-- A block of the weights' columns. -/
theorem ld_cols (o : ℕ) (inb) (k : Fin 2048) (e : Fin 512) (E : Fin 4096) (h : (E : ℕ) = o + e) :
    View.ld w (Rect.unit (s := S2048x4096) ![0, o] S2048x512.size inb) (ix2 k e) = w (ix2 k E) :=
  View.ld_unit_apply_of _ _ _ _ _ _ fun a => by
    match a with
    | ⟨0, _⟩ => exact (Nat.zero_add (k : ℕ)).symm
    | ⟨1, _⟩ => exact h

/-- A row by a column of the block. -/
theorem proj_cols (r : Fin 2048 → EReal) (o : ℕ) (inb) (e : Fin 512) (E : Fin 4096) (h : (E : ℕ) = o + e) :
    (∑ k : Fin 2048, r k * View.ld w (Rect.unit (s := S2048x4096) ![0, o] S2048x512.size inb) (ix2 k e)) = proj r (fun k j => w (ix2 k j)) E :=
  Finset.sum_congr rfl fun k _ => congrArg (r k * ·) (ld_cols w o inb k e E h)

/-- A group of the block is a group of the weights. -/
theorem group_cols (r : Fin 2048 → EReal) (t : Vec Ideal S256x512 .bf16) (o : ℕ) (inb) (a d : ℕ) (ha : a + 256 ≤ 512) (hd : d + 256 ≤ 512) (j : Fin 256) (g : Fin 4) (p : Fin 512)
    (hg : (g : ℕ) * 256 = o + a) (hp : (p : ℕ) = d + j) :
    group r (View.ld w (Rect.unit (s := S2048x4096) ![0, o] S2048x512.size inb)) t a d ha hd j = chan r (fun k e => w (ix2 k e)) (fun q e => t (ix2 q e)) g p := by
  unfold group chan
  refine Finset.sum_congr rfl fun q _ => congrArg₂ (· * ·) (proj_cols w r o inb _ _ ?_) (congrArg (fun e => t (ix2 q e)) (Fin.ext hp.symm))
  show (g : ℕ) * 256 + (q : ℕ) = o + (a + (q : ℕ))
  omega

end loads

section blocks

variable (x0 : Vec Ideal S1x512x2048 .bf16) (x1 : Vec Ideal S2048x4096 .bf16) (x2 : Vec Ideal S256x512 .bf16) (y : S1x512x1024.Idx)

/-- The rows in the form in which the products read them. -/
theorem rows_eq : k0_pay22 (F := Ideal) x0 x1 x2 = k0_pay2 x0 := by
  unfold k0_pay22
  rw [View.ld_unit_zero (S := S1x512x2048) hz3]

/-- A place of a group's columns. -/
theorem piece_idx (x : S1x512x256.Idx) (h0 : (x 0 : ℕ) < 1) (h1 : (x 1 : ℕ) < 512) (h2 : (x 2 : ℕ) < 256) : x = ix3 (0 : Fin 1) (⟨(x 1 : ℕ), h1⟩ : Fin 512) (⟨(x 2 : ℕ), h2⟩ : Fin 256) := by
  funext a
  match a with
  | ⟨0, _⟩ => exact Fin.ext (by show (x 0 : ℕ) = 0; omega)
  | ⟨1, _⟩ => rfl
  | ⟨2, _⟩ => rfl

/-- The first transforms of a block, at an index. -/
theorem real_block : out0_3 x0 x1 x2 y = chan (fun k => x0 (ix3 0 (y 1) k)) (fun k e => x1 (ix2 k e)) (fun q e => x2 (ix2 q e))
    ⟨(y 2 : ℕ) / 256, by have : (y 2 : ℕ) < 1024 := (y 2).isLt; omega⟩ ⟨(y 2 : ℕ) % 256, by omega⟩ := by
  have y2 : (y 2 : ℕ) < 1024 := (y 2).isLt
  unfold out0_3
  rw [rows_eq]
  simp only [View.ld_unit_zero (S := S1x512x2048) hz3, View.ld_unit_zero (S := S256x512) hz2]
  canon_tiles x h
  · have hr : (⟨(x 1 : ℕ), x1_lt⟩ : Fin 512) = y 1 := Fin.ext (by show (x 1 : ℕ) = (y 1 : ℕ); omega)
    rw [piece_idx x x0_lt x1_lt x2_lt, real3]
    refine (group_cols x1 _ x2 _ _ _ _ _ _ _ ⟨(y 2 : ℕ) / 256, by omega⟩ ⟨(y 2 : ℕ) % 256, by omega⟩ ?_ ?_).trans (congrArg (fun r => chan (fun k => x0 (ix3 0 r k)) _ _ _ _) hr)
    · show (y 2 : ℕ) / 256 * 256 = _; omega
    · show (y 2 : ℕ) % 256 = _ + (x 2 : ℕ); omega
  · have hr : (⟨(x 1 : ℕ), x1_lt⟩ : Fin 512) = y 1 := Fin.ext (by show (x 1 : ℕ) = (y 1 : ℕ); omega)
    rw [piece_idx x x0_lt x1_lt x2_lt, real2]
    refine (group_cols x1 _ x2 _ _ _ _ _ _ _ ⟨(y 2 : ℕ) / 256, by omega⟩ ⟨(y 2 : ℕ) % 256, by omega⟩ ?_ ?_).trans (congrArg (fun r => chan (fun k => x0 (ix3 0 r k)) _ _ _ _) hr)
    · show (y 2 : ℕ) / 256 * 256 = _; omega
    · show (y 2 : ℕ) % 256 = _ + (x 2 : ℕ); omega
  · have hr : (⟨(x 1 : ℕ), x1_lt⟩ : Fin 512) = y 1 := Fin.ext (by show (x 1 : ℕ) = (y 1 : ℕ); omega)
    rw [piece_idx x x0_lt x1_lt x2_lt, real1]
    refine (group_cols x1 _ x2 _ _ _ _ _ _ _ ⟨(y 2 : ℕ) / 256, by omega⟩ ⟨(y 2 : ℕ) % 256, by omega⟩ ?_ ?_).trans (congrArg (fun r => chan (fun k => x0 (ix3 0 r k)) _ _ _ _) hr)
    · show (y 2 : ℕ) / 256 * 256 = _; omega
    · show (y 2 : ℕ) % 256 = _ + (x 2 : ℕ); omega
  · have hr : (⟨(x 1 : ℕ), x1_lt⟩ : Fin 512) = y 1 := Fin.ext (by show (x 1 : ℕ) = (y 1 : ℕ); omega)
    rw [piece_idx x x0_lt x1_lt x2_lt, real0]
    refine (group_cols x1 _ x2 _ _ _ _ _ _ _ ⟨(y 2 : ℕ) / 256, by omega⟩ ⟨(y 2 : ℕ) % 256, by omega⟩ ?_ ?_).trans (congrArg (fun r => chan (fun k => x0 (ix3 0 r k)) _ _ _ _) hr)
    · show (y 2 : ℕ) / 256 * 256 = _; omega
    · show (y 2 : ℕ) % 256 = _ + (x 2 : ℕ); omega

/-- The second transforms. -/
theorem imag_block : out0_4 x0 x1 x2 y = chan (fun k => x0 (ix3 0 (y 1) k)) (fun k e => x1 (ix2 k e)) (fun q e => x2 (ix2 q e))
    ⟨(y 2 : ℕ) / 256, by have : (y 2 : ℕ) < 1024 := (y 2).isLt; omega⟩ ⟨256 + (y 2 : ℕ) % 256, by omega⟩ := by
  have y2 : (y 2 : ℕ) < 1024 := (y 2).isLt
  unfold out0_4
  rw [rows_eq]
  simp only [View.ld_unit_zero (S := S1x512x2048) hz3, View.ld_unit_zero (S := S256x512) hz2]
  canon_tiles x h
  · have hr : (⟨(x 1 : ℕ), x1_lt⟩ : Fin 512) = y 1 := Fin.ext (by show (x 1 : ℕ) = (y 1 : ℕ); omega)
    rw [piece_idx x x0_lt x1_lt x2_lt, imag3]
    refine (group_cols x1 _ x2 _ _ _ _ _ _ _ ⟨(y 2 : ℕ) / 256, by omega⟩ ⟨256 + (y 2 : ℕ) % 256, by omega⟩ ?_ ?_).trans (congrArg (fun r => chan (fun k => x0 (ix3 0 r k)) _ _ _ _) hr)
    · show (y 2 : ℕ) / 256 * 256 = _; omega
    · show 256 + (y 2 : ℕ) % 256 = _ + (x 2 : ℕ); omega
  · have hr : (⟨(x 1 : ℕ), x1_lt⟩ : Fin 512) = y 1 := Fin.ext (by show (x 1 : ℕ) = (y 1 : ℕ); omega)
    rw [piece_idx x x0_lt x1_lt x2_lt, imag2]
    refine (group_cols x1 _ x2 _ _ _ _ _ _ _ ⟨(y 2 : ℕ) / 256, by omega⟩ ⟨256 + (y 2 : ℕ) % 256, by omega⟩ ?_ ?_).trans (congrArg (fun r => chan (fun k => x0 (ix3 0 r k)) _ _ _ _) hr)
    · show (y 2 : ℕ) / 256 * 256 = _; omega
    · show 256 + (y 2 : ℕ) % 256 = _ + (x 2 : ℕ); omega
  · have hr : (⟨(x 1 : ℕ), x1_lt⟩ : Fin 512) = y 1 := Fin.ext (by show (x 1 : ℕ) = (y 1 : ℕ); omega)
    rw [piece_idx x x0_lt x1_lt x2_lt, imag1]
    refine (group_cols x1 _ x2 _ _ _ _ _ _ _ ⟨(y 2 : ℕ) / 256, by omega⟩ ⟨256 + (y 2 : ℕ) % 256, by omega⟩ ?_ ?_).trans (congrArg (fun r => chan (fun k => x0 (ix3 0 r k)) _ _ _ _) hr)
    · show (y 2 : ℕ) / 256 * 256 = _; omega
    · show 256 + (y 2 : ℕ) % 256 = _ + (x 2 : ℕ); omega
  · have hr : (⟨(x 1 : ℕ), x1_lt⟩ : Fin 512) = y 1 := Fin.ext (by show (x 1 : ℕ) = (y 1 : ℕ); omega)
    rw [piece_idx x x0_lt x1_lt x2_lt, imag0]
    refine (group_cols x1 _ x2 _ _ _ _ _ _ _ ⟨(y 2 : ℕ) / 256, by omega⟩ ⟨256 + (y 2 : ℕ) % 256, by omega⟩ ?_ ?_).trans (congrArg (fun r => chan (fun k => x0 (ix3 0 r k)) _ _ _ _) hr)
    · show (y 2 : ℕ) / 256 * 256 = _; omega
    · show 256 + (y 2 : ℕ) % 256 = _ + (x 2 : ℕ); omega

/-- The products of a block. -/
theorem prod_block : out0_5 x0 x1 x2 y = proj (fun k => x0 (ix3 0 (y 1) k)) (fun k e => x1 (ix2 k e)) ⟨2048 + (y 2 : ℕ), by have : (y 2 : ℕ) < 1024 := (y 2).isLt; omega⟩ *
    proj (fun k => x0 (ix3 0 (y 1) k)) (fun k e => x1 (ix2 k e)) ⟨3072 + (y 2 : ℕ), by have : (y 2 : ℕ) < 1024 := (y 2).isLt; omega⟩ := by
  have y2 : (y 2 : ℕ) < 1024 := (y 2).isLt
  unfold out0_5
  rw [rows_eq]
  canon_tiles x h
  all_goals
    have hx : x = ix3 (0 : Fin 1) (⟨(x 1 : ℕ), x1_lt⟩ : Fin 512) (⟨(x 2 : ℕ), x2_lt⟩ : Fin 512) := by
      funext a
      match a with
      | ⟨0, _⟩ => exact Fin.ext (by show (x 0 : ℕ) = 0; omega)
      | ⟨1, _⟩ => rfl
      | ⟨2, _⟩ => rfl
    have hr : (⟨(x 1 : ℕ), x1_lt⟩ : Fin 512) = y 1 := Fin.ext (by show (x 1 : ℕ) = (y 1 : ℕ); omega)
    rw [hx]
    first
      | refine (prod1 _ _ _ _ _).trans ?_
      | refine (prod0 _ _ _ _ _).trans ?_
    rw [hr]
    refine congrArg₂ (· * ·) (proj_cols x1 _ _ _ _ _ ?_) (proj_cols x1 _ _ _ _ _ ?_)
    · show 2048 + (y 2 : ℕ) = _ + (x 2 : ℕ); omega
    · show 3072 + (y 2 : ℕ) = _ + (x 2 : ℕ); omega

/-- The gates. -/
theorem gate_block : out0_6 x0 x1 x2 y = proj (fun k => x0 (ix3 0 (y 1) k)) (fun k e => x1 (ix2 k e)) ⟨1024 + (y 2 : ℕ), by have : (y 2 : ℕ) < 1024 := (y 2).isLt; omega⟩ := by
  have y2 : (y 2 : ℕ) < 1024 := (y 2).isLt
  unfold out0_6
  rw [rows_eq]
  canon_tiles x h
  all_goals
    have hx : x = ix3 (0 : Fin 1) (⟨(x 1 : ℕ), x1_lt⟩ : Fin 512) (⟨(x 2 : ℕ), x2_lt⟩ : Fin 512) := by
      funext a
      match a with
      | ⟨0, _⟩ => exact Fin.ext (by show (x 0 : ℕ) = 0; omega)
      | ⟨1, _⟩ => rfl
      | ⟨2, _⟩ => rfl
    have hr : (⟨(x 1 : ℕ), x1_lt⟩ : Fin 512) = y 1 := Fin.ext (by show (x 1 : ℕ) = (y 1 : ℕ); omega)
    rw [hx]
    first
      | refine (gate1 _ _ _ _).trans ?_
      | refine (gate0 _ _ _ _).trans ?_
    rw [hr]
    refine proj_cols x1 _ _ _ _ _ ?_
    show 1024 + (y 2 : ℕ) = _ + (x 2 : ℕ); omega

end blocks

end Cert.InOddIdeal.Proj
-- ==== Proof.InOdd.Table.lean ====
module

public import proofs.«01_k».proof.Proof.Gen.InOddIdeal.Frame
public import proofs.«01_k».proof.Proof.Gen.InOddReferenceIdeal.Read
public import Idealize.ShloMosaic.Lib.Pointwise
public import Idealize.ShloMosaic.Lib.Claim
public import Idealize.ShloMosaic.Lib.KernelVsHost

@[expose] public section

set_option maxRecDepth 16384
set_option maxHeartbeats 2000000

noncomputable section

namespace Cert.InOddIdeal.Proj

open Cert.InOddIdeal Cert.InOddIdeal.Gen
open Cert.InOddReferenceIdeal.Read (val_main_v17 val_main_v21)
open Idealize.ShloMosaic Idealize.ShloMosaic.TcCoe Idealize.ShloMosaic.Tactic Idealize.SL.Sem Idealize.ShloMosaic.StableHlo

variable (m : (ℓ : Loc nD τ sig) → Buf (Elt Ideal) ℓ) (c : Dev nD)

/-- The rows as the call reads them. -/
theorem entry_rows : @Eq (FVec Ideal S2x16384x2048 .bf16) (V m c main_v0)
    (truncf .bf16 (m ((c : Thread nD τ).loc main_arg0) : FVec Ideal S2x16384x2048 .f32) bitsLt_bf16_f32) := by
  simp only [V, hostOps0, hostOps0_1, hostOps0_2, List.flatten_cons, List.flatten_nil, List.append_nil, List.cons_append, List.nil_append,
    TRef.binary, TRef.nullary, TRef.ternary, TRef.unary, TRef.toBuf, TRef.ofBuf, cast_eq]
  after_results_simp <;> rfl

/-- The weights. -/
theorem entry_weights : @Eq (FVec Ideal S2048x4096 .bf16) (V m c main_v2)
    (truncf .bf16 (shapeCast _ (m ((c : Thread nD τ).loc main_arg1) : FVec Ideal S1x2048x4096 .f32) shapeCasts_S1x2048x4096_S2048x4096) bitsLt_bf16_f32) := by
  simp only [V, hostOps0, hostOps0_1, hostOps0_2, List.flatten_cons, List.flatten_nil, List.append_nil, List.cons_append, List.nil_append,
    TRef.binary, TRef.nullary, TRef.ternary, TRef.unary, TRef.toBuf, TRef.ofBuf, cast_eq]
  after_results_simp <;> rfl

/-- The table: the cosines, then the sines with their sign changed. -/
theorem entry_table : @Eq (FVec Ideal S256x512 .bf16) (V m c main_v17)
    (truncf .bf16 (concatenate S256x512 1 [⟨S256x256, val_main_v17 (F := Ideal)⟩, ⟨S256x256, val_main_v21 (F := Ideal)⟩] concatenates_S256x256_S256x256_S256x512_d1) bitsLt_bf16_f32) := by
  simp only [V, hostOps0, hostOps0_1, hostOps0_2, List.flatten_cons, List.flatten_nil, List.append_nil, List.cons_append, List.nil_append,
    TRef.binary, TRef.nullary, TRef.ternary, TRef.unary, TRef.toBuf, TRef.ofBuf, cast_eq]
  after_results_simp <;> rfl

/-- A column of cosines. -/
theorem table_left (q : Fin 256) (e : Fin 512) (j : Fin 256) (h : (e : ℕ) = j) : V m c main_v17 (ix2 q e) = val_main_v17 (F := Ideal) (ix2 q j) := by
  rw [entry_table]
  show concatenate S256x512 1 [⟨S256x256, val_main_v17 (F := Ideal)⟩, ⟨S256x256, val_main_v21 (F := Ideal)⟩] concatenates_S256x256_S256x256_S256x512_d1 (ix2 q e) = _
  refine concatenate_pair_apply_left (s₁ := S256x256) (s₂ := S256x256) _ _ _ _ (ix2 q e) rfl (ix2 q j) fun d => ?_
  match d with
  | ⟨0, _⟩ => rfl
  | ⟨1, _⟩ => exact h.symm

/-- A column of sines. -/
theorem table_right (q : Fin 256) (e : Fin 512) (j : Fin 256) (h : (e : ℕ) = 256 + j) : V m c main_v17 (ix2 q e) = val_main_v21 (F := Ideal) (ix2 q j) := by
  rw [entry_table]
  show concatenate S256x512 1 [⟨S256x256, val_main_v17 (F := Ideal)⟩, ⟨S256x256, val_main_v21 (F := Ideal)⟩] concatenates_S256x256_S256x256_S256x512_d1 (ix2 q e) = _
  refine concatenate_pair_apply_right (s₁ := S256x256) (s₂ := S256x256) _ _ _ _ (ix2 q e) rfl rfl (ix2 q j) (fun d hd => ?_) ?_
  · match d with
    | ⟨0, _⟩ => rfl
    | ⟨1, _⟩ => exact absurd rfl hd
  · show (j : ℕ) + 256 = (e : ℕ); omega

end Cert.InOddIdeal.Proj
-- ==== Proof.InOdd.Array.lean ====
module

public import proofs.«01_k».proof.Proof.InOdd.Block
public import proofs.«01_k».proof.Proof.InOdd.Table

@[expose] public section

set_option maxRecDepth 16384
set_option maxHeartbeats 2000000

noncomputable section

namespace Cert.InOddIdeal.Proj

open Cert.InOddIdeal Cert.InOddIdeal.Gen
open Idealize.ShloMosaic Idealize.ShloMosaic.TcCoe Idealize.ShloMosaic.Tactic Idealize.SL.Sem

/-- The projection at a place. -/
def projAt (h : S2x16384x2048.Idx → EReal) (w : S1x2048x4096.Idx → EReal) (b : Fin 2) (n : Fin 16384) (e : Fin 4096) : EReal :=
  proj (fun k => h (ix3 b n k)) (fun k j => w (ix3 0 k j)) e

/-- The channels of a group by a column of the table, at a place. -/
def chanAt (h : S2x16384x2048.Idx → EReal) (w : S1x2048x4096.Idx → EReal) (cs : S256x512.Idx → EReal) (b : Fin 2) (n : Fin 16384) (g : Fin 4) (p : Fin 512) : EReal :=
  chan (fun k => h (ix3 b n k)) (fun k j => w (ix3 0 k j)) (fun q j => cs (ix2 q j)) g p

/-- The first transforms at a place. -/
def realAt (h : S2x16384x2048.Idx → EReal) (w : S1x2048x4096.Idx → EReal) (cs : S256x512.Idx → EReal) (b : Fin 2) (n : Fin 16384) (e : Fin 1024) : EReal :=
  chanAt h w cs b n ⟨(e : ℕ) / 256, by have := e.isLt; omega⟩ ⟨(e : ℕ) % 256, by omega⟩

/-- The second. -/
def imagAt (h : S2x16384x2048.Idx → EReal) (w : S1x2048x4096.Idx → EReal) (cs : S256x512.Idx → EReal) (b : Fin 2) (n : Fin 16384) (e : Fin 1024) : EReal :=
  chanAt h w cs b n ⟨(e : ℕ) / 256, by have := e.isLt; omega⟩ ⟨256 + (e : ℕ) % 256, by omega⟩

/-- The products. -/
def prodAt (h : S2x16384x2048.Idx → EReal) (w : S1x2048x4096.Idx → EReal) (b : Fin 2) (n : Fin 16384) (e : Fin 1024) : EReal :=
  projAt h w b n ⟨2048 + (e : ℕ), by have := e.isLt; omega⟩ * projAt h w b n ⟨3072 + (e : ℕ), by have := e.isLt; omega⟩

/-- The gates. -/
def gateAt (h : S2x16384x2048.Idx → EReal) (w : S1x2048x4096.Idx → EReal) (b : Fin 2) (n : Fin 16384) (e : Fin 1024) : EReal :=
  projAt h w b n ⟨1024 + (e : ℕ), by have := e.isLt; omega⟩

/-- The first result, over the whole output. -/
def realArr (h : S2x16384x2048.Idx → EReal) (w : S1x2048x4096.Idx → EReal) (cs : S256x512.Idx → EReal) : S2x16384x1024.Idx → EReal := fun y =>
  realAt h w cs (y 0) (y 1) (y 2)

/-- The second. -/
def imagArr (h : S2x16384x2048.Idx → EReal) (w : S1x2048x4096.Idx → EReal) (cs : S256x512.Idx → EReal) : S2x16384x1024.Idx → EReal := fun y =>
  imagAt h w cs (y 0) (y 1) (y 2)

/-- The third. -/
def prodArr (h : S2x16384x2048.Idx → EReal) (w : S1x2048x4096.Idx → EReal) : S2x16384x1024.Idx → EReal := fun y =>
  prodAt h w (y 0) (y 1) (y 2)

/-- The fourth. -/
def gateArr (h : S2x16384x2048.Idx → EReal) (w : S1x2048x4096.Idx → EReal) : S2x16384x1024.Idx → EReal := fun y =>
  gateAt h w (y 0) (y 1) (y 2)

variable (m : (ℓ : Loc nD τ sig) → Buf (Elt Ideal) ℓ)

/-- Where each window's block lies: the points run over the row blocks of one batch, then of the next. -/
theorem idx : ∀ t : Fin grid0.N,
    win0_0.index t = ![t.val / 32, t.val % 32, 0] ∧
    win0_1.index t = ![0, 0] ∧
    win0_2.index t = ![0, 0] ∧
    win0_3.index t = ![t.val / 32, t.val % 32, 0] ∧
    win0_4.index t = ![t.val / 32, t.val % 32, 0] ∧
    win0_5.index t = ![t.val / 32, t.val % 32, 0] ∧
    win0_6.index t = ![t.val / 32, t.val % 32, 0] := by
  decide +kernel

/-- The rows. -/
theorem blk0 (c : Dev nD) (t : Fin cfg0.N) (b : Fin 2) (hb : (b : ℕ) = t.val / 32) (r : Fin 512) (k : Fin 2048) (n : Fin 16384) (hn : (n : ℕ) = t.val % 32 * 512 + r) :
    iblk m c 0 t (ix3 0 r k) = m ((c : Thread nD τ).loc main_arg0) (ix3 b n k) := by
  have hi := (idx t).1
  have he : (win0_0.blk t).view.emb (ix3 0 r k) = ix3 b n k := by
    blk_ext [hi]
  show V m c main_v0 ((win0_0.blk t).view.emb (ix3 0 r k)) = _
  rw [he]
  rw [entry_rows]
  pointwise

/-- The weights. -/
theorem blk1 (c : Dev nD) (t : Fin cfg0.N) (k : Fin 2048) (e : Fin 4096) : iblk m c 1 t (ix2 k e) = m ((c : Thread nD τ).loc main_arg1) (ix3 0 k e) := by
  have hi := (idx t).2.1
  have he : (win0_1.blk t).view.emb (ix2 k e) = ix2 k e := by
    blk_ext [hi]
  show V m c main_v2 ((win0_1.blk t).view.emb (ix2 k e)) = _
  rw [he]
  rw [entry_weights]
  refine shapeCast_apply _ shapeCasts_S1x2048x4096_S2048x4096 (ix2 k e) (ix3 0 k e) ?_
  rw [Shape.rowMajor_val_three, Shape.rowMajor_val_two]
  show (0 * 2048 + (k : ℕ)) * 4096 + (e : ℕ) = (k : ℕ) * 4096 + (e : ℕ)
  omega

/-- The table. -/
theorem blk2 (c : Dev nD) (t : Fin cfg0.N) (q : Fin 256) (e : Fin 512) : iblk m c 2 t (ix2 q e) = V m c main_v17 (ix2 q e) := by
  have hi := (idx t).2.2.1
  have he : (win0_2.blk t).view.emb (ix2 q e) = ix2 q e := by
    blk_ext [hi]
  show V m c main_v17 ((win0_2.blk t).view.emb (ix2 q e)) = _
  rw [he]

section points

variable (c : Dev nD) (t : Fin cfg0.N) (r : Fin 512) (b : Fin 2) (n : Fin 16384) (hb : (b : ℕ) = t.val / 32) (hn : (n : ℕ) = t.val % 32 * 512 + r)

include hb hn

/-- The projection at a point. -/
theorem proj_point (e : Fin 4096) : proj (fun k => iblk m c 0 t (ix3 0 r k)) (fun k j => iblk m c 1 t (ix2 k j)) e =
    projAt (m ((c : Thread nD τ).loc main_arg0)) (m ((c : Thread nD τ).loc main_arg1)) b n e :=
  (congrArg (fun f => proj f _ e) (funext fun k => blk0 m c t b hb r k n hn)).trans (congrArg (fun f => proj _ f e) (funext fun k => funext fun j => blk1 m c t k j))

/-- A group's channels by a column of the table. -/
theorem chan_point (g : Fin 4) (p : Fin 512) : chan (fun k => iblk m c 0 t (ix3 0 r k)) (fun k j => iblk m c 1 t (ix2 k j)) (fun q j => iblk m c 2 t (ix2 q j)) g p =
    chanAt (m ((c : Thread nD τ).loc main_arg0)) (m ((c : Thread nD τ).loc main_arg1)) (V m c main_v17) b n g p :=
  (congrArg (fun f => chan f _ _ g p) (funext fun k => blk0 m c t b hb r k n hn)).trans ((congrArg (fun f => chan _ f _ g p) (funext fun k => funext fun j => blk1 m c t k j)).trans
    (congrArg (fun f => chan _ _ f g p) (funext fun k => funext fun j => blk2 m c t k j)))

end points

/-- The first transforms after the run. -/
theorem real_eq (c : Dev nD) : (dats m 0 c).arrAt 3 cfg0.N = realArr (m ((c : Thread nD τ).loc main_arg0)) (m ((c : Thread nD τ).loc main_arg1)) (V m c main_v17) := by
  refine (dats m 0 c).arrAt_eq_of_covers 3 _ (by decide +kernel) fun t hf y => ?_
  blk_simp
  rw [after0_3]
  have hi := (idx t).2.2.2.1
  have y0 : (y 0 : ℕ) < 1 := (y 0).isLt
  have y1 : (y 1 : ℕ) < 512 := (y 1).isLt
  have y2 : (y 2 : ℕ) < 1024 := (y 2).isLt
  have e0 : ((win0_3.blk t).view.emb y 0 : ℕ) = t.val / 32 := by
    blk_simp [hi]
  have e1 : ((win0_3.blk t).view.emb y 1 : ℕ) = t.val % 32 * 512 + (y 1 : ℕ) := by
    blk_simp [hi]
  have e2 : ((win0_3.blk t).view.emb y 2 : ℕ) = (y 2 : ℕ) := by
    blk_simp [hi]
  unfold realArr
  generalize (win0_3.blk t).view.emb y = z at e0 e1 e2
  have hz : y 2 = z 2 := Fin.ext e2.symm
  refine (real_block _ _ _ y).trans ?_
  rw [← hz]
  exact chan_point m c t (y 1) (z 0) (z 1) e0 e1 _ _

/-- The second. -/
theorem imag_eq (c : Dev nD) : (dats m 0 c).arrAt 4 cfg0.N = imagArr (m ((c : Thread nD τ).loc main_arg0)) (m ((c : Thread nD τ).loc main_arg1)) (V m c main_v17) := by
  refine (dats m 0 c).arrAt_eq_of_covers 4 _ (by decide +kernel) fun t hf y => ?_
  blk_simp
  rw [after0_4]
  have hi := (idx t).2.2.2.2.1
  have y0 : (y 0 : ℕ) < 1 := (y 0).isLt
  have y1 : (y 1 : ℕ) < 512 := (y 1).isLt
  have y2 : (y 2 : ℕ) < 1024 := (y 2).isLt
  have e0 : ((win0_4.blk t).view.emb y 0 : ℕ) = t.val / 32 := by
    blk_simp [hi]
  have e1 : ((win0_4.blk t).view.emb y 1 : ℕ) = t.val % 32 * 512 + (y 1 : ℕ) := by
    blk_simp [hi]
  have e2 : ((win0_4.blk t).view.emb y 2 : ℕ) = (y 2 : ℕ) := by
    blk_simp [hi]
  unfold imagArr
  generalize (win0_4.blk t).view.emb y = z at e0 e1 e2
  have hz : y 2 = z 2 := Fin.ext e2.symm
  refine (imag_block _ _ _ y).trans ?_
  rw [← hz]
  exact chan_point m c t (y 1) (z 0) (z 1) e0 e1 _ _

/-- The products. -/
theorem prod_eq (c : Dev nD) : (dats m 0 c).arrAt 5 cfg0.N = prodArr (m ((c : Thread nD τ).loc main_arg0)) (m ((c : Thread nD τ).loc main_arg1)) := by
  refine (dats m 0 c).arrAt_eq_of_covers 5 _ (by decide +kernel) fun t hf y => ?_
  blk_simp
  rw [after0_5]
  have hi := (idx t).2.2.2.2.2.1
  have y0 : (y 0 : ℕ) < 1 := (y 0).isLt
  have y1 : (y 1 : ℕ) < 512 := (y 1).isLt
  have y2 : (y 2 : ℕ) < 1024 := (y 2).isLt
  have e0 : ((win0_5.blk t).view.emb y 0 : ℕ) = t.val / 32 := by
    blk_simp [hi]
  have e1 : ((win0_5.blk t).view.emb y 1 : ℕ) = t.val % 32 * 512 + (y 1 : ℕ) := by
    blk_simp [hi]
  have e2 : ((win0_5.blk t).view.emb y 2 : ℕ) = (y 2 : ℕ) := by
    blk_simp [hi]
  unfold prodArr
  generalize (win0_5.blk t).view.emb y = z at e0 e1 e2
  have hz : y 2 = z 2 := Fin.ext e2.symm
  refine (prod_block _ _ _ y).trans ?_
  rw [← hz]
  exact congrArg₂ (· * ·) (proj_point m c t (y 1) (z 0) (z 1) e0 e1 _) (proj_point m c t (y 1) (z 0) (z 1) e0 e1 _)

/-- The gates. -/
theorem gate_eq (c : Dev nD) : (dats m 0 c).arrAt 6 cfg0.N = gateArr (m ((c : Thread nD τ).loc main_arg0)) (m ((c : Thread nD τ).loc main_arg1)) := by
  refine (dats m 0 c).arrAt_eq_of_covers 6 _ (by decide +kernel) fun t hf y => ?_
  blk_simp
  rw [after0_6]
  have hi := (idx t).2.2.2.2.2.2
  have y0 : (y 0 : ℕ) < 1 := (y 0).isLt
  have y1 : (y 1 : ℕ) < 512 := (y 1).isLt
  have y2 : (y 2 : ℕ) < 1024 := (y 2).isLt
  have e0 : ((win0_6.blk t).view.emb y 0 : ℕ) = t.val / 32 := by
    blk_simp [hi]
  have e1 : ((win0_6.blk t).view.emb y 1 : ℕ) = t.val % 32 * 512 + (y 1 : ℕ) := by
    blk_simp [hi]
  have e2 : ((win0_6.blk t).view.emb y 2 : ℕ) = (y 2 : ℕ) := by
    blk_simp [hi]
  unfold gateArr
  generalize (win0_6.blk t).view.emb y = z at e0 e1 e2
  have hz : y 2 = z 2 := Fin.ext e2.symm
  refine (gate_block _ _ _ y).trans ?_
  rw [← hz]
  exact proj_point m c t (y 1) (z 0) (z 1) e0 e1 _

end Cert.InOddIdeal.Proj
-- ==== Proof.InOdd.Equation.lean ====
module

public import proofs.«01_k».proof.Proof.InOdd.Array
public import proofs.«01_k».proof.Proof.Gen.InOddReferenceIdeal.Read
public import Idealize.ShloMosaic.Lib.KernelVsHost

@[expose] public section

set_option maxRecDepth 16384
set_option maxHeartbeats 2000000

noncomputable section

namespace Cert.InOddEq

open Cert.InOddReferenceIdeal Cert.InOddReferenceIdeal.Gen Cert.InOddReferenceIdeal.Read Cert.InOddIdeal.Proj
open Idealize.ShloMosaic Idealize.ShloMosaic.TcCoe Idealize.ShloMosaic.Tactic Idealize.SL.Sem

variable (h : S2x16384x2048.Idx → EReal) (w : S1x2048x4096.Idx → EReal) (cs : Cert.InOddIdeal.S256x512.Idx → EReal)

/-- The projection. -/
theorem product_at (b : Fin 2) (n : Fin 16384) (e : Fin 4096) : val_main_v1 (F := Ideal) h w (ix3 b n e) = projAt h w b n e := by
  rw [val_main_v1_apply]
  unfold projAt proj
  refine Finset.sum_congr rfl fun k _ => ?_
  rw [val_main_v0_apply]
  have he : (e : ℕ) < 4096 := e.isLt
  have hk : (k : ℕ) < 2048 := k.isLt
  refine congrArg₂ (· * ·) (congrArg h ?_) (congrArg w ?_)
  · funext d
    match d with
    | ⟨0, _⟩ => rfl
    | ⟨1, _⟩ => rfl
    | ⟨2, _⟩ => rfl
  · funext d
    refine Fin.ext ?_
    match d with
    | ⟨0, _⟩ => rfl
    | ⟨1, _⟩ => show ((k : ℕ) * 4096 + e) / 4096 % 2048 = k; omega
    | ⟨2, _⟩ => show ((k : ℕ) * 4096 + e) % 4096 = e; omega

/-- The first part's channels in groups. -/
theorem group_at (b : Fin 2) (n : Fin 16384) (g : Fin 4) (q : Fin 256) (i : S2x16384x4x256.Idx) (h0 : (i 0 : ℕ) = b) (h1 : (i 1 : ℕ) = n) (h2 : (i 2 : ℕ) = g) (h3 : (i 3 : ℕ) = q) :
    val_main_v6 (F := Ideal) h w i = projAt h w b n ⟨(g : ℕ) * 256 + q, by have := g.isLt; have := q.isLt; omega⟩ := by
  have hb : (b : ℕ) < 2 := b.isLt
  have hn : (n : ℕ) < 16384 := n.isLt
  have hg : (g : ℕ) < 4 := g.isLt
  have hq : (q : ℕ) < 256 := q.isLt
  rw [val_main_v6_apply, val_main_v2_apply]
  refine (congrArg (val_main_v1 (F := Ideal) h w) (funext fun d => Fin.ext ?_)).trans (product_at h w b n (⟨(g : ℕ) * 256 + q, by omega⟩ : Fin 4096))
  match d with
  | ⟨0, _⟩ => show ((((i 0 : ℕ) * 16384 + (i 1 : ℕ)) * 4 + (i 2 : ℕ)) * 256 + (i 3 : ℕ)) / 16777216 = (b : ℕ); rw [h0, h1, h2, h3]; omega
  | ⟨1, _⟩ => show ((((i 0 : ℕ) * 16384 + (i 1 : ℕ)) * 4 + (i 2 : ℕ)) * 256 + (i 3 : ℕ)) / 1024 % 16384 = (n : ℕ); rw [h0, h1, h2, h3]; omega
  | ⟨2, _⟩ => show ((((i 0 : ℕ) * 16384 + (i 1 : ℕ)) * 4 + (i 2 : ℕ)) * 256 + (i 3 : ℕ)) % 1024 = (g : ℕ) * 256 + q; rw [h0, h1, h2, h3]; omega

/-- The projection's columns from `o` on. -/
theorem cols_at (b : Fin 2) (n : Fin 16384) (E : Fin 4096) (i : S2x16384x4096.Idx) (h0 : (i 0 : ℕ) = b) (h1 : (i 1 : ℕ) = n) (h2 : (i 2 : ℕ) = E) :
    val_main_v1 (F := Ideal) h w i = projAt h w b n E := by
  refine (congrArg (val_main_v1 (F := Ideal) h w) (funext fun d => Fin.ext ?_)).trans (product_at h w b n E)
  match d with
  | ⟨0, _⟩ => exact h0
  | ⟨1, _⟩ => exact h1
  | ⟨2, _⟩ => exact h2

/-- The gates. -/
theorem gate_arr : gateArr h w = val_main_v3 (F := Ideal) h w := by
  funext y
  rw [val_main_v3_apply]
  exact (cols_at h w (y 0) (y 1) ⟨1024 + (y 2 : ℕ), by have : (y 2 : ℕ) < 1024 := (y 2).isLt; omega⟩ (idx_main_v3 y) rfl rfl rfl).symm

/-- The products. -/
theorem prod_arr : prodArr h w = val_main_v26 (F := Ideal) h w := by
  funext y
  have y2 : (y 2 : ℕ) < 1024 := (y 2).isLt
  rw [val_main_v26_apply, val_main_v4_apply, val_main_v5_apply]
  exact (congrArg₂ (· * ·) (cols_at h w (y 0) (y 1) ⟨2048 + (y 2 : ℕ), by omega⟩ (idx_main_v4 y) rfl rfl rfl) (cols_at h w (y 0) (y 1) ⟨3072 + (y 2 : ℕ), by omega⟩ (idx_main_v5 y) rfl rfl rfl)).symm

/-- The first transforms, where the table's first columns are the cosines. -/
theorem real_arr (ht : ∀ (q : Fin 256) (e : Fin 512) (j : Fin 256), (e : ℕ) = (j : ℕ) → cs (ix2 q e) = val_main_v17 (F := Ideal) (ix2 q j)) : realArr h w cs = val_main_v24 (F := Ideal) h w := by
  funext y
  have y0 : (y 0 : ℕ) < 2 := (y 0).isLt
  have y1 : (y 1 : ℕ) < 16384 := (y 1).isLt
  have y2 : (y 2 : ℕ) < 1024 := (y 2).isLt
  rw [val_main_v24_apply, val_main_v19_apply, val_main_v18_apply]
  show chanAt h w cs (y 0) (y 1) ⟨(y 2 : ℕ) / 256, _⟩ ⟨(y 2 : ℕ) % 256, _⟩ = ∑ k : Fin 256, _
  unfold chanAt chan
  refine Finset.sum_congr rfl fun k _ => ?_
  have hk : (k : ℕ) < 256 := k.isLt
  refine congrArg₂ (· * ·) (group_at h w (y 0) (y 1) ⟨(y 2 : ℕ) / 256, by omega⟩ k (lidx_main_v18 (idx_main_v19 y) k) ?_ ?_ ?_ rfl).symm
    ((ht k _ ⟨(y 2 : ℕ) % 256, by omega⟩ rfl).trans (congrArg (val_main_v17 (F := Ideal)) (funext fun d => Fin.ext ?_)))
  · show (((y 0 : ℕ) * 16384 + (y 1 : ℕ)) * 1024 + (y 2 : ℕ)) / 16777216 = (y 0 : ℕ); omega
  · show (((y 0 : ℕ) * 16384 + (y 1 : ℕ)) * 1024 + (y 2 : ℕ)) / 1024 % 16384 = (y 1 : ℕ); omega
  · show (((y 0 : ℕ) * 16384 + (y 1 : ℕ)) * 1024 + (y 2 : ℕ)) / 256 % 4 = (y 2 : ℕ) / 256; omega
  · match d with
    | ⟨0, _⟩ => rfl
    | ⟨1, _⟩ => show (y 2 : ℕ) % 256 = (((y 0 : ℕ) * 16384 + (y 1 : ℕ)) * 1024 + (y 2 : ℕ)) % 256; omega

/-- The second, where its others are the sines with their sign changed. -/
theorem imag_arr (ht : ∀ (q : Fin 256) (e : Fin 512) (j : Fin 256), (e : ℕ) = 256 + (j : ℕ) → cs (ix2 q e) = val_main_v21 (F := Ideal) (ix2 q j)) : imagArr h w cs = val_main_v25 (F := Ideal) h w := by
  funext y
  have y0 : (y 0 : ℕ) < 2 := (y 0).isLt
  have y1 : (y 1 : ℕ) < 16384 := (y 1).isLt
  have y2 : (y 2 : ℕ) < 1024 := (y 2).isLt
  rw [val_main_v25_apply, val_main_v23_apply, val_main_v22_apply]
  show chanAt h w cs (y 0) (y 1) ⟨(y 2 : ℕ) / 256, _⟩ ⟨256 + (y 2 : ℕ) % 256, _⟩ = ∑ k : Fin 256, _
  unfold chanAt chan
  refine Finset.sum_congr rfl fun k _ => ?_
  have hk : (k : ℕ) < 256 := k.isLt
  refine congrArg₂ (· * ·) (group_at h w (y 0) (y 1) ⟨(y 2 : ℕ) / 256, by omega⟩ k (lidx_main_v22 (idx_main_v23 y) k) ?_ ?_ ?_ rfl).symm
    ((ht k _ ⟨(y 2 : ℕ) % 256, by omega⟩ rfl).trans (congrArg (val_main_v21 (F := Ideal)) (funext fun d => Fin.ext ?_)))
  · show (((y 0 : ℕ) * 16384 + (y 1 : ℕ)) * 1024 + (y 2 : ℕ)) / 16777216 = (y 0 : ℕ); omega
  · show (((y 0 : ℕ) * 16384 + (y 1 : ℕ)) * 1024 + (y 2 : ℕ)) / 1024 % 16384 = (y 1 : ℕ); omega
  · show (((y 0 : ℕ) * 16384 + (y 1 : ℕ)) * 1024 + (y 2 : ℕ)) / 256 % 4 = (y 2 : ℕ) / 256; omega
  · match d with
    | ⟨0, _⟩ => rfl
    | ⟨1, _⟩ => show (y 2 : ℕ) % 256 = (((y 0 : ℕ) * 16384 + (y 1 : ℕ)) * 1024 + (y 2 : ℕ)) % 256; omega

end Cert.InOddEq
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Kern.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.ReferenceIdeal
public import proofs.«01_k».proof.Proof.Gen.Pre_finite
public import proofs.«01_k».proof.Proof.Attn.Array
public import proofs.«01_k».proof.Proof.Attn.Equation
public import proofs.«01_k».proof.Proof.Attn.Finite
public import proofs.«01_k».proof.Proof.Up.Frame
public import proofs.«01_k».proof.Proof.Up.Array
public import proofs.«01_k».proof.Proof.Up.Equation
public import proofs.«01_k».proof.Proof.Down.Frame
public import proofs.«01_k».proof.Proof.Down.Array
public import proofs.«01_k».proof.Proof.Down.Equation
public import proofs.«01_k».proof.Proof.Mid.Frame
public import proofs.«01_k».proof.Proof.Mid.Array
public import proofs.«01_k».proof.Proof.Mid.Equation
public import proofs.«01_k».proof.Proof.Odd.Frame
public import proofs.«01_k».proof.Proof.Odd.Array
public import proofs.«01_k».proof.Proof.Odd.Equation
public import proofs.«01_k».proof.Proof.InOdd.Frame
public import proofs.«01_k».proof.Proof.InOdd.Array
public import proofs.«01_k».proof.Proof.InOdd.Equation
public import proofs.«01_k».proof.Proof.Gen.ReferenceIdeal.Run
public import proofs.«01_k».proof.Proof.Gen.ReferenceIdeal.Read
public import proofs.«01_k».proof.Proof.Gen.Up
public import proofs.«01_k».proof.Proof.Gen.Down
public import proofs.«01_k».proof.Proof.Gen.UpIdeal
public import proofs.«01_k».proof.Proof.Gen.UpIdeal.Frame
public import proofs.«01_k».proof.Proof.Gen.UpIdeal.Value
public import proofs.«01_k».proof.Proof.Gen.DownIdeal
public import proofs.«01_k».proof.Proof.Gen.DownIdeal.Frame
public import proofs.«01_k».proof.Proof.Gen.DownIdeal.Value
public import proofs.«01_k».proof.Proof.Gen.UpReferenceIdeal
public import proofs.«01_k».proof.Proof.Gen.UpReferenceIdeal.Run
public import proofs.«01_k».proof.Proof.Gen.UpReferenceIdeal.Read
public import proofs.«01_k».proof.Proof.Gen.DownReferenceIdeal
public import proofs.«01_k».proof.Proof.Gen.DownReferenceIdeal.Run
public import proofs.«01_k».proof.Proof.Gen.DownReferenceIdeal.Read
public import proofs.«01_k».proof.Proof.Gen.Mid
public import proofs.«01_k».proof.Proof.Gen.Odd
public import proofs.«01_k».proof.Proof.Gen.InOdd
public import proofs.«01_k».proof.Proof.Gen.MidIdeal
public import proofs.«01_k».proof.Proof.Gen.OddIdeal
public import proofs.«01_k».proof.Proof.Gen.InOddIdeal
public import proofs.«01_k».proof.Proof.Gen.MidIdeal.Frame
public import proofs.«01_k».proof.Proof.Gen.OddIdeal.Frame
public import proofs.«01_k».proof.Proof.Gen.InOddIdeal.Frame
public import proofs.«01_k».proof.Proof.Gen.MidIdeal.Value
public import proofs.«01_k».proof.Proof.Gen.OddIdeal.Value
public import proofs.«01_k».proof.Proof.Gen.InOddIdeal.Value
public import proofs.«01_k».proof.Proof.Gen.MidReferenceIdeal
public import proofs.«01_k».proof.Proof.Gen.OddReferenceIdeal
public import proofs.«01_k».proof.Proof.Gen.InOddReferenceIdeal
public import proofs.«01_k».proof.Proof.Gen.MidReferenceIdeal.Run
public import proofs.«01_k».proof.Proof.Gen.OddReferenceIdeal.Run
public import proofs.«01_k».proof.Proof.Gen.InOddReferenceIdeal.Run
public import proofs.«01_k».proof.Proof.Gen.MidReferenceIdeal.Read
public import proofs.«01_k».proof.Proof.Gen.OddReferenceIdeal.Read
public import proofs.«01_k».proof.Proof.Gen.InOddReferenceIdeal.Read
public import Idealize.ShloMosaic.Lib.Claim
public import Idealize.ShloMosaic.Lib.Quiescent
public import Idealize.ShloMosaic.Adequacy
public import Idealize.ShloMosaic.Init

@[expose] public section

noncomputable section

namespace Cert.Proof

open Idealize.ShloMosaic Idealize.SL.Sem Cert.Kernel

set_option maxRecDepth 16384
set_option maxHeartbeats 2000000

/-- The reference's frame, from every memory. -/
theorem reference_frame : Cert.quiescent_ReferenceIdeal := by
  intro m g _
  exact (θ_run _ _ _).mono (fun r h => ⟨fun c => (h c).2, sem_eq_zero_of_no_sems (by decide) r.2⟩) (Cert.ReferenceIdeal.Value.run m g)

/-- The kernel's program and the reference end with equal results. -/
theorem algebraic : Cert.algebraic_KernelIdeal_ReferenceIdeal_pre_finite := by
  intro m g m' g' hpre hagree
  refine ⟨fun c => (Cert.KernelIdeal.Attn.dats m 0 c).arrAt 5 _, Cert.KernelIdeal.Attn.run_blocks m g, ?_⟩
  refine (θ_run _ _ _).mono (fun r h c => ⟨(h c).1.trans ?_, (h c).2⟩) (Cert.ReferenceIdeal.Value.run m' g')
  obtain ⟨hq, hk, hkc⟩ := Cert.Pre_finite.Attn.real_of_finite _ _ _ _ _ (hpre c)
  obtain ⟨a0, a1, a2, a3, a4⟩ := hagree c
  refine (Cert.ReferenceIdeal.Read.val_main_v22_eq m' c).trans ?_
  rw [a0, a1, a2, a3, a4]
  exact ((Cert.KernelIdeal.Attn.out_eq m c).trans (Cert.AttnEq.arr_eq _ _ _ _ _ hq hk hkc)).symm

/-- The frame of the feed-forward part's second reference, from every memory. -/
theorem up_reference_frame : Cert.quiescent_UpReferenceIdeal := by
  intro m g _
  exact (θ_run _ _ _).mono (fun r h => ⟨fun c => (h c).2, sem_eq_zero_of_no_sems (by decide) r.2⟩) (Cert.UpReferenceIdeal.Value.run m g)

/-- The frame of the last call's reference, from every memory. -/
theorem down_reference_frame : Cert.quiescent_DownReferenceIdeal := by
  intro m g _
  exact (θ_run _ _ _).mono (fun r h => ⟨fun c => (h c).2, sem_eq_zero_of_no_sems (by decide) r.2⟩) (Cert.DownReferenceIdeal.Value.run m g)

/-- The gated products of the kernel and of its reference are equal. -/
theorem up_algebraic : Cert.algebraic_UpIdeal_UpReferenceIdeal := by
  intro m g m' g' _ hagree
  refine ⟨fun c => (Cert.UpIdeal.Gen.dats m 0 c).arrAt 3 _, Cert.UpIdeal.Value.run_blocks m g, ?_⟩
  refine (θ_run _ _ _).mono (fun r h c => ⟨(h c).1.trans ?_, (h c).2⟩) (Cert.UpReferenceIdeal.Value.run m' g')
  obtain ⟨a0, a1, a2⟩ := hagree c
  refine (Cert.UpReferenceIdeal.Read.val_main_v9_eq _ _ _).trans ?_
  rw [a0, a1, a2]
  exact ((Cert.UpIdeal.Ffn.out_eq m c).trans (Cert.UpEq.arr_eq _ _ _)).symm

/-- The last call of the kernel and its reference end with equal results. -/
theorem down_algebraic : Cert.algebraic_DownIdeal_DownReferenceIdeal := by
  intro m g m' g' _ hagree
  refine ⟨fun c => (Cert.DownIdeal.Gen.dats m 0 c).arrAt 7 _, Cert.DownIdeal.Value.run_blocks m g, ?_⟩
  refine (θ_run _ _ _).mono (fun r h c => ⟨(h c).1.trans ?_, (h c).2⟩) (Cert.DownReferenceIdeal.Value.run m' g')
  obtain ⟨a0, a1, a2, a3, a4⟩ := hagree c
  refine (Cert.DownReferenceIdeal.Read.val_main_v18_eq _ _ _ _ _).trans ?_
  rw [a0, a1, a2, a3, a4]
  exact ((Cert.DownIdeal.Ffn.out_eq m c).trans (Cert.DownEq.arr_eq _ _ _ _ _)).symm

/-- The frame of the reference of the first layer's down call, from every memory. -/
theorem mid_reference_frame : Cert.quiescent_MidReferenceIdeal := by
  intro m g _
  exact (θ_run _ _ _).mono (fun r h => ⟨fun c => (h c).2.2, sem_eq_zero_of_no_sems (by decide) r.2⟩) (Cert.MidReferenceIdeal.Value.run m g)

/-- Both results of the first layer's down call and of its reference are equal. -/
theorem mid_algebraic : Cert.algebraic_MidIdeal_MidReferenceIdeal := by
  intro m g m' g' _ hagree
  refine ⟨fun c => (Cert.MidIdeal.Gen.dats m 0 c).arrAt 7 _, fun c => (Cert.MidIdeal.Gen.dats m 0 c).arrAt 8 _, Cert.MidIdeal.Value.run_blocks m g, ?_⟩
  refine (θ_run _ _ _).mono (fun r h c => ⟨(h c).1.trans ?_, (h c).2.1.trans ?_, (h c).2.2⟩) (Cert.MidReferenceIdeal.Value.run m' g')
  · obtain ⟨a0, a1, a2, a3, a4, a5, a6⟩ := hagree c
    refine (Cert.MidReferenceIdeal.Read.val_main_v5_eq _ _ _ _).trans ?_
    rw [a0, a1, a2, a3]
    exact ((Cert.MidIdeal.Ffn.stream_eq m c).trans (Cert.MidEq.stream_arr _ _ _ _)).symm
  · obtain ⟨a0, a1, a2, a3, a4, a5, a6⟩ := hagree c
    refine (Cert.MidReferenceIdeal.Read.val_main_v27_eq _ _ _ _ _ _ _).trans ?_
    rw [a0, a1, a2, a3, a4, a5, a6]
    exact ((Cert.MidIdeal.Ffn.norm_eq m c).trans (Cert.MidEq.norm_arr _ _ _ _ _ _ _)).symm

/-- The frame of the reference of the odd layer's output projection, from every memory. -/
theorem odd_reference_frame : Cert.quiescent_OddReferenceIdeal := by
  intro m g _
  exact (θ_run _ _ _).mono (fun r h => ⟨fun c => (h c).2.2, sem_eq_zero_of_no_sems (by decide) r.2⟩) (Cert.OddReferenceIdeal.Value.run m g)

/-- Both results of the odd layer's output projection and of its reference are equal. -/
theorem odd_algebraic : Cert.algebraic_OddIdeal_OddReferenceIdeal := by
  intro m g m' g' _ hagree
  refine ⟨fun c => (Cert.OddIdeal.Gen.dats m 0 c).arrAt 12 _, fun c => (Cert.OddIdeal.Gen.dats m 0 c).arrAt 13 _, Cert.OddIdeal.Value.run_blocks m g, ?_⟩
  refine (θ_run _ _ _).mono (fun r h c => ⟨(h c).1.trans ?_, (h c).2.1.trans ?_, (h c).2.2⟩) (Cert.OddReferenceIdeal.Value.run m' g')
  · obtain ⟨a0, a1, a2, a3, a4, a5, a6, a7, a8, a9, a10⟩ := hagree c
    refine (Cert.OddReferenceIdeal.Read.val_main_v30_eq _ _ _ _ _ _ _ _).trans ?_
    rw [a0, a1, a2, a3, a4, a5, a6, a7]
    exact ((Cert.OddIdeal.Conv.stream_eq m c).trans (Cert.OddEq.stream_arr _ _ _ _ _ _ _ _)).symm
  · obtain ⟨a0, a1, a2, a3, a4, a5, a6, a7, a8, a9, a10⟩ := hagree c
    refine (Cert.OddReferenceIdeal.Read.val_main_v52_eq m' c).trans ?_
    rw [a0, a1, a2, a3, a4, a5, a6, a7, a8, a9, a10]
    exact ((Cert.OddIdeal.Conv.norm_eq m c).trans (Cert.OddEq.norm_arr _ _ _ _ _ _ _ _ _ _ _)).symm

/-- The frame of the reference of the odd layer's input projection, from every memory. -/
theorem in_odd_reference_frame : Cert.quiescent_InOddReferenceIdeal := by
  intro m g _
  exact (θ_run _ _ _).mono (fun r h => ⟨fun c => (h c).2.2.2.2, sem_eq_zero_of_no_sems (by decide) r.2⟩) (Cert.InOddReferenceIdeal.Value.run m g)

/-- The four results of the odd layer's input projection and of its reference are equal. -/
theorem in_odd_algebraic : Cert.algebraic_InOddIdeal_InOddReferenceIdeal := by
  intro m g m' g' _ hagree
  refine ⟨fun c => (Cert.InOddIdeal.Gen.dats m 0 c).arrAt 3 _, fun c => (Cert.InOddIdeal.Gen.dats m 0 c).arrAt 4 _, fun c => (Cert.InOddIdeal.Gen.dats m 0 c).arrAt 5 _,
    fun c => (Cert.InOddIdeal.Gen.dats m 0 c).arrAt 6 _, Cert.InOddIdeal.Value.run_blocks m g, ?_⟩
  refine (θ_run _ _ _).mono (fun r h c => ⟨(h c).1.trans ?_, (h c).2.1.trans ?_, (h c).2.2.1.trans ?_, (h c).2.2.2.1.trans ?_, (h c).2.2.2.2⟩) (Cert.InOddReferenceIdeal.Value.run m' g')
  · obtain ⟨a0, a1⟩ := hagree c
    refine (Cert.InOddReferenceIdeal.Read.val_main_v24_eq _ _).trans ?_
    rw [a0, a1]
    exact ((Cert.InOddIdeal.Proj.real_eq m c).trans (Cert.InOddEq.real_arr _ _ _ (Cert.InOddIdeal.Proj.table_left m c))).symm
  · obtain ⟨a0, a1⟩ := hagree c
    refine (Cert.InOddReferenceIdeal.Read.val_main_v25_eq _ _).trans ?_
    rw [a0, a1]
    exact ((Cert.InOddIdeal.Proj.imag_eq m c).trans (Cert.InOddEq.imag_arr _ _ _ (Cert.InOddIdeal.Proj.table_right m c))).symm
  · obtain ⟨a0, a1⟩ := hagree c
    refine (Cert.InOddReferenceIdeal.Read.val_main_v26_eq _ _).trans ?_
    rw [a0, a1]
    exact ((Cert.InOddIdeal.Proj.prod_eq m c).trans (Cert.InOddEq.prod_arr _ _)).symm
  · obtain ⟨a0, a1⟩ := hagree c
    refine (Cert.InOddReferenceIdeal.Read.val_main_v3_eq _ _).trans ?_
    rw [a0, a1]
    exact ((Cert.InOddIdeal.Proj.gate_eq m c).trans (Cert.InOddEq.gate_arr _ _)).symm

theorem claim : Cert.Claim :=
  ⟨Cert.Kernel.Gen.facts, Cert.KernelIdeal.Gen.facts, Cert.ReferenceIdeal.Gen.facts,
    Cert.Up.Gen.facts, Cert.UpIdeal.Gen.facts, Cert.UpReferenceIdeal.Gen.facts,
    Cert.Down.Gen.facts, Cert.DownIdeal.Gen.facts, Cert.DownReferenceIdeal.Gen.facts,
    Cert.Mid.Gen.facts, Cert.MidIdeal.Gen.facts, Cert.MidReferenceIdeal.Gen.facts,
    Cert.Odd.Gen.facts, Cert.OddIdeal.Gen.facts, Cert.OddReferenceIdeal.Gen.facts,
    Cert.InOdd.Gen.facts, Cert.InOddIdeal.Gen.facts, Cert.InOddReferenceIdeal.Gen.facts, Cert.Pre_finite.Gen.facts,
    fun m g _ => Cert.Kernel.Attn.frame m g,
    fun m g _ => Cert.KernelIdeal.Attn.frame m g,
    fun m g _ => Cert.KernelIdeal.Attn.frame m g,
    reference_frame,
    fun m g _ => reference_frame m g trivial,
    Cert.Up.Ffn.frame,
    fun m g _ => Cert.UpIdeal.Gen.frame m g,
    up_reference_frame,
    Cert.Down.Ffn.frame,
    fun m g _ => Cert.DownIdeal.Gen.frame m g,
    down_reference_frame,
    Cert.Mid.Ffn.frame,
    fun m g _ => Cert.MidIdeal.Gen.frame m g,
    mid_reference_frame,
    Cert.Odd.Conv.frame,
    fun m g _ => Cert.OddIdeal.Gen.frame m g,
    odd_reference_frame,
    Cert.InOdd.Proj.frame,
    fun m g _ => Cert.InOddIdeal.Gen.frame m g,
    in_odd_reference_frame,
    IdealRules.named_const.statement Cert.KernelIdeal.κ "qk_scale_log2" .f32 0x3E0293EE#32 (((Real.sqrt 128)⁻¹ * (Real.log 2)⁻¹ : ℝ) : EReal) rfl,
    algebraic,
    trivial,
    up_algebraic,
    trivial,
    down_algebraic,
    trivial,
    mid_algebraic,
    trivial,
    odd_algebraic,
    trivial,
    in_odd_algebraic⟩

end Cert.Proof

end
